-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "q_scale" .f32 0x3E38AA3B#32 (((1 / 8) * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v41_0)) (v1 : (c : Dev Cert.Kernel3Ideal.nD) → Buf (Elt Ideal) ((c.tc : Thread Cert.Kernel3Ideal.nD Cert.Kernel3Ideal.τ).loc Cert.Kernel3Ideal.main_v41_1)) (v2 : (c : Dev Cert.Kernel3Ideal.nD) → Buf (Elt Ideal) ((c.tc : Thread Cert.Kernel3Ideal.nD Cert.Kernel3Ideal.τ).loc Cert.Kernel3Ideal.main_v41_2)) (v3 : (c : Dev Cert.Kernel3Ideal.nD) → Buf (Elt Ideal) ((c.tc : Thread Cert.Kernel3Ideal.nD Cert.Kernel3Ideal.τ).loc Cert.Kernel3Ideal.main_v41_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v41_0) = v0 c
          ∧ r.2.mem ((c.tc : Thread Cert.Kernel3Ideal.nD Cert.Kernel3Ideal.τ).loc Cert.Kernel3Ideal.main_v41_1) = v1 c
          ∧ r.2.mem ((c.tc : Thread Cert.Kernel3Ideal.nD Cert.Kernel3Ideal.τ).loc Cert.Kernel3Ideal.main_v41_2) = v2 c
          ∧ r.2.mem ((c.tc : Thread Cert.Kernel3Ideal.nD Cert.Kernel3Ideal.τ).loc Cert.Kernel3Ideal.main_v41_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v172) = v0 c
          ∧ r.2.mem ((c.tc : Thread Cert.Reference3Ideal.nD Cert.Reference3Ideal.τ).loc Cert.Reference3Ideal.main_v173) = v1 c
          ∧ r.2.mem ((c.tc : Thread Cert.Reference3Ideal.nD Cert.Reference3Ideal.τ).loc Cert.Reference3Ideal.main_v174) = v2 c
          ∧ r.2.mem ((c.tc : Thread Cert.Reference3Ideal.nD Cert.Reference3Ideal.τ).loc Cert.Reference3Ideal.main_v175) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16x2048x512 : Shape := ⟨3, ![16, 2048, 512]⟩
abbrev S16x256x512 : Shape := ⟨3, ![16, 256, 512]⟩
abbrev S8x8x64x512 : Shape := ⟨4, ![8, 8, 64, 512]⟩
abbrev S_ : Shape := ⟨0, ![]⟩

class Facts : Prop where
  bcast_S_S16x2048x512 : S_.BroadcastsInDim S16x2048x512 (![] : Fin 0 → Fin S16x2048x512.rank)
  bcast_S_S16x256x512 : S_.BroadcastsInDim S16x256x512 (![] : Fin 0 → Fin S16x256x512.rank)
  bcast_S_S8x8x64x512 : S_.BroadcastsInDim S8x8x64x512 (![] : Fin 0 → Fin S8x8x64x512.rank)

variable [Facts]

def fn {F : FTy → Type} [FloatOps F] (main_arg0 : FVec F S16x2048x512 .f32) (main_arg1 : FVec F S16x2048x512 .f32) (main_arg2 : FVec F S16x2048x512 .f32) (main_arg3 : FVec F S16x256x512 .f32) (main_arg4 : FVec F S16x256x512 .f32) (main_arg5 : FVec F S8x8x64x512 .f32) : IVec S16x2048x512 1 × IVec S16x2048x512 1 × IVec S16x256x512 1 × IVec S8x8x64x512 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_v3 : FVec F S16x2048x512 .f32 := Host.absf main_arg1
  let main_cst_0 : FVec F S_ .f32 := constant S_ .f32 0x7F800000#32
  let main_v4 : FVec F S16x2048x512 .f32 := broadcastInDim S16x2048x512 ![] bcast_S_S16x2048x512 main_cst_0
  let main_v5 : IVec S16x2048x512 1 := cmpf .olt main_v3 main_v4
  let main_v6 : FVec F S16x256x512 .f32 := Host.absf main_arg3
  let main_cst_1 : FVec F S_ .f32 := constant S_ .f32 0x7F800000#32
  let main_v7 : FVec F S16x256x512 .f32 := broadcastInDim S16x256x512 ![] bcast_S_S16x256x512 main_cst_1
  let main_v8 : IVec S16x256x512 1 := cmpf .olt main_v6 main_v7
  let main_cst_2 : FVec F S_ .f32 := constant S_ .f32 0x7F800000#32
  let main_v9 : FVec F S8x8x64x512 .f32 := broadcastInDim S8x8x64x512 ![] bcast_S_S8x8x64x512 main_cst_2
  let main_v10 : IVec S8x8x64x512 1 := cmpf .olt main_arg5 main_v9
  (main_v2, main_v5, main_v8, main_v10)
-- ==== Kernel.lean ====
abbrev S16x2048x512 : Shape := ⟨3, ![16, 2048, 512]⟩
abbrev S16x256x512 : Shape := ⟨3, ![16, 256, 512]⟩
abbrev S8x8x64x512 : Shape := ⟨4, ![8, 8, 64, 512]⟩
abbrev S_ : Shape := ⟨0, ![]⟩
abbrev S32768x2048 : Shape := ⟨2, ![32768, 2048]⟩
abbrev S32768x512 : Shape := ⟨2, ![32768, 512]⟩
abbrev S32768x3584 : Shape := ⟨2, ![32768, 3584]⟩
abbrev S4096x1024 : Shape := ⟨2, ![4096, 1024]⟩
abbrev S4096x512 : Shape := ⟨2, ![4096, 512]⟩
abbrev S4096x2048 : Shape := ⟨2, ![4096, 2048]⟩
abbrev S2048x256 : Shape := ⟨2, ![2048, 256]⟩
abbrev S256x256 : Shape := ⟨2, ![256, 256]⟩
abbrev S4x8x64x512 : Shape := ⟨4, ![4, 8, 64, 512]⟩
abbrev S1x128 : Shape := ⟨2, ![1, 128]⟩
abbrev S64x128 : Shape := ⟨2, ![64, 128]⟩
abbrev S128x128 : Shape := ⟨2, ![128, 128]⟩
abbrev S1x1x64x512 : Shape := ⟨4, ![1, 1, 64, 512]⟩
abbrev S64x512 : Shape := ⟨2, ![64, 512]⟩
abbrev S128x512 : Shape := ⟨2, ![128, 512]⟩
abbrev S512x128 : Shape := ⟨2, ![512, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 30
  | .vmem => 14
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x256x512, .f32⟩
  | .hbm, ⟨4, _⟩ => ⟨S16x256x512, .f32⟩
  | .hbm, ⟨5, _⟩ => ⟨S8x8x64x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x2048, .f32⟩
  | .hbm, ⟨12, _⟩ => ⟨S32768x512, .f32⟩
  | .hbm, ⟨13, _⟩ => ⟨S_, .f32⟩
  | .hbm, ⟨14, _⟩ => ⟨S_, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x3584, .f32⟩
  | .hbm, ⟨20, _⟩ => ⟨S32768x3584, .bf16⟩
  | .hbm, ⟨21, _⟩ => ⟨S_, .f32⟩
  | .hbm, ⟨22, _⟩ => ⟨S4096x1024, .f32⟩
  | .hbm, ⟨23, _⟩ => ⟨S4096x512, .f32⟩
  | .hbm, ⟨24, _⟩ => ⟨S4096x512, .f32⟩
  | .hbm, ⟨25, _⟩ => ⟨S4096x2048, .f32⟩
  | .hbm, ⟨26, _⟩ => ⟨S4096x2048, .bf16⟩
  | .hbm, ⟨27, _⟩ => ⟨S8x8x64x512, .f32⟩
  | .hbm, ⟨28, _⟩ => ⟨S8x8x64x512, .f32⟩
  | .hbm, ⟨29, _⟩ => ⟨S32768x512, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S4x8x64x512, .f32⟩
  | .local _ .vmem, ⟨11, _⟩ => ⟨S4x8x64x512, .f32⟩
  | .local _ .vmem, ⟨12, _⟩ => ⟨S2048x256, .bf16⟩
  | .local _ .vmem, ⟨13, _⟩ => ⟨S2048x256, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2048x512 : Shape := ⟨3, ![16, 2048, 512]⟩
abbrev S16x256x512 : Shape := ⟨3, ![16, 256, 512]⟩
abbrev S8x8x64x512 : Shape := ⟨4, ![8, 8, 64, 512]⟩
abbrev S16x32x64x8x64 : Shape := ⟨5, ![16, 32, 64, 8, 64]⟩
abbrev S16x8x32x64x64 : Shape := ⟨5, ![16, 8, 32, 64, 64]⟩
abbrev S_ : Shape := ⟨0, ![]⟩
abbrev S16x256x8x64 : Shape := ⟨4, ![16, 256, 8, 64]⟩
abbrev S16x8x256x64 : Shape := ⟨4, ![16, 8, 256, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S16x8x32x8x64x64 : Shape := ⟨6, ![16, 8, 32, 8, 64, 64]⟩
abbrev S16x8x32x512x64 : Shape := ⟨5, ![16, 8, 32, 512, 64]⟩
abbrev S16x8x32x64x512 : Shape := ⟨5, ![16, 8, 32, 64, 512]⟩
abbrev S8x32x64x512 : Shape := ⟨4, ![8, 32, 64, 512]⟩
abbrev S1x8x32x64x512 : Shape := ⟨5, ![1, 8, 32, 64, 512]⟩
abbrev S16x8x32x64x256 : Shape := ⟨5, ![16, 8, 32, 64, 256]⟩
abbrev S16x8x32x64x768 : Shape := ⟨5, ![16, 8, 32, 64, 768]⟩
abbrev S16x8x32x64 : Shape := ⟨4, ![16, 8, 32, 64]⟩
abbrev S16x8x32x64x1 : Shape := ⟨5, ![16, 8, 32, 64, 1]⟩
abbrev S32768x512 : Shape := ⟨2, ![32768, 512]⟩

abbrev nBuf : Space → Nat
  | .hbm => 95
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S16x256x512, .f32⟩
  | .hbm, ⟨4, _⟩ => ⟨S16x256x512, .f32⟩
  | .hbm, ⟨5, _⟩ => ⟨S8x8x64x512, .f32⟩
  | .hbm, ⟨6, _⟩ => ⟨S16x32x64x8x64, .f32⟩
  | .hbm, ⟨7, _⟩ => ⟨S16x8x32x64x64, .f32⟩
  | .hbm, ⟨8, _⟩ => ⟨S_, .f32⟩
  | .hbm, ⟨9, _⟩ => ⟨S16x8x32x64x64, .f32⟩
  | .hbm, ⟨10, _⟩ => ⟨S16x8x32x64x64, .f32⟩
  | .hbm, ⟨11, _⟩ => ⟨S16x32x64x8x64, .f32⟩
  | .hbm, ⟨12, _⟩ => ⟨S16x8x32x64x64, .f32⟩
  | .hbm, ⟨13, _⟩ => ⟨S16x32x64x8x64, .f32⟩
  | .hbm, ⟨14, _⟩ => ⟨S16x8x32x64x64, .f32⟩
  | .hbm, ⟨15, _⟩ => ⟨S16x256x8x64, .f32⟩
  | .hbm, ⟨16, _⟩ => ⟨S16x8x256x64, .f32⟩
  | .hbm, ⟨17, _⟩ => ⟨S16x256x8x64, .f32⟩
  | .hbm, ⟨18, _⟩ => ⟨S16x8x256x64, .f32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S32x1, .i32⟩
  | .hbm, ⟨32, _⟩ => ⟨S8, .i32⟩
  | .hbm, ⟨33, _⟩ => ⟨S1x8, .i32⟩
  | .hbm, ⟨34, _⟩ => ⟨S32x8, .i32⟩
  | .hbm, ⟨35, _⟩ => ⟨S32x8, .i32⟩
  | .hbm, ⟨36, _⟩ => ⟨S32x8, .i32⟩
  | .hbm, ⟨37, _⟩ => ⟨S_, .i32⟩
  | .hbm, ⟨38, _⟩ => ⟨S32x8, .i32⟩
  | .hbm, ⟨39, _⟩ => ⟨S32x8, .i1⟩
  | .hbm, ⟨40, _⟩ => ⟨S_, .i32⟩
  | .hbm, ⟨41, _⟩ => ⟨S32x8, .i32⟩
  | .hbm, ⟨42, _⟩ => ⟨S32x8, .i32⟩
  | .hbm, ⟨43, _⟩ => ⟨S32x8, .i32⟩
  | .hbm, ⟨44, _⟩ => ⟨S32x8x1, .i32⟩
  | .hbm, ⟨45, _⟩ => ⟨S16x8x32x8x64x64, .f32⟩
  | .hbm, ⟨46, _⟩ => ⟨S16x8x32x512x64, .f32⟩
  | .hbm, ⟨47, _⟩ => ⟨S_, .i32⟩
  | .hbm, ⟨48, _⟩ => ⟨S32x8, .i32⟩
  | .hbm, ⟨49, _⟩ => ⟨S32x8, .i1⟩
  | .hbm, ⟨50, _⟩ => ⟨S_, .i32⟩
  | .hbm, ⟨51, _⟩ => ⟨S32x8, .i32⟩
  | .hbm, ⟨52, _⟩ => ⟨S32x8, .i32⟩
  | .hbm, ⟨53, _⟩ => ⟨S32x8, .i32⟩
  | .hbm, ⟨54, _⟩ => ⟨S32x8x1, .i32⟩
  | .hbm, ⟨55, _⟩ => ⟨S16x8x32x8x64x64, .f32⟩
  | .hbm, ⟨56, _⟩ => ⟨S16x8x32x512x64, .f32⟩
  | .hbm, ⟨57, _⟩ => ⟨S16x8x32x64x512, .f32⟩
  | .hbm, ⟨58, _⟩ => ⟨S32, .i32⟩
  | .hbm, ⟨59, _⟩ => ⟨S_, .i32⟩
  | .hbm, ⟨60, _⟩ => ⟨S32, .i32⟩
  | .hbm, ⟨61, _⟩ => ⟨S32, .i1⟩
  | .hbm, ⟨62, _⟩ => ⟨S_, .i32⟩
  | .hbm, ⟨63, _⟩ => ⟨S32, .i32⟩
  | .hbm, ⟨64, _⟩ => ⟨S32, .i32⟩
  | .hbm, ⟨65, _⟩ => ⟨S32, .i32⟩
  | .hbm, ⟨66, _⟩ => ⟨S32x1, .i32⟩
  | .hbm, ⟨67, _⟩ => ⟨S8x32x64x512, .f32⟩
  | .hbm, ⟨68, _⟩ => ⟨S1x8x32x64x512, .f32⟩
  | .hbm, ⟨69, _⟩ => ⟨S16x8x32x64x512, .f32⟩
  | .hbm, ⟨70, _⟩ => ⟨S16x8x32x64x512, .f32⟩
  | .hbm, ⟨71, _⟩ => ⟨S16x8x32x64x256, .f32⟩
  | .hbm, ⟨72, _⟩ => ⟨S16x8x32x64x768, .f32⟩
  | .hbm, ⟨73, _⟩ => ⟨S_, .f32⟩
  | .hbm, ⟨74, _⟩ => ⟨S16x8x32x64, .f32⟩
  | .hbm, ⟨75, _⟩ => ⟨S_, .f32⟩
  | .hbm, ⟨76, _⟩ => ⟨S16x8x32x64, .f32⟩
  | .hbm, ⟨77, _⟩ => ⟨S16x8x32x64, .f32⟩
  | .hbm, ⟨78, _⟩ => ⟨S16x8x32x64x1, .f32⟩
  | .hbm, ⟨79, _⟩ => ⟨S16x8x32x64x768, .f32⟩
  | .hbm, ⟨80, _⟩ => ⟨S16x8x32x64x768, .f32⟩
  | .hbm, ⟨81, _⟩ => ⟨S16x8x32x64x768, .f32⟩
  | .hbm, ⟨82, _⟩ => ⟨S_, .f32⟩
  | .hbm, ⟨83, _⟩ => ⟨S16x8x32x64, .f32⟩
  | .hbm, ⟨84, _⟩ => ⟨S16x8x32x64x1, .f32⟩
  | .hbm, ⟨85, _⟩ => ⟨S16x8x32x64x768, .f32⟩
  | .hbm, ⟨86, _⟩ => ⟨S16x8x32x64x768, .f32⟩
  | .hbm, ⟨87, _⟩ => ⟨S16x8x32x64x512, .f32⟩
  | .hbm, ⟨88, _⟩ => ⟨S16x8x32x64x64, .f32⟩
  | .hbm, ⟨89, _⟩ => ⟨S16x8x32x64x256, .f32⟩
  | .hbm, ⟨90, _⟩ => ⟨S16x8x32x64x64, .f32⟩
  | .hbm, ⟨91, _⟩ => ⟨S16x8x32x64x64, .f32⟩
  | .hbm, ⟨92, _⟩ => ⟨S16x32x64x8x64, .f32⟩
  | .hbm, ⟨93, _⟩ => ⟨S32768x512, .f32⟩
  | .hbm, ⟨94, _⟩ => ⟨S32768x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_6 : Ref sig .tc := ⟨.hbm, 59, rfl⟩
abbrev main_v40 : Ref sig .tc := ⟨.hbm, 60, rfl⟩
abbrev main_v41 : Ref sig .tc := ⟨.hbm, 61, rfl⟩
abbrev main_c_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048x512 : Shape := ⟨3, ![16, 2048, 512]⟩
abbrev S16x6144 : Shape := ⟨2, ![16, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32x6144 : Shape := ⟨2, ![32, 6144]⟩
abbrev S32x1x6144 : Shape := ⟨3, ![32, 1, 6144]⟩
abbrev S32768x1024 : Shape := ⟨2, ![32768, 1024]⟩
abbrev S32768x512 : Shape := ⟨2, ![32768, 512]⟩
abbrev S1x1024 : Shape := ⟨2, ![1, 1024]⟩
abbrev S1024x512 : Shape := ⟨2, ![1024, 512]⟩
abbrev S1x1x1024 : Shape := ⟨3, ![1, 1, 1024]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 26
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x4096, .f32⟩
  | .hbm, ⟨9, _⟩ => ⟨S4096x1024, .f32⟩
  | .hbm, ⟨10, _⟩ => ⟨S_, .f32⟩
  | .hbm, ⟨11, _⟩ => ⟨S16x6144, .f32⟩
  | .hbm, ⟨12, _⟩ => ⟨S32x6144, .f32⟩
  | .hbm, ⟨13, _⟩ => ⟨S32x1x6144, .f32⟩
  | .hbm, ⟨14, _⟩ => ⟨S32768x1024, .f32⟩
  | .hbm, ⟨15, _⟩ => ⟨S32768x512, .f32⟩
  | .hbm, ⟨16, _⟩ => ⟨S32768x512, .bf16⟩
  | .hbm, ⟨17, _⟩ => ⟨S32768x512, .f32⟩
  | .hbm, ⟨18, _⟩ => ⟨S32768x512, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1024x4096, .bf16⟩
  | .hbm, ⟨24, _⟩ => ⟨S4096x1024, .bf16⟩
  | .hbm, ⟨25, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x4096, .bf16⟩
  | .local _ .vmem, ⟨19, _⟩ => ⟨S4096x1024, .bf16⟩
  | .local _ .vmem, ⟨20, _⟩ => ⟨S1024x1024, .f32⟩
  | .local _ .vmem, ⟨21, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32_5 : BitVec 32 := 2#32
  let c0_i32_6 : BitVec 32 := 0#32
  ![v16.toNat, c0_i32_4.toNat, c2_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16x2048x1024 : Shape := ⟨3, ![16, 2048, 1024]⟩
abbrev S16x2048x512 : Shape := ⟨3, ![16, 2048, 512]⟩
abbrev S16x6144 : Shape := ⟨2, ![16, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x4096, .f32⟩
  | .hbm, ⟨9, _⟩ => ⟨S4096x1024, .f32⟩
  | .hbm, ⟨10, _⟩ => ⟨S16x1x6144, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S_, .f32⟩
  | .hbm, ⟨21, _⟩ => ⟨S16x2048, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S_, .f32⟩
  | .hbm, ⟨27, _⟩ => ⟨S16x2048x1, .f32⟩
  | .hbm, ⟨28, _⟩ => ⟨S16x2048x1, .f32⟩
  | .hbm, ⟨29, _⟩ => ⟨S16x2048x1, .f32⟩
  | .hbm, ⟨30, _⟩ => ⟨S16x2048x1024, .f32⟩
  | .hbm, ⟨31, _⟩ => ⟨S16x2048x1024, .f32⟩
  | .hbm, ⟨32, _⟩ => ⟨S1x1x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1, .f32⟩
  | .hbm, ⟨49, _⟩ => ⟨S16x2048x1024, .f32⟩
  | .hbm, ⟨50, _⟩ => ⟨S16x2048x1024, .f32⟩
  | .hbm, ⟨51, _⟩ => ⟨S1x1x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x1x1024, .f32⟩
  | .hbm, ⟨56, _⟩ => ⟨S16x1x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x4096, .f32⟩
  | .hbm, ⟨62, _⟩ => ⟨S_, .f32⟩
  | .hbm, ⟨63, _⟩ => ⟨S16x2048x4096, .f32⟩
  | .hbm, ⟨64, _⟩ => ⟨S16x2048x4096, .f32⟩
  | .hbm, ⟨65, _⟩ => ⟨S16x2048x4096, .f32⟩
  | .hbm, ⟨66, _⟩ => ⟨S16x2048x1024, .f32⟩
  | .hbm, ⟨67, _⟩ => ⟨S16x2048x1024, .f32⟩
  | .hbm, ⟨68, _⟩ => ⟨S_, .f32⟩
  | .hbm, ⟨69, _⟩ => ⟨S16x2048, .f32⟩
  | .hbm, ⟨70, _⟩ => ⟨S16x2048x1, .f32⟩
  | .hbm, ⟨71, _⟩ => ⟨S_, .f32⟩
  | .hbm, ⟨72, _⟩ => ⟨S16x2048x1, .f32⟩
  | .hbm, ⟨73, _⟩ => ⟨S16x2048x1, .f32⟩
  | .hbm, ⟨74, _⟩ => ⟨S_, .f32⟩
  | .hbm, ⟨75, _⟩ => ⟨S16x2048x1, .f32⟩
  | .hbm, ⟨76, _⟩ => ⟨S16x2048x1, .f32⟩
  | .hbm, ⟨77, _⟩ => ⟨S16x2048x1, .f32⟩
  | .hbm, ⟨78, _⟩ => ⟨S16x2048x1024, .f32⟩
  | .hbm, ⟨79, _⟩ => ⟨S16x2048x1024, .f32⟩
  | .hbm, ⟨80, _⟩ => ⟨S1x1x1024, .f32⟩
  | .hbm, ⟨81, _⟩ => ⟨S16x2048x1024, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S16x2048x1024, .f32⟩
  | .hbm, ⟨86, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_cst : Ref sig .tc := ⟨.hbm, 62, rfl⟩
abbrev main_call0_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_cst_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x6144 : Shape := ⟨2, ![16, 6144]⟩
abbrev S1024 : Shape := ⟨1, ![1024]⟩
abbrev S1024x3584 : Shape := ⟨2, ![1024, 3584]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32x6144 : Shape := ⟨2, ![32, 6144]⟩
abbrev S32x1x6144 : Shape := ⟨3, ![32, 1, 6144]⟩
abbrev S32768x1024 : Shape := ⟨2, ![32768, 1024]⟩
abbrev S1x1024 : Shape := ⟨2, ![1, 1024]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S2048x256 : Shape := ⟨2, ![2048, 256]⟩
abbrev S1x512 : Shape := ⟨2, ![1, 512]⟩
abbrev S32768x3584 : Shape := ⟨2, ![32768, 3584]⟩
abbrev S1x1x1024 : Shape := ⟨3, ![1, 1, 1024]⟩
abbrev S1024x512 : Shape := ⟨2, ![1024, 512]⟩
abbrev S1024x256 : Shape := ⟨2, ![1024, 256]⟩
abbrev S32x1024 : Shape := ⟨2, ![32, 1024]⟩
abbrev S32x4096 : Shape := ⟨2, ![32, 4096]⟩
abbrev S128x1024 : Shape := ⟨2, ![128, 1024]⟩
abbrev S256x1024 : Shape := ⟨2, ![256, 1024]⟩
abbrev S256 : Shape := ⟨1, ![256]⟩
abbrev S256x1 : Shape := ⟨2, ![256, 1]⟩
abbrev S1x128 : Shape := ⟨2, ![1, 128]⟩
abbrev S256x512 : Shape := ⟨2, ![256, 512]⟩
abbrev S256x128 : Shape := ⟨2, ![256, 128]⟩

abbrev nBuf : Space → Nat
  | .hbm => 94
  | .vmem => 31
  | .smem => 0
  | _ => 0

abbrev bufTy : (tb : Table) → Fin (tcTables nBuf tb) → BufTy
  | .hbm, ⟨0, _⟩ => ⟨S16x2048x1024, .f32⟩
  | .hbm, ⟨1, _⟩ => ⟨S16x6144, .f32⟩
  | .hbm, ⟨2, _⟩ => ⟨S1024, .f32⟩
  | .hbm, ⟨3, _⟩ => ⟨S1024x3584, .f32⟩
  | .hbm, ⟨4, _⟩ => ⟨S512, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S16x6144, .f32⟩
  | .hbm, ⟨10, _⟩ => ⟨S32x6144, .f32⟩
  | .hbm, ⟨11, _⟩ => ⟨S32x1x6144, .f32⟩
  | .hbm, ⟨12, _⟩ => ⟨S32768x1024, .f32⟩
  | .hbm, ⟨13, _⟩ => ⟨S1x1024, .f32⟩
  | .hbm, ⟨14, _⟩ => ⟨S1024x3584, .bf16⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S2048, .i32⟩
  | .hbm, ⟨24, _⟩ => ⟨S_, .i32⟩
  | .hbm, ⟨25, _⟩ => ⟨S_, .i32⟩
  | .hbm, ⟨26, _⟩ => ⟨S2048, .i32⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048, .f32⟩
  | .hbm, ⟨43, _⟩ => ⟨S2048x1, .f32⟩
  | .hbm, ⟨44, _⟩ => ⟨S1x32, .f32⟩
  | .hbm, ⟨45, _⟩ => ⟨S2048x32, .f32⟩
  | .hbm, ⟨46, _⟩ => ⟨S2048x32, .f32⟩
  | .hbm, ⟨47, _⟩ => ⟨S2048x32, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S_, .i1⟩
  | .hbm, ⟨64, _⟩ => ⟨S2048, .i1⟩
  | .hbm, ⟨65, _⟩ => ⟨S2048, .i1⟩
  | .hbm, ⟨66, _⟩ => ⟨S2048, .i1⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048, .f32⟩
  | .hbm, ⟨71, _⟩ => ⟨S2048x1, .f32⟩
  | .hbm, ⟨72, _⟩ => ⟨S1x32, .f32⟩
  | .hbm, ⟨73, _⟩ => ⟨S2048x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x128, .f32⟩
  | .hbm, ⟨81, _⟩ => ⟨S2048x32, .f32⟩
  | .hbm, ⟨82, _⟩ => ⟨S2048x32, .f32⟩
  | .hbm, ⟨83, _⟩ => ⟨S2048x32, .f32⟩
  | .hbm, ⟨84, _⟩ => ⟨S2048x32, .f32⟩
  | .hbm, ⟨85, _⟩ => ⟨S2048x32, .f32⟩
  | .hbm, ⟨86, _⟩ => ⟨S2048x32, .f32⟩
  | .hbm, ⟨87, _⟩ => ⟨S2048x128, .f32⟩
  | .hbm, ⟨88, _⟩ => ⟨S2048x256, .f32⟩
  | .hbm, ⟨89, _⟩ => ⟨S1x512, .f32⟩
  | .hbm, ⟨90, _⟩ => ⟨S32768x3584, .bf16⟩
  | .hbm, ⟨91, _⟩ => ⟨S1024x1024, .bf16⟩
  | .hbm, ⟨92, _⟩ => ⟨S1024x4096, .bf16⟩
  | .hbm, ⟨93, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x256, .f32⟩
  | .local _ .vmem, ⟨15, _⟩ => ⟨S1024x256, .f32⟩
  | .local _ .vmem, ⟨16, _⟩ => ⟨S1x512, .f32⟩
  | .local _ .vmem, ⟨17, _⟩ => ⟨S32x1024, .f32⟩
  | .local _ .vmem, ⟨18, _⟩ => ⟨S32x1024, .f32⟩
  | .local _ .vmem, ⟨19, _⟩ => ⟨S32x4096, .f32⟩
  | .local _ .vmem, ⟨20, _⟩ => ⟨S32x4096, .f32⟩
  | .local _ .vmem, ⟨21, _⟩ => ⟨S128x1024, .f32⟩
  | .local _ .vmem, ⟨22, _⟩ => ⟨S128x1024, .f32⟩
  | .local _ .vmem, ⟨23, _⟩ => ⟨S1024x3584, .bf16⟩
  | .local _ .vmem, ⟨24, _⟩ => ⟨S1024x3584, .bf16⟩
  | .local _ .vmem, ⟨25, _⟩ => ⟨S32x1024, .bf16⟩
  | .local _ .vmem, ⟨26, _⟩ => ⟨S32x1024, .bf16⟩
  | .local _ .vmem, ⟨27, _⟩ => ⟨S32x4096, .bf16⟩
  | .local _ .vmem, ⟨28, _⟩ => ⟨S32x4096, .bf16⟩
  | .local _ .vmem, ⟨29, _⟩ => ⟨S128x1024, .bf16⟩
  | .local _ .vmem, ⟨30, _⟩ => ⟨S128x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_2 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41_0 : Ref sig .tc := ⟨.hbm, 90, rfl⟩
abbrev main_v41_1 : Ref sig .tc := ⟨.hbm, 91, rfl⟩
abbrev main_v41_2 : Ref sig .tc := ⟨.hbm, 92, rfl⟩
abbrev main_v41_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_10 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x3584 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel3Ideal.lean ====
variable {F : FTy → Type} [FloatOps F] [Named F]
def κ : String → Option EReal := fun
  | "q_scale" => some (((1 / 8) * (Real.log 2)⁻¹ : ℝ) : EReal)
  | _ => none
-- ==== Reference3Ideal.lean ====
abbrev S16x2048x1024 : Shape := ⟨3, ![16, 2048, 1024]⟩
abbrev S16x6144 : Shape := ⟨2, ![16, 6144]⟩
abbrev S1024 : Shape := ⟨1, ![1024]⟩
abbrev S1024x3584 : Shape := ⟨2, ![1024, 3584]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S16x1x6144 : Shape := ⟨3, ![16, 1, 6144]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3584 : Shape := ⟨3, ![16, 2048, 3584]⟩
abbrev S16x2048x512 : Shape := ⟨3, ![16, 2048, 512]⟩
abbrev S2048 : Shape := ⟨1, ![2048]⟩
abbrev S16x2048x4x128 : Shape := ⟨4, ![16, 2048, 4, 128]⟩
abbrev S16x4x2048x128 : Shape := ⟨4, ![16, 4, 2048, 128]⟩
abbrev S32 : Shape := ⟨1, ![32]⟩
abbrev S16x4x2048x64 : Shape := ⟨4, ![16, 4, 2048, 64]⟩
abbrev S2048x1 : Shape := ⟨2, ![2048, 1]⟩
abbrev S1x32 : Shape := ⟨2, ![1, 32]⟩
abbrev S2048x32 : Shape := ⟨2, ![2048, 32]⟩
abbrev S16x4x2048x32 : Shape := ⟨4, ![16, 4, 2048, 32]⟩
abbrev S1x1x2048x32 : Shape := ⟨4, ![1, 1, 2048, 32]⟩
abbrev S1x1x512 : Shape := ⟨3, ![1, 1, 512]⟩
abbrev S32768x3584 : Shape := ⟨2, ![32768, 3584]⟩

abbrev nBuf : Space → Nat
  | .hbm => 240
  | .vmem => 0
  | .smem => 0
  | _ => 0

abbrev hbmTy0_0 (i : Nat) : BufTy := match i % 128 with
  | 0 => ⟨S16x2048x1024, .f32⟩
  | 1 => ⟨S16x6144, .f32⟩
  | 2 => ⟨S1024, .f32⟩
  | 3 => ⟨S1024x3584, .f32⟩
  | 4 => ⟨S512, .f32⟩
  | 5 => ⟨S1024x1024, .f32⟩
  | 6 => ⟨S1024x4096, .f32⟩
  | 7 => ⟨S4096x1024, .f32⟩
  | 8 => ⟨S16x1x6144, .f32⟩
  | 9 => ⟨S16x1x1024, .f32⟩
  | 10 => ⟨S16x1x1024, .f32⟩
  | 11 => ⟨S16x1x1024, .f32⟩
  | 12 => ⟨S16x1x1024, .f32⟩
  | 13 => ⟨S16x1x1024, .f32⟩
  | 14 => ⟨S16x1x1024, .f32⟩
  | 15 => ⟨S16x2048x1024, .f32⟩
  | 16 => ⟨S_, .f32⟩
  | 17 => ⟨S16x2048, .f32⟩
  | 18 => ⟨S16x2048x1, .f32⟩
  | 19 => ⟨S_, .f32⟩
  | 20 => ⟨S16x2048x1, .f32⟩
  | 21 => ⟨S16x2048x1, .f32⟩
  | 22 => ⟨S_, .f32⟩
  | 23 => ⟨S16x2048x1, .f32⟩
  | 24 => ⟨S16x2048x1, .f32⟩
  | 25 => ⟨S16x2048x1, .f32⟩
  | 26 => ⟨S16x2048x1024, .f32⟩
  | 27 => ⟨S16x2048x1024, .f32⟩
  | 28 => ⟨S1x1x1024, .f32⟩
  | 29 => ⟨S16x2048x1024, .f32⟩
  | 30 => ⟨S16x2048x1024, .f32⟩
  | 31 => ⟨S_, .f32⟩
  | 32 => ⟨S16x1x1024, .f32⟩
  | 33 => ⟨S16x1x1024, .f32⟩
  | 34 => ⟨S16x2048x1024, .f32⟩
  | 35 => ⟨S16x2048x1024, .f32⟩
  | 36 => ⟨S16x2048x1024, .f32⟩
  | 37 => ⟨S16x2048x1024, .f32⟩
  | 38 => ⟨S16x2048x3584, .f32⟩
  | 39 => ⟨S16x2048x512, .f32⟩
  | 40 => ⟨S16x2048x512, .f32⟩
  | 41 => ⟨S16x2048x512, .f32⟩
  | 42 => ⟨S16x2048x512, .f32⟩
  | 43 => ⟨S16x2048x512, .f32⟩
  | 44 => ⟨S16x2048x512, .f32⟩
  | 45 => ⟨S16x2048x512, .f32⟩
  | 46 => ⟨S2048, .i32⟩
  | 47 => ⟨S_, .i32⟩
  | 48 => ⟨S_, .i32⟩
  | 49 => ⟨S2048, .i32⟩
  | 50 => ⟨S2048, .i32⟩
  | 51 => ⟨S2048, .i32⟩
  | 52 => ⟨S_, .i32⟩
  | 53 => ⟨S2048, .i32⟩
  | 54 => ⟨S2048, .i1⟩
  | 55 => ⟨S2048, .i32⟩
  | 56 => ⟨S2048, .i32⟩
  | 57 => ⟨S_, .i32⟩
  | 58 => ⟨S2048, .i32⟩
  | 59 => ⟨S2048, .i1⟩
  | 60 => ⟨S2048, .i1⟩
  | 61 => ⟨S_, .i32⟩
  | 62 => ⟨S2048, .i32⟩
  | 63 => ⟨S2048, .i32⟩
  | 64 => ⟨S2048, .i32⟩
  | 65 => ⟨S2048, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i1⟩
  | 80 => ⟨S_, .i32⟩
  | 81 => ⟨S_, .i1⟩
  | 82 => ⟨S2048, .i1⟩
  | 83 => ⟨S2048, .i1⟩
  | 84 => ⟨S2048, .i1⟩
  | 85 => ⟨S2048, .i32⟩
  | 86 => ⟨S2048, .i32⟩
  | 87 => ⟨S2048, .i32⟩
  | 88 => ⟨S2048, .f32⟩
  | 89 => ⟨S16x2048x4x128, .f32⟩
  | 90 => ⟨S16x4x2048x128, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S16x4x2048x64, .f32⟩
  | 100 => ⟨S2048x1, .f32⟩
  | 101 => ⟨S1x32, .f32⟩
  | 102 => ⟨S2048x32, .f32⟩
  | 103 => ⟨S2048x32, .f32⟩
  | 104 => ⟨S2048x32, .f32⟩
  | 105 => ⟨S2048x32, .f32⟩
  | 106 => ⟨S2048x32, .f32⟩
  | 107 => ⟨S16x4x2048x32, .f32⟩
  | 108 => ⟨S16x4x2048x32, .f32⟩
  | 109 => ⟨S1x1x2048x32, .f32⟩
  | 110 => ⟨S16x4x2048x32, .f32⟩
  | 111 => ⟨S16x4x2048x32, .f32⟩
  | 112 => ⟨S1x1x2048x32, .f32⟩
  | 113 => ⟨S16x4x2048x32, .f32⟩
  | 114 => ⟨S16x4x2048x32, .f32⟩
  | 115 => ⟨S16x4x2048x32, .f32⟩
  | 116 => ⟨S1x1x2048x32, .f32⟩
  | 117 => ⟨S16x4x2048x32, .f32⟩
  | 118 => ⟨S16x4x2048x32, .f32⟩
  | 119 => ⟨S1x1x2048x32, .f32⟩
  | 120 => ⟨S16x4x2048x32, .f32⟩
  | 121 => ⟨S16x4x2048x32, .f32⟩
  | 122 => ⟨S16x4x2048x32, .f32⟩
  | 123 => ⟨S16x4x2048x64, .f32⟩
  | 124 => ⟨S16x4x2048x64, .f32⟩
  | 125 => ⟨S2048x1, .f32⟩
  | 126 => ⟨S1x32, .f32⟩
  | 127 => ⟨S2048x32, .f32⟩
  | _ => ⟨S16x2048x1024, .f32⟩

abbrev hbmTy0_1 (i : Nat) : BufTy := match i % 128 with
  | 0 => ⟨S2048x32, .f32⟩
  | 1 => ⟨S2048x32, .f32⟩
  | 2 => ⟨S2048x32, .f32⟩
  | 3 => ⟨S2048x32, .f32⟩
  | 4 => ⟨S16x4x2048x32, .f32⟩
  | 5 => ⟨S16x4x2048x32, .f32⟩
  | 6 => ⟨S1x1x2048x32, .f32⟩
  | 7 => ⟨S16x4x2048x32, .f32⟩
  | 8 => ⟨S16x4x2048x32, .f32⟩
  | 9 => ⟨S1x1x2048x32, .f32⟩
  | 10 => ⟨S16x4x2048x32, .f32⟩
  | 11 => ⟨S16x4x2048x32, .f32⟩
  | 12 => ⟨S16x4x2048x32, .f32⟩
  | 13 => ⟨S1x1x2048x32, .f32⟩
  | 14 => ⟨S16x4x2048x32, .f32⟩
  | 15 => ⟨S16x4x2048x32, .f32⟩
  | 16 => ⟨S1x1x2048x32, .f32⟩
  | 17 => ⟨S16x4x2048x32, .f32⟩
  | 18 => ⟨S16x4x2048x32, .f32⟩
  | 19 => ⟨S16x4x2048x32, .f32⟩
  | 20 => ⟨S16x4x2048x64, .f32⟩
  | 21 => ⟨S16x4x2048x128, .f32⟩
  | 22 => ⟨S16x2048x4x128, .f32⟩
  | 23 => ⟨S16x2048x512, .f32⟩
  | 24 => ⟨S16x2048x4x128, .f32⟩
  | 25 => ⟨S16x4x2048x128, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S16x4x2048x64, .f32⟩
  | 35 => ⟨S2048x1, .f32⟩
  | 36 => ⟨S1x32, .f32⟩
  | 37 => ⟨S2048x32, .f32⟩
  | 38 => ⟨S2048x32, .f32⟩
  | 39 => ⟨S2048x32, .f32⟩
  | 40 => ⟨S2048x32, .f32⟩
  | 41 => ⟨S2048x32, .f32⟩
  | 42 => ⟨S16x4x2048x32, .f32⟩
  | 43 => ⟨S16x4x2048x32, .f32⟩
  | 44 => ⟨S1x1x2048x32, .f32⟩
  | 45 => ⟨S16x4x2048x32, .f32⟩
  | 46 => ⟨S16x4x2048x32, .f32⟩
  | 47 => ⟨S1x1x2048x32, .f32⟩
  | 48 => ⟨S16x4x2048x32, .f32⟩
  | 49 => ⟨S16x4x2048x32, .f32⟩
  | 50 => ⟨S16x4x2048x32, .f32⟩
  | 51 => ⟨S1x1x2048x32, .f32⟩
  | 52 => ⟨S16x4x2048x32, .f32⟩
  | 53 => ⟨S16x4x2048x32, .f32⟩
  | 54 => ⟨S1x1x2048x32, .f32⟩
  | 55 => ⟨S16x4x2048x32, .f32⟩
  | 56 => ⟨S16x4x2048x32, .f32⟩
  | 57 => ⟨S16x4x2048x32, .f32⟩
  | 58 => ⟨S16x4x2048x64, .f32⟩
  | 59 => ⟨S16x4x2048x64, .f32⟩
  | 60 => ⟨S2048x1, .f32⟩
  | 61 => ⟨S1x32, .f32⟩
  | 62 => ⟨S2048x32, .f32⟩
  | 63 => ⟨S2048x32, .f32⟩
  | 64 => ⟨S2048x32, .f32⟩
  | 65 => ⟨S2048x32, .f32⟩
  | 66 => ⟨S2048x32, .f32⟩
  | 67 => ⟨S16x4x2048x32, .f32⟩
  | 68 => ⟨S16x4x2048x32, .f32⟩
  | 69 => ⟨S1x1x2048x32, .f32⟩
  | 70 => ⟨S16x4x2048x32, .f32⟩
  | 71 => ⟨S16x4x2048x32, .f32⟩
  | 72 => ⟨S1x1x2048x32, .f32⟩
  | 73 => ⟨S16x4x2048x32, .f32⟩
  | 74 => ⟨S16x4x2048x32, .f32⟩
  | 75 => ⟨S16x4x2048x32, .f32⟩
  | 76 => ⟨S1x1x2048x32, .f32⟩
  | 77 => ⟨S16x4x2048x32, .f32⟩
  | 78 => ⟨S16x4x2048x32, .f32⟩
  | 79 => ⟨S1x1x2048x32, .f32⟩
  | 80 => ⟨S16x4x2048x32, .f32⟩
  | 81 => ⟨S16x4x2048x32, .f32⟩
  | 82 => ⟨S16x4x2048x32, .f32⟩
  | 83 => ⟨S16x4x2048x64, .f32⟩
  | 84 => ⟨S16x4x2048x128, .f32⟩
  | 85 => ⟨S16x2048x4x128, .f32⟩
  | 86 => ⟨S16x2048x512, .f32⟩
  | 87 => ⟨S16x2048x512, .f32⟩
  | 88 => ⟨S16x2048x512, .f32⟩
  | 89 => ⟨S_, .f32⟩
  | 90 => ⟨S16x2048x512, .f32⟩
  | 91 => ⟨S16x2048x512, .f32⟩
  | 92 => ⟨S_, .f32⟩
  | 93 => ⟨S16x2048x512, .f32⟩
  | 94 => ⟨S16x2048x512, .f32⟩
  | 95 => ⟨S16x2048x512, .f32⟩
  | 96 => ⟨S1x1x512, .f32⟩
  | 97 => ⟨S16x2048x512, .f32⟩
  | 98 => ⟨S16x2048x512, .f32⟩
  | 99 => ⟨S_, .f32⟩
  | 100 => ⟨S16x2048x512, .f32⟩
  | 101 => ⟨S16x2048x512, .f32⟩
  | 102 => ⟨S_, .f32⟩
  | 103 => ⟨S_, .f32⟩
  | 104 => ⟨S16x2048x512, .f32⟩
  | 105 => ⟨S16x2048x512, .f32⟩
  | 106 => ⟨S16x2048x3584, .f32⟩
  | 107 => ⟨S32768x3584, .f32⟩
  | 108 => ⟨S32768x3584, .bf16⟩
  | 109 => ⟨S1024x1024, .bf16⟩
  | 110 => ⟨S1024x4096, .bf16⟩
  | 111 => ⟨S4096x1024, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v35 : Ref sig .tc := ⟨.hbm, 64, rfl⟩
abbrev main_v36 : Ref sig .tc := ⟨.hbm, 65, rfl⟩
abbrev main_c_3 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_4 : Ref sig .tc := ⟨.hbm, 93, rfl⟩
abbrev main_v43 : Ref sig .tc := ⟨.hbm, 94, rfl⟩
abbrev main_v44 : Ref sig .tc := ⟨.hbm, 95, rfl⟩
abbrev main_cst_5 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_cst_6 : Ref sig .tc := ⟨.hbm, 156, rfl⟩
abbrev main_v104 : Ref sig .tc := ⟨.hbm, 157, rfl⟩
abbrev main_v105 : Ref sig .tc := ⟨.hbm, 158, rfl⟩
abbrev main_cst_7 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_call2_v0 : Ref sig .tc := ⟨.hbm, 215, rfl⟩
abbrev main_call2_v1 : Ref sig .tc := ⟨.hbm, 216, rfl⟩
abbrev main_call2_cst : Ref sig .tc := ⟨.hbm, 217, rfl⟩
abbrev main_call2_v2 : Ref sig .tc := ⟨.hbm, 218, rfl⟩
abbrev main_call2_v3 : Ref sig .tc := ⟨.hbm, 219, rfl⟩
abbrev main_call2_cst_0 : Ref sig .tc := ⟨.hbm, 220, rfl⟩
abbrev main_call2_v4 : Ref sig .tc := ⟨.hbm, 221, rfl⟩
abbrev main_call2_v5 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_cst_8 : Ref sig .tc := ⟨.hbm, 227, rfl⟩
abbrev main_v165 : Ref sig .tc := ⟨.hbm, 228, rfl⟩
abbrev main_v166 : Ref sig .tc := ⟨.hbm, 229, rfl⟩
abbrev main_cst_9 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩

abbrev nD : Nat := 1
abbrev τ : Topo := Topo.v7x

variable {F : FTy → Type} [FloatOps F]
-- ==== Kernel4.lean ====
abbrev S16x256x1024 : Shape := ⟨3, ![16, 256, 1024]⟩
abbrev S6144 : Shape := ⟨1, ![6144]⟩
abbrev S1024 : Shape := ⟨1, ![1024]⟩
abbrev S1024x3584 : Shape := ⟨2, ![1024, 3584]⟩
abbrev S_ : Shape := ⟨0, ![]⟩
abbrev S16x6144 : Shape := ⟨2, ![16, 6144]⟩
abbrev S1x6144 : Shape := ⟨2, ![1, 6144]⟩
abbrev S15x6144 : Shape := ⟨2, ![15, 6144]⟩
abbrev S32x6144 : Shape := ⟨2, ![32, 6144]⟩
abbrev S32x1x6144 : Shape := ⟨3, ![32, 1, 6144]⟩
abbrev S4096x1024 : Shape := ⟨2, ![4096, 1024]⟩
abbrev S1x1024 : Shape := ⟨2, ![1, 1024]⟩
abbrev S4096x2048 : Shape := ⟨2, ![4096, 2048]⟩
abbrev S1024x1024 : Shape := ⟨2, ![1024, 1024]⟩
abbrev S1x1x1024 : Shape := ⟨3, ![1, 1, 1024]⟩
abbrev S1024x512 : Shape := ⟨2, ![1024, 512]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 15
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x3584, .f32⟩
  | .hbm, ⟨4, _⟩ => ⟨S_, .f32⟩
  | .hbm, ⟨5, _⟩ => ⟨S16x6144, .f32⟩
  | .hbm, ⟨6, _⟩ => ⟨S1x6144, .f32⟩
  | .hbm, ⟨7, _⟩ => ⟨S_, .f32⟩
  | .hbm, ⟨8, _⟩ => ⟨S15x6144, .f32⟩
  | .hbm, ⟨9, _⟩ => ⟨S32x6144, .f32⟩
  | .hbm, ⟨10, _⟩ => ⟨S32x1x6144, .f32⟩
  | .hbm, ⟨11, _⟩ => ⟨S4096x1024, .f32⟩
  | .hbm, ⟨12, _⟩ => ⟨S1x1024, .f32⟩
  | .hbm, ⟨13, _⟩ => ⟨S1024x3584, .bf16⟩
  | .hbm, ⟨14, _⟩ => ⟨S4096x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x2048, .bf16⟩
  | .local _ .vmem, ⟨10, _⟩ => ⟨S1024x2048, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_2 (i : grid0.Coords) : Fin 3 → Nat :=
  let arg0 : BitVec 32 := BitVec.ofNat 32 (i 0).val
  let c16_i32 : BitVec 32 := 16#32
  let c0_i32 : BitVec 32 := 0#32
  let c1_i32 : BitVec 32 := 1#32
  let c0_i32_0 : BitVec 32 := 0#32
  ![c16_i32.toNat, c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_7 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16x256x1024 : Shape := ⟨3, ![16, 256, 1024]⟩
abbrev S6144 : Shape := ⟨1, ![6144]⟩
abbrev S1024 : Shape := ⟨1, ![1024]⟩
abbrev S1024x3584 : Shape := ⟨2, ![1024, 3584]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x3584 : Shape := ⟨3, ![16, 256, 3584]⟩
abbrev S16x256x512 : Shape := ⟨3, ![16, 256, 512]⟩
abbrev S16x256x2048 : Shape := ⟨3, ![16, 256, 2048]⟩
abbrev S4096x2048 : Shape := ⟨2, ![4096, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S6144, .f32⟩
  | .hbm, ⟨2, _⟩ => ⟨S1024, .f32⟩
  | .hbm, ⟨3, _⟩ => ⟨S1024x3584, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1x1024, .f32⟩
  | .hbm, ⟨30, _⟩ => ⟨S16x256x1024, .f32⟩
  | .hbm, ⟨31, _⟩ => ⟨S16x256x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x3584, .f32⟩
  | .hbm, ⟨36, _⟩ => ⟨S16x256x512, .f32⟩
  | .hbm, ⟨37, _⟩ => ⟨S16x256x512, .f32⟩
  | .hbm, ⟨38, _⟩ => ⟨S16x256x512, .f32⟩
  | .hbm, ⟨39, _⟩ => ⟨S16x256x512, .f32⟩
  | .hbm, ⟨40, _⟩ => ⟨S16x256x512, .f32⟩
  | .hbm, ⟨41, _⟩ => ⟨S16x256x512, .f32⟩
  | .hbm, ⟨42, _⟩ => ⟨S16x256x512, .f32⟩
  | .hbm, ⟨43, _⟩ => ⟨S16x256x2048, .f32⟩
  | .hbm, ⟨44, _⟩ => ⟨S4096x2048, .f32⟩
  | .hbm, ⟨45, _⟩ => ⟨S4096x2048, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Proof.NaTile.lean ====
/- The body of the neighbourhood-attention kernel, one unit at a time: a unit is a pair of heads (128 lanes) and a row of
   the grid, and every one of the 64 stored tiles is the same function `tile` of the loaded blocks. -/
module

public import proofs.«01_k».proof.Proof.Gen.KernelIdeal.Frame
public import Idealize.ShloMosaic.Lib.Pipeline.Value
public import Idealize.ShloMosaic.Lib.Pipeline.ValueKit.Tiles

@[expose] public section

set_option maxRecDepth 16384

noncomputable section

namespace Cert.KernelIdeal.Na

open Cert.KernelIdeal Cert.KernelIdeal.Gen Idealize.ShloMosaic

variable {F : FTy → Type} [FloatOps F]

/-- Which lanes belong to the pair's first head, and which to its second. -/
def lanesLo : IVec S1x128 1 := cmpi .slt (iota .tc S1x128 32 [1] iota_S1x128_d1_w32) (broadcast S1x128 64#32)
def lanesHi : IVec S1x128 1 := cmpi .sge (iota .tc S1x128 32 [1] iota_S1x128_d1_w32) (broadcast S1x128 64#32)

/-- The queries of both heads as 128 rows: each row keeps its own head's lanes. -/
def rows2 (q : Vec F S64x128 .bf16) : FVec F S128x128 .bf16 :=
  concatenate S128x128 0
    [⟨S64x128, select (broadcastTo S64x128 (shapeCast S1x128 lanesLo shapeCasts_S1x128_S1x128) broadcasts_S1x128_S64x128)
        (shapeCast S64x128 q shapeCasts_S64x128_S64x128 : FVec F S64x128 .bf16) (broadcast S64x128 (Scalar.ofBits .bf16 0x0000#16 : F .bf16))⟩,
     ⟨S64x128, select (broadcastTo S64x128 (shapeCast S1x128 lanesHi shapeCasts_S1x128_S1x128) broadcasts_S1x128_S64x128)
        (shapeCast S64x128 q shapeCasts_S64x128_S64x128 : FVec F S64x128 .bf16) (broadcast S64x128 (Scalar.ofBits .bf16 0x0000#16 : F .bf16))⟩]
    concatenates_S64x128_S64x128_S128x128_d0

/-- Scores against the band's keys, with the bias. -/
def sLoc (q : Vec F S64x128 .bf16) (b0 b1 : Vec F S1x1x64x512 .f32) (k : Vec F S512x128 .bf16) : FVec F S128x512 .f32 :=
  addf (matmul dot_S128x128_S512x128_S128x512_1_1_0_0_n_n none (rows2 q)
      (shapeCast S512x128 k shapeCasts_S512x128_S512x128 : FVec F S512x128 .bf16) (constant S128x512 .f32 0x00000000#32))
    (concatenate S128x512 0
      [⟨S64x512, (shapeCast S64x512 b0 shapeCasts_S1x1x64x512_S64x512 : FVec F S64x512 .f32)⟩,
       ⟨S64x512, (shapeCast S64x512 b1 shapeCasts_S1x1x64x512_S64x512 : FVec F S64x512 .f32)⟩]
      concatenates_S64x512_S64x512_S128x512_d0)

/-- Scores against the context's keys. -/
def sCtx (q : Vec F S64x128 .bf16) (ck : Vec F S256x128 .bf16) : FVec F S128x256 .f32 :=
  matmul dot_S128x128_S256x128_S128x256_1_1_0_0_n_n none (rows2 q)
    (shapeCast S256x128 ck shapeCasts_S256x128_S256x128 : FVec F S256x128 .bf16) (constant S128x256 .f32 0x00000000#32)

/-- The 128-lane tiles of the local and the context columns. -/
def locTile (s : FVec F S128x512 .f32) : Fin 4 → FVec F S128x128 .f32
  | 0 => extractStridedSlice S128x128 ![0, 0] s slices_S128x512_o0_0_S128x128
  | 1 => extractStridedSlice S128x128 ![0, 128] s slices_S128x512_o0_128_S128x128
  | 2 => extractStridedSlice S128x128 ![0, 256] s slices_S128x512_o0_256_S128x128
  | 3 => extractStridedSlice S128x128 ![0, 384] s slices_S128x512_o0_384_S128x128

def ctxTile (s : FVec F S128x256 .f32) : Fin 2 → FVec F S128x128 .f32
  | 0 => extractStridedSlice S128x128 ![0, 0] s slices_S128x256_o0_0_S128x128
  | 1 => extractStridedSlice S128x128 ![0, 128] s slices_S128x256_o0_128_S128x128

def rowMax (s : FVec F S128x512 .f32) (t : FVec F S128x256 .f32) : FVec F S128x1 .f32 :=
  shapeCast S128x1 (multiReduction .maximumf [1] S128
    (maximumf (maximumf (maximumf (maximumf (maximumf (locTile s 0) (locTile s 1)) (locTile s 2)) (locTile s 3))
      (ctxTile t 0)) (ctxTile t 1)) 0xFF800000#32 reduces_S128x128_S128 (.inl rfl) rfl) shapeCasts_S128_S128x1

def rowSum (s : FVec F S128x512 .f32) (t : FVec F S128x256 .f32) : FVec F S128x1 .f32 :=
  shapeCast S128x1 (multiReduction .add [1] S128
    (addf (addf (addf (addf (addf (locTile s 0) (locTile s 1)) (locTile s 2)) (locTile s 3))
      (ctxTile t 0)) (ctxTile t 1)) 0x00000000#32 reduces_S128x128_S128 (.inl rfl) rfl) shapeCasts_S128_S128x1

def pLoc (s : FVec F S128x512 .f32) (t : FVec F S128x256 .f32) : FVec F S128x512 .f32 :=
  exp2 (subf s (broadcastTo S128x512 (rowMax s t) broadcasts_S128x1_S128x512))

def pCtx (s : FVec F S128x512 .f32) (t : FVec F S128x256 .f32) : FVec F S128x256 .f32 :=
  exp2 (subf t (broadcastTo S128x256 (rowMax s t) broadcasts_S128x1_S128x256))

/-- The weighted values over the sum of the weights, each row of each head. -/
def mixed (p : FVec F S128x512 .f32) (t : FVec F S128x256 .f32) (v : Vec F S512x128 .bf16) (cv : Vec F S256x128 .bf16) :
    FVec F S128x128 .f32 :=
  divf (addf (matmul dot_S128x512_S512x128_S128x128_1_0_0_1_n_n none (truncf .bf16 p bitsLt_bf16_f32)
        (shapeCast S512x128 v shapeCasts_S512x128_S512x128 : FVec F S512x128 .bf16) (constant S128x128 .f32 0x00000000#32))
      (matmul dot_S128x256_S256x128_S128x128_1_0_0_1_n_n none (truncf .bf16 t bitsLt_bf16_f32)
        (shapeCast S256x128 cv shapeCasts_S256x128_S256x128 : FVec F S256x128 .bf16) (constant S128x128 .f32 0x00000000#32)))
    (broadcastTo S128x128 (rowSum p t) broadcasts_S128x1_S128x128)

/-- Each lane from its own head's row. -/
def heads1 (o : FVec F S128x128 .f32) : FVec F S64x128 .bf16 :=
  truncf .bf16 (select (broadcastTo S64x128 (shapeCast S1x128 lanesLo shapeCasts_S1x128_S1x128) broadcasts_S1x128_S64x128)
    (extractStridedSlice S64x128 ![0, 0] o slices_S128x128_o0_0_S64x128)
    (extractStridedSlice S64x128 ![64, 0] o slices_S128x128_o64_0_S64x128)) bitsLt_bf16_f32

/-- One unit of the body. -/
def unit (q : Vec F S64x128 .bf16) (k v : Vec F S512x128 .bf16) (ck cv : Vec F S256x128 .bf16)
    (b0 b1 : Vec F S1x1x64x512 .f32) : FVec F S64x128 .bf16 :=
  heads1 (mixed (pLoc (sLoc q b0 b1 k) (sCtx q ck)) (pCtx (sLoc q b0 b1 k) (sCtx q ck)) v cv)

/-- The first row of the band of keys of grid row `r`. -/
def band (r : Nat) : Nat := min (r - 4) 24

theorem inb2 {n0 n1 a0 a1 : Nat} (o0 o1 : Nat) (h0 : o0 + a0 ≤ n0) (h1 : o1 + a1 ≤ n1) :
    ∀ a, (![o0, o1] : Fin 2 → Nat) a + (⟨2, ![a0, a1]⟩ : Shape).size a ≤ (⟨2, ![n0, n1]⟩ : Shape).size a := by
  intro a; match a with
  | ⟨0, _⟩ => exact h0
  | ⟨1, _⟩ => exact h1

theorem inb4 (h s : Nat) (hh : h < 4) (hs : s < 8) :
    ∀ a, (![h, s, 0, 0] : Fin 4 → Nat) a + S1x1x64x512.size a ≤ S4x8x64x512.size a := by
  intro a; match a with
  | ⟨0, _⟩ => exact hh
  | ⟨1, _⟩ => exact hs
  | ⟨2, _⟩ => exact le_refl 64
  | ⟨3, _⟩ => exact le_refl 512

/-- The blocks of unit `(u, r)` in the windows' arrays. -/
abbrev qRect (u : Fin 2) (r : Fin 32) : Rect S2048x256 :=
  Rect.unit (s := S2048x256) ![64 * r.val, 128 * u.val] S64x128.size (inb2 _ _ (by omega) (by omega))
abbrev kRect (u : Fin 2) (r : Fin 32) : Rect S2048x256 :=
  Rect.unit (s := S2048x256) ![64 * band r.val, 128 * u.val] S512x128.size
    (inb2 _ _ (by unfold band; omega) (by omega))
abbrev cRect (u : Fin 2) : Rect S256x256 :=
  Rect.unit (s := S256x256) ![0, 128 * u.val] S256x128.size (inb2 _ _ (by omega) (by omega))
abbrev bRect (u : Fin 2) (e : Fin 2) (r : Fin 32) : Rect S4x8x64x512 :=
  Rect.unit (s := S4x8x64x512) ![2 * u.val + e.val, r.val - band r.val, 0, 0] S1x1x64x512.size
    (inb4 _ _ (by omega) (by unfold band; omega))

/-- The tile that unit `(u, r)` stores. -/
def tile (x0 x1 x2 : Vec F S2048x256 .bf16) (x3 x4 : Vec F S256x256 .bf16) (x5 : Vec F S4x8x64x512 .f32)
    (u : Fin 2) (r : Fin 32) : FVec F S64x128 .bf16 :=
  unit (View.ld x0 (qRect u r)) (View.ld x1 (kRect u r)) (View.ld x2 (kRect u r)) (View.ld x3 (cRect u))
    (View.ld x4 (cRect u)) (View.ld x5 (bRect u 0 r)) (View.ld x5 (bRect u 1 r))

/-- Store `n` counted from the last. -/
def piece (x0 x1 x2 : Vec F S2048x256 .bf16) (x3 x4 : Vec F S256x256 .bf16) (x5 : Vec F S4x8x64x512 .f32)
    (n : Fin 64) : View.Piece (Elt F) S2048x256 .bf16 :=
  ⟨qRect ⟨(63 - n.val) / 32, by omega⟩ ⟨(63 - n.val) % 32, by omega⟩,
    tile x0 x1 x2 x3 x4 x5 ⟨(63 - n.val) / 32, by omega⟩ ⟨(63 - n.val) % 32, by omega⟩⟩

/-- The body's result is its 64 tiles. -/
theorem out_eq (x0 x1 x2 : Vec F S2048x256 .bf16) (x3 x4 : Vec F S256x256 .bf16) (x5 : Vec F S4x8x64x512 .f32) :
    out0_6 x0 x1 x2 x3 x4 x5 = View.canon (List.ofFn (piece x0 x1 x2 x3 x4 x5)) := by
  unfold out0_6
  rfl

end Cert.KernelIdeal.Na

end
-- ==== Proof.NaRow.lean ====
/- One row of the attention over the ideal values: the row that takes its powers of two of scores scaled by `1 / log 2` and
   divides once, after the products with the values, is the row of the softmax's own text. -/
module

public import Idealize.ShloMosaic.PureOps.Ideal
public import Idealize.ShloMosaic.PureOps.Ideal.Laws
public import Mathlib.Data.EReal.Inv
public import Mathlib.Algebra.BigOperators.Fin
public import Mathlib.Analysis.SpecialFunctions.Pow.Real
public import Mathlib.Order.CompleteLattice.Finset

@[expose] public section

noncomputable section

namespace Cert.NaRow

open Idealize.ShloMosaic

variable {ι κ : Type} [Fintype ι] [Fintype κ]

/-- `1 / log 2`. -/
def lg : EReal := ((Real.log 2)⁻¹ : ℝ)

theorem lg_pos : 0 < lg := by
  unfold lg; exact_mod_cast inv_pos.mpr (Real.log_pos one_lt_two)

theorem lg_ne_top : lg ≠ ⊤ := EReal.coe_ne_top _

theorem lg_mul_add (x y : EReal) : lg * (x + y) = lg * x + lg * y :=
  EReal.left_distrib_of_nonneg_of_ne_top lg_pos.le lg_ne_top x y

theorem lg_mul_sub (x y : EReal) : lg * (x - y) = lg * x - lg * y := by
  rw [sub_eq_add_neg, sub_eq_add_neg, lg_mul_add, mul_neg]

theorem mul_sum_of_nonneg {c : EReal} (h0 : 0 ≤ c) (ht : c ≠ ⊤) (f : ι → EReal) :
    c * ∑ i, f i = ∑ i, c * f i := by
  classical
  induction (Finset.univ : Finset ι) using Finset.induction_on with
  | empty => simp
  | insert a s ha ih =>
    rw [Finset.sum_insert ha, Finset.sum_insert ha, EReal.left_distrib_of_nonneg_of_ne_top h0 ht, ih]

theorem lg_mono : Monotone fun x : EReal => lg * x := fun _ _ h => mul_le_mul_of_nonneg_left h lg_pos.le

theorem lg_mul_sup (f : ι → EReal) : lg * Finset.univ.sup f = Finset.univ.sup fun i => lg * f i := by
  refine Finset.comp_sup_eq_sup_comp (fun x => lg * x) (fun x y => ?_) (EReal.mul_bot_of_pos lg_pos)
  exact lg_mono.map_sup x y

theorem exp2_lg (x : EReal) : Ideal.exp2 (lg * x) = Ideal.exp x := by
  induction x with
  | bot => rw [EReal.mul_bot_of_pos lg_pos]; rfl
  | top => rw [EReal.mul_top_of_pos lg_pos]; rfl
  | coe r =>
    unfold lg
    rw [← EReal.coe_mul]
    show ((Real.rpow 2 ((Real.log 2)⁻¹ * r) : ℝ) : EReal) = (Real.exp r : EReal)
    congr 1
    have h : Real.log 2 ≠ 0 := (Real.log_pos one_lt_two).ne'
    show (2 : ℝ) ^ ((Real.log 2)⁻¹ * r) = _
    rw [Real.rpow_def_of_pos two_pos, ← mul_assoc, mul_inv_cancel₀ h, one_mul]

theorem exp_nonneg (x : EReal) : 0 ≤ Ideal.exp x := by
  induction x with
  | bot => exact le_refl 0
  | top => exact le_top
  | coe r => show (0 : EReal) ≤ (Real.exp r : EReal); exact_mod_cast (Real.exp_pos r).le

theorem exp_pos_of {x : EReal} (h : x ≠ ⊥) : 0 < Ideal.exp x := by
  induction x with
  | bot => exact absurd rfl h
  | top => exact EReal.zero_lt_top
  | coe r => show (0 : EReal) < (Real.exp r : EReal); exact_mod_cast Real.exp_pos r

/-- The largest score of a row. -/
def top (s : ι → EReal) (t : κ → EReal) : EReal := Finset.univ.sup s ⊔ Finset.univ.sup t

/-- The softmax's row, each weight divided by the sum of the weights. -/
def refRow (s : ι → EReal) (t : κ → EReal) (v : ι → EReal) (w : κ → EReal) : EReal :=
  (∑ k, Ideal.div (Ideal.exp (s k - top s t)) (∑ i, Ideal.exp (s i - top s t) + ∑ i, Ideal.exp (t i - top s t)) * v k)
    + ∑ k, Ideal.div (Ideal.exp (t k - top s t)) (∑ i, Ideal.exp (s i - top s t) + ∑ i, Ideal.exp (t i - top s t)) * w k

/-- The row in powers of two, divided once. -/
def kerRow (s : ι → EReal) (t : κ → EReal) (v : ι → EReal) (w : κ → EReal) : EReal :=
  Ideal.div ((∑ k, Ideal.exp2 (s k - top s t) * v k) + ∑ k, Ideal.exp2 (t k - top s t) * w k)
    (∑ i, Ideal.exp2 (s i - top s t) + ∑ i, Ideal.exp2 (t i - top s t))

theorem top_lg (s : ι → EReal) (t : κ → EReal) :
    top (fun i => lg * s i) (fun i => lg * t i) = lg * top s t := by
  unfold top
  rw [← lg_mul_sup, ← lg_mul_sup]
  exact (lg_mono.map_sup _ _).symm

theorem inv_ne_top (d : EReal) : d⁻¹ ≠ ⊤ := by
  induction d with
  | bot => simp
  | top => simp
  | coe r => rw [← EReal.coe_inv]; exact EReal.coe_ne_top _

theorem top_ne_top {s : ι → EReal} {t : κ → EReal} (hs : ∀ i, s i ≠ ⊤) (ht : ∀ i, t i ≠ ⊤) : top s t ≠ ⊤ := by
  have h1 : Finset.univ.sup s < ⊤ := (Finset.sup_lt_iff bot_lt_top).mpr fun i _ => lt_top_iff_ne_top.mpr (hs i)
  have h2 : Finset.univ.sup t < ⊤ := (Finset.sup_lt_iff bot_lt_top).mpr fun i _ => lt_top_iff_ne_top.mpr (ht i)
  exact (sup_lt_iff.mpr ⟨h1, h2⟩).ne

/-- The two rows agree where no score is `+∞` and some score of the context is real. -/
theorem kerRow_eq (s : ι → EReal) (t : κ → EReal) (v : ι → EReal) (w : κ → EReal) (hs : ∀ i, s i ≠ ⊤)
    (ht : ∀ i, t i ≠ ⊤) (k : κ) (hk : t k ≠ ⊥) :
    kerRow (fun i => lg * s i) (fun i => lg * t i) v w = refRow s t v w := by
  unfold kerRow refRow
  rw [top_lg]
  simp only [← lg_mul_sub, exp2_lg]
  have hd0 : 0 < ∑ i, Ideal.exp (s i - top s t) + ∑ i, Ideal.exp (t i - top s t) := by
    refine lt_of_lt_of_le ?_ (le_add_of_nonneg_left (Finset.sum_nonneg fun i _ => exp_nonneg _))
    refine lt_of_lt_of_le (exp_pos_of ?_)
      (Finset.single_le_sum (f := fun i => Ideal.exp (t i - top s t)) (fun i _ => exp_nonneg _) (Finset.mem_univ k))
    rw [sub_eq_add_neg, Ne, EReal.add_eq_bot_iff, EReal.neg_eq_bot_iff]
    exact fun h => h.elim hk (top_ne_top hs ht)
  generalize ∑ i, Ideal.exp (s i - top s t) + ∑ i, Ideal.exp (t i - top s t) = d at hd0
  have hdiv : ∀ x, Ideal.div x d = d⁻¹ * x := fun x => by
    unfold Ideal.div; rw [if_neg hd0.ne', mul_comm]
  have hi0 : 0 ≤ d⁻¹ := EReal.inv_nonneg_of_nonneg hd0.le
  have hit := inv_ne_top d
  simp only [hdiv]
  rw [EReal.left_distrib_of_nonneg_of_ne_top hi0 hit, mul_sum_of_nonneg hi0 hit, mul_sum_of_nonneg hi0 hit]
  simp only [mul_assoc]

/-! ### The largest of and the sum over a row taken in tiles of 128 -/

theorem sup_tiles4 (f : Fin 512 → EReal) :
    (Finset.univ.sup fun j : Fin 128 => ((f ⟨j.val, by omega⟩ ⊔ f ⟨128 + j.val, by omega⟩) ⊔ f ⟨256 + j.val, by omega⟩)
      ⊔ f ⟨384 + j.val, by omega⟩) = Finset.univ.sup f := by
  refine le_antisymm (Finset.sup_le fun j _ => ?_) (Finset.sup_le fun i _ => ?_)
  · exact sup_le (sup_le (sup_le (Finset.le_sup (Finset.mem_univ _)) (Finset.le_sup (Finset.mem_univ _)))
      (Finset.le_sup (Finset.mem_univ _))) (Finset.le_sup (Finset.mem_univ _))
  · refine le_trans ?_ (Finset.le_sup (Finset.mem_univ (⟨i.val % 128, by omega⟩ : Fin 128)))
    have h : i.val / 128 = 0 ∨ i.val / 128 = 1 ∨ i.val / 128 = 2 ∨ i.val / 128 = 3 := by omega
    rcases h with h | h | h | h
    · exact le_sup_of_le_left (le_sup_of_le_left (le_sup_of_le_left (le_of_eq (congrArg f (Fin.ext (by show i.val = i.val % 128; omega))))))
    · exact le_sup_of_le_left (le_sup_of_le_left (le_sup_of_le_right (le_of_eq (congrArg f (Fin.ext (by show i.val = 128 + i.val % 128; omega))))))
    · exact le_sup_of_le_left (le_sup_of_le_right (le_of_eq (congrArg f (Fin.ext (by show i.val = 256 + i.val % 128; omega)))))
    · exact le_sup_of_le_right (le_of_eq (congrArg f (Fin.ext (by show i.val = 384 + i.val % 128; omega))))

theorem sup_tiles2 (f : Fin 256 → EReal) :
    (Finset.univ.sup fun j : Fin 128 => f ⟨j.val, by omega⟩ ⊔ f ⟨128 + j.val, by omega⟩) = Finset.univ.sup f := by
  refine le_antisymm (Finset.sup_le fun j _ => ?_) (Finset.sup_le fun i _ => ?_)
  · exact sup_le (Finset.le_sup (Finset.mem_univ _)) (Finset.le_sup (Finset.mem_univ _))
  · refine le_trans ?_ (Finset.le_sup (Finset.mem_univ (⟨i.val % 128, by omega⟩ : Fin 128)))
    have h : i.val / 128 = 0 ∨ i.val / 128 = 1 := by omega
    rcases h with h | h
    · exact le_sup_of_le_left (le_of_eq (congrArg f (Fin.ext (by show i.val = i.val % 128; omega))))
    · exact le_sup_of_le_right (le_of_eq (congrArg f (Fin.ext (by show i.val = 128 + i.val % 128; omega))))

theorem sup_tiles (f : Fin 512 → EReal) (g : Fin 256 → EReal) :
    (Finset.univ.sup fun j : Fin 128 => ((((f ⟨j.val, by omega⟩ ⊔ f ⟨128 + j.val, by omega⟩) ⊔ f ⟨256 + j.val, by omega⟩)
      ⊔ f ⟨384 + j.val, by omega⟩) ⊔ g ⟨j.val, by omega⟩) ⊔ g ⟨128 + j.val, by omega⟩) = top f g := by
  unfold top
  rw [← sup_tiles4 f, ← sup_tiles2 g, ← Finset.sup_sup]
  exact Finset.sup_congr rfl fun j _ => sup_assoc _ _ _

theorem sum_tiles2 (f : Fin 256 → EReal) :
    ∑ i, f i = (∑ j : Fin 128, f ⟨j.val, by omega⟩) + ∑ j : Fin 128, f ⟨128 + j.val, by omega⟩ :=
  Fin.sum_univ_add (a := 128) (b := 128) f

theorem sum_tiles4 (f : Fin 512 → EReal) :
    ∑ i, f i = (((∑ j : Fin 128, f ⟨j.val, by omega⟩) + ∑ j : Fin 128, f ⟨128 + j.val, by omega⟩)
      + ∑ j : Fin 128, f ⟨256 + j.val, by omega⟩) + ∑ j : Fin 128, f ⟨384 + j.val, by omega⟩ := by
  refine (Fin.sum_univ_add (a := 384) (b := 128) f).trans (congrArg₂ (· + ·) ?_ rfl)
  refine (Fin.sum_univ_add (a := 256) (b := 128) (fun i : Fin 384 => f ⟨i.val, by omega⟩)).trans (congrArg₂ (· + ·) ?_ rfl)
  exact Fin.sum_univ_add (a := 128) (b := 128) (fun i : Fin 256 => f ⟨i.val, by omega⟩)

theorem sum_tiles (f : Fin 512 → EReal) (g : Fin 256 → EReal) :
    (∑ j : Fin 128, (((((f ⟨j.val, by omega⟩ + f ⟨128 + j.val, by omega⟩) + f ⟨256 + j.val, by omega⟩)
      + f ⟨384 + j.val, by omega⟩) + g ⟨j.val, by omega⟩) + g ⟨128 + j.val, by omega⟩)) = (∑ i, f i) + ∑ i, g i := by
  rw [sum_tiles4 f, sum_tiles2 g]
  simp only [Finset.sum_add_distrib, add_assoc]

theorem sum_halves (f : Fin 128 → EReal) :
    ∑ i, f i = (∑ j : Fin 64, f ⟨j.val, by omega⟩) + ∑ j : Fin 64, f ⟨64 + j.val, by omega⟩ :=
  Fin.sum_univ_add (a := 64) (b := 64) f

end Cert.NaRow

end
-- ==== Proof.NaUnitAt.lean ====
/- A unit of the neighbourhood-attention body over the ideal values, read at one row and lane: the row of NaRow. -/
module

public import proofs.«01_k».proof.Proof.NaTile
public import proofs.«01_k».proof.Proof.NaRow
public import Idealize.ShloMosaic.Lib.MatmulPlain
public import Idealize.ShloMosaic.Lib.ValueIdx

@[expose] public section

set_option maxRecDepth 16384

noncomputable section

namespace Cert.KernelIdeal.Na

open Cert.KernelIdeal Cert.KernelIdeal.Gen Idealize.ShloMosaic Idealize.ShloMosaic.ValueIdx
open scoped BigOperators

/-! ### The lanes of the two heads -/

theorem lanesLo_apply (l : Fin 128) : lanesLo (ix2 (0 : Fin 1) l) = if l.val < 64 then 1#1 else 0#1 := by
  revert l; unfold lanesLo; decide

theorem lanesHi_apply (l : Fin 128) : lanesHi (ix2 (0 : Fin 1) l) = if l.val < 64 then 0#1 else 1#1 := by
  revert l; unfold lanesHi; decide

theorem mask_apply (c : IVec S1x128 1) (i : Fin 64) (l : Fin 128) :
    broadcastTo S64x128 (shapeCast S1x128 c shapeCasts_S1x128_S1x128) broadcasts_S1x128_S64x128 (ix2 i l)
      = c (ix2 (0 : Fin 1) l) := by
  rw [shapeCast_self]
  exact broadcastTo_apply c _ _ _ (fun a => match a with | ⟨0, _⟩ => rfl | ⟨1, _⟩ => rfl)

theorem zero_bf16 : (Scalar.ofBits .bf16 0x0000#16 : Ideal .bf16) = (0 : EReal) := by
  show Ideal.ofBits .bf16 0x0000#16 = 0
  simp [Ideal.ofBits, Ideal.ieee]

theorem zero_f32 : (Ideal.ofBits .f32 0x00000000#32 : EReal) = 0 := by simp [Ideal.ofBits, Ideal.ieee]

theorem ninf_f32 : (Ideal.ofBits .f32 0xFF800000#32 : EReal) = ⊥ := by simp [Ideal.ofBits, Ideal.ieee]

/-- Row `i` of head `h` among the 128 rows. -/
abbrev row (h : Fin 2) (i : Fin 64) : Fin 128 := ⟨64 * h.val + i.val, by omega⟩

theorem two_parts {n : Nat} {e : EltTy} (x y : (⟨2, ![64, n]⟩ : Shape).Idx → Elt Ideal e)
    (hc : Shape.Concatenates [⟨2, ![64, n]⟩, ⟨2, ![64, n]⟩] ⟨2, ![128, n]⟩ 0) (h : Fin 2) (i : Fin 64) (l : Fin n) :
    concatenate ⟨2, ![128, n]⟩ 0 [⟨⟨2, ![64, n]⟩, x⟩, ⟨⟨2, ![64, n]⟩, y⟩] hc (ix2 (row h i) l)
      = if h = 0 then x (ix2 i l) else y (ix2 i l) := by
  match h with
  | 0 =>
    rw [if_pos rfl]
    exact concatenate_pair_apply_left 0 x y hc _ rfl (ix2 i l)
      (fun b => match b with | ⟨0, _⟩ => (by show i.val = 64 * 0 + i.val; omega) | ⟨1, _⟩ => rfl)
  | 1 =>
    rw [if_neg (by decide)]
    exact concatenate_pair_apply_right 0 x y hc _ rfl rfl (ix2 i l)
      (fun b hb => match b with | ⟨0, _⟩ => absurd rfl hb | ⟨1, _⟩ => rfl)
      (by show i.val + 64 = 64 * 1 + i.val; omega)

theorem rows2_apply (q : Vec Ideal S64x128 .bf16) (h : Fin 2) (i : Fin 64) (l : Fin 128) :
    rows2 q (ix2 (row h i) l) = if l.val / 64 = h.val then q (ix2 i l) else (0 : EReal) := by
  unfold rows2
  refine (two_parts (n := 128) (e := .bf16) _ _ _ h i l).trans ?_
  simp only [select_apply, mask_apply, lanesLo_apply, lanesHi_apply, broadcast_apply, zero_bf16]
  rw [shapeCast_self]
  match h with
  | 0 =>
    rw [if_pos rfl]
    by_cases hl : l.val < 64
    · rw [if_pos hl, if_pos (by show l.val / 64 = 0; omega)]; rfl
    · rw [if_neg hl, if_neg (by show ¬ l.val / 64 = 0; omega)]; rfl
  | 1 =>
    rw [if_neg (by decide)]
    by_cases hl : l.val < 64
    · rw [if_pos hl, if_neg (by show ¬ l.val / 64 = 1; omega)]; rfl
    · rw [if_neg hl, if_pos (by show l.val / 64 = 1; omega)]; rfl

/-- Lane `d` of head `h`. -/
abbrev lane (h : Fin 2) (d : Fin 64) : Fin 128 := ⟨64 * h.val + d.val, by omega⟩

/-- A product over all 128 lanes with the other head's lanes at zero is the product over the own head's. -/
theorem sum_own (q k : Fin 128 → EReal) (h : Fin 2) :
    ∑ l : Fin 128, (if l.val / 64 = h.val then q l else 0) * k l = ∑ d : Fin 64, q (lane h d) * k (lane h d) := by
  rw [NaRow.sum_halves]
  match h with
  | 0 =>
    refine (congrArg₂ (· + ·) (Finset.sum_congr rfl fun d _ => ?_) (Finset.sum_eq_zero fun d _ => ?_)).trans (add_zero _)
    · rw [if_pos (by show d.val / 64 = 0; omega)]
      have e : (⟨d.val, by omega⟩ : Fin 128) = lane 0 d := Fin.ext (by show d.val = 64 * 0 + d.val; omega)
      rw [e]
    · rw [if_neg (by show ¬ (64 + d.val) / 64 = 0; omega), zero_mul]
  | 1 =>
    refine (congrArg₂ (· + ·) (Finset.sum_eq_zero fun d _ => ?_) (Finset.sum_congr rfl fun d _ => ?_)).trans (zero_add _)
    · rw [if_neg (by show ¬ d.val / 64 = 1; omega), zero_mul]
    · rw [if_pos (by show (64 + d.val) / 64 = 1; omega)]; rfl

theorem sLoc_apply (q : Vec Ideal S64x128 .bf16) (b0 b1 : Vec Ideal S1x1x64x512 .f32) (k : Vec Ideal S512x128 .bf16)
    (h : Fin 2) (i : Fin 64) (j : Fin 512) :
    sLoc q b0 b1 k (ix2 (row h i) j)
      = (∑ d : Fin 64, q (ix2 i (lane h d)) * k (ix2 j (lane h d)) : EReal)
        + (if h = 0 then b0 else b1) (ix4 (0 : Fin 1) (0 : Fin 1) i j) := by
  unfold sLoc
  rw [addf_apply]
  refine congrArg₂ (· + ·) ?_ ((two_parts (n := 512) (e := .f32) _ _ _ h i j).trans ?_)
  · refine (Ideal.matmul_transposedRhs_apply none (rows2 q) _ _ (row h i) j).trans ?_
    rw [constant_apply, zero_f32, zero_add, shapeCast_self]
    simp only [rows2_apply]
    exact sum_own (fun l => q (ix2 i l)) (fun l => k (ix2 j l)) h
  · have e : ∀ b : Vec Ideal S1x1x64x512 .f32, shapeCast S64x512 b shapeCasts_S1x1x64x512_S64x512 (ix2 i j)
        = b (ix4 (0 : Fin 1) (0 : Fin 1) i j) := fun b =>
      shapeCast_apply b _ _ _ (by rw [Shape.rowMajor_val_four, Shape.rowMajor_val_two]; show ((0 * 1 + 0) * 64 + i.val) * 512 + j.val = i.val * 512 + j.val; omega)
    rw [e, e]
    split <;> rfl

theorem sCtx_apply (q : Vec Ideal S64x128 .bf16) (ck : Vec Ideal S256x128 .bf16) (h : Fin 2) (i : Fin 64) (j : Fin 256) :
    sCtx q ck (ix2 (row h i) j) = (∑ d : Fin 64, q (ix2 i (lane h d)) * ck (ix2 j (lane h d)) : EReal) := by
  unfold sCtx
  refine (Ideal.matmul_transposedRhs_apply none (rows2 q) _ _ (row h i) j).trans ?_
  rw [constant_apply, zero_f32, zero_add, shapeCast_self]
  simp only [rows2_apply]
  exact sum_own (fun l => q (ix2 i l)) (fun l => ck (ix2 j l)) h

/-! ### The largest score and the sum of the weights of a row -/

theorem slice512 (o : Nat) (s : FVec Ideal S128x512 .f32) (hs : S128x512.Slices ![0, o] S128x128) (ρ l : Fin 128) (ho : o + 128 ≤ 512) :
    extractStridedSlice S128x128 ![0, o] s hs (ix2 ρ l) = s (ix2 ρ (⟨o + l.val, by omega⟩ : Fin 512)) :=
  extractStridedSlice_apply _ s hs _ _ (fun a => match a with
    | ⟨0, _⟩ => (by show ρ.val = 0 + ρ.val; omega) | ⟨1, _⟩ => rfl)

theorem slice256 (o : Nat) (s : FVec Ideal S128x256 .f32) (hs : S128x256.Slices ![0, o] S128x128) (ρ l : Fin 128) (ho : o + 128 ≤ 256) :
    extractStridedSlice S128x128 ![0, o] s hs (ix2 ρ l) = s (ix2 ρ (⟨o + l.val, by omega⟩ : Fin 256)) :=
  extractStridedSlice_apply _ s hs _ _ (fun a => match a with
    | ⟨0, _⟩ => (by show ρ.val = 0 + ρ.val; omega) | ⟨1, _⟩ => rfl)

theorem column_apply (x : S128.Idx → EReal) (ρ : Fin 128) :
    shapeCast S128x1 x shapeCasts_S128_S128x1 (ix2 ρ (0 : Fin 1)) = x (ix1 ρ) :=
  shapeCast_apply x _ _ _ (by rw [Shape.rowMajor_val_one, Shape.rowMajor_val_two]; show ρ.val = ρ.val * 1 + 0; omega)

theorem lift_row (ρ l : Fin 128) : reduces_S128x128_S128.lift (ix1 ρ) l = ix2 ρ l := by
  funext a; apply Fin.ext
  match a with
  | ⟨0, _⟩ => rfl
  | ⟨1, _⟩ => rfl

theorem rowMax_apply (s : FVec Ideal S128x512 .f32) (t : FVec Ideal S128x256 .f32) (ρ : Fin 128) :
    rowMax s t (ix2 ρ (0 : Fin 1)) = NaRow.top (fun j : Fin 512 => s (ix2 ρ j)) (fun j : Fin 256 => t (ix2 ρ j)) := by
  unfold rowMax
  rw [column_apply]
  refine (Ideal.multiReduction_maximumf_single _ _ reduces_S128x128_S128 _ _ (ix1 ρ)).trans ?_
  show Finset.univ.fold max (Ideal.ofBits .f32 0xFF800000#32) _ = _
  rw [ninf_f32, ← NaRow.sup_tiles]
  refine Finset.fold_congr fun (l : Fin 128) _ => ?_
  refine (congrArg (maximumf _ _) (lift_row ρ l)).trans ?_
  simp only [maximumf_apply, locTile, ctxTile]
  rw [slice512 0 _ _ _ _ (by omega), slice512 128 _ _ _ _ (by omega), slice512 256 _ _ _ _ (by omega),
    slice512 384 _ _ _ _ (by omega), slice256 0 _ _ _ _ (by omega), slice256 128 _ _ _ _ (by omega)]
  simp only [Nat.zero_add]

theorem rowSum_apply (s : FVec Ideal S128x512 .f32) (t : FVec Ideal S128x256 .f32) (ρ : Fin 128) :
    rowSum s t (ix2 ρ (0 : Fin 1)) = (∑ j : Fin 512, s (ix2 ρ j) : EReal) + ∑ j : Fin 256, t (ix2 ρ j) := by
  unfold rowSum
  rw [column_apply]
  refine (Ideal.multiReduction_add_single _ _ reduces_S128x128_S128 _ _ (ix1 ρ)).trans ?_
  rw [← NaRow.sum_tiles]
  refine Finset.sum_congr rfl fun (l : Fin 128) _ => ?_
  refine (congrArg (addf _ _) (lift_row ρ l)).trans ?_
  simp only [addf_apply, locTile, ctxTile]
  rw [slice512 0 _ _ _ _ (by omega), slice512 128 _ _ _ _ (by omega), slice512 256 _ _ _ _ (by omega),
    slice512 384 _ _ _ _ (by omega), slice256 0 _ _ _ _ (by omega), slice256 128 _ _ _ _ (by omega)]
  simp only [Nat.zero_add]

theorem pLoc_apply (s : FVec Ideal S128x512 .f32) (t : FVec Ideal S128x256 .f32) (ρ : Fin 128) (j : Fin 512) :
    pLoc s t (ix2 ρ j) = Ideal.exp2 (s (ix2 ρ j) - NaRow.top (fun j : Fin 512 => s (ix2 ρ j)) (fun j : Fin 256 => t (ix2 ρ j))) := by
  unfold pLoc
  show Ideal.exp2 (s (ix2 ρ j) - broadcastTo S128x512 (rowMax s t) broadcasts_S128x1_S128x512 (ix2 ρ j)) = _
  rw [broadcastTo_apply (rowMax s t) _ _ (ix2 ρ (0 : Fin 1)) (fun a => match a with | ⟨0, _⟩ => rfl | ⟨1, _⟩ => rfl), rowMax_apply]

theorem pCtx_apply (s : FVec Ideal S128x512 .f32) (t : FVec Ideal S128x256 .f32) (ρ : Fin 128) (j : Fin 256) :
    pCtx s t (ix2 ρ j) = Ideal.exp2 (t (ix2 ρ j) - NaRow.top (fun j : Fin 512 => s (ix2 ρ j)) (fun j : Fin 256 => t (ix2 ρ j))) := by
  unfold pCtx
  show Ideal.exp2 (t (ix2 ρ j) - broadcastTo S128x256 (rowMax s t) broadcasts_S128x1_S128x256 (ix2 ρ j)) = _
  rw [broadcastTo_apply (rowMax s t) _ _ (ix2 ρ (0 : Fin 1)) (fun a => match a with | ⟨0, _⟩ => rfl | ⟨1, _⟩ => rfl), rowMax_apply]

theorem mixed_apply (p : FVec Ideal S128x512 .f32) (t : FVec Ideal S128x256 .f32) (v : Vec Ideal S512x128 .bf16)
    (cv : Vec Ideal S256x128 .bf16) (ρ l : Fin 128) :
    mixed p t v cv (ix2 ρ l)
      = Ideal.div ((∑ j : Fin 512, p (ix2 ρ j) * v (ix2 j l) : EReal) + ∑ j : Fin 256, t (ix2 ρ j) * cv (ix2 j l))
          ((∑ j : Fin 512, p (ix2 ρ j)) + ∑ j : Fin 256, t (ix2 ρ j)) := by
  unfold mixed
  rw [divf_apply, addf_apply,
    broadcastTo_apply (rowSum p t) _ _ (ix2 ρ (0 : Fin 1)) (fun a => match a with | ⟨0, _⟩ => rfl | ⟨1, _⟩ => rfl), rowSum_apply]
  refine congrArg (fun x : EReal => Ideal.div x _) (congrArg₂ (· + ·) ?_ ?_)
  · refine (Ideal.matmul_plain_apply none _ _ _ ρ l).trans ?_
    rw [constant_apply, zero_f32, zero_add, shapeCast_self]; rfl
  · refine (Ideal.matmul_plain_apply none _ _ _ ρ l).trans ?_
    rw [constant_apply, zero_f32, zero_add, shapeCast_self]; rfl

theorem heads1_apply (o : FVec Ideal S128x128 .f32) (i : Fin 64) (h : Fin 2) (d : Fin 64) :
    heads1 o (ix2 i (lane h d)) = o (ix2 (row h i) (lane h d)) := by
  unfold heads1
  rw [truncf_apply, select_apply, mask_apply, lanesLo_apply]
  match h with
  | 0 =>
    rw [if_pos (by show 64 * 0 + d.val < 64; omega), select_one]
    exact extractStridedSlice_apply _ o _ _ _ (fun a => match a with
      | ⟨0, _⟩ => (by show 64 * 0 + i.val = 0 + i.val; omega) | ⟨1, _⟩ => (by show 64 * 0 + d.val = 0 + (64 * 0 + d.val); omega))
  | 1 =>
    rw [if_neg (by show ¬ 64 * 1 + d.val < 64; omega), select_zero]
    exact extractStridedSlice_apply _ o _ _ _ (fun a => match a with
      | ⟨0, _⟩ => (by show 64 * 1 + i.val = 64 + i.val; omega) | ⟨1, _⟩ => (by show 64 * 1 + d.val = 0 + (64 * 1 + d.val); omega))

/-- A unit at row `i` and lane `d` of head `h`. -/
theorem unit_apply (q : Vec Ideal S64x128 .bf16) (k v : Vec Ideal S512x128 .bf16) (ck cv : Vec Ideal S256x128 .bf16)
    (b0 b1 : Vec Ideal S1x1x64x512 .f32) (i : Fin 64) (h : Fin 2) (d : Fin 64) :
    unit q k v ck cv b0 b1 (ix2 i (lane h d))
      = NaRow.kerRow
          (fun j : Fin 512 => (∑ e : Fin 64, q (ix2 i (lane h e)) * k (ix2 j (lane h e)) : EReal)
            + (if h = 0 then b0 else b1) (ix4 (0 : Fin 1) (0 : Fin 1) i j))
          (fun j : Fin 256 => ∑ e : Fin 64, q (ix2 i (lane h e)) * ck (ix2 j (lane h e)))
          (fun j => v (ix2 j (lane h d))) (fun j => cv (ix2 j (lane h d))) := by
  unfold unit
  rw [heads1_apply, mixed_apply]
  simp only [pLoc_apply, pCtx_apply, sLoc_apply, sCtx_apply]
  rfl

end Cert.KernelIdeal.Na

end
-- ==== Proof.NaHost.lean ====
/- What the neighbourhood-attention launch finds in its operands: the layout that the host code prepares, read at an index. -/
module

public import proofs.«01_k».proof.Proof.Gen.KernelIdeal.Frame
public import proofs.«01_k».proof.Proof.NaRow
public import Idealize.ShloMosaic.Lib.ValueIdx
public import Idealize.ShloMosaic.Lib.Claim
public import Idealize.ShloMosaic.Lib.StableHlo.RunRead
public import Idealize.ShloMosaic.Lib.Pipeline.Value

@[expose] public section

set_option maxRecDepth 16384

noncomputable section

namespace Cert.KernelIdeal.Na

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

abbrev argQ : FVec Ideal S16x2048x512 .f32 := m ((c : Thread nD τ).loc main_arg0)
abbrev argK : FVec Ideal S16x2048x512 .f32 := m ((c : Thread nD τ).loc main_arg1)
abbrev argV : FVec Ideal S16x2048x512 .f32 := m ((c : Thread nD τ).loc main_arg2)
abbrev argKc : FVec Ideal S16x256x512 .f32 := m ((c : Thread nD τ).loc main_arg3)
abbrev argVc : FVec Ideal S16x256x512 .f32 := m ((c : Thread nD τ).loc main_arg4)
abbrev argB : FVec Ideal S8x8x64x512 .f32 := m ((c : Thread nD τ).loc main_arg5)

/-- `1 / log 2` as the host computes it. -/
def hostLg : FVec Ideal S_ .f32 := Host.divf (constant S_ .f32 0x3F800000#32) (Host.log (constant S_ .f32 0x40000000#32))

theorem hostLg_apply (i : S_.Idx) : hostLg i = NaRow.lg := by
  show Ideal.div (Ideal.ofBits .f32 0x3F800000#32) (Ideal.log (Ideal.ofBits .f32 0x40000000#32)) = _
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : (0:ℝ) < Real.log 2 := Real.log_pos one_lt_two
  rw [h1, h2]
  have h3 : Ideal.log ((2 : ℝ) : EReal) = ((Real.log 2 : ℝ) : EReal) := by
    show (if (2:ℝ) ≤ 0 then (⊥ : EReal) else (Real.log 2 : ℝ)) = _
    rw [if_neg (by norm_num)]
  rw [h3]
  unfold Ideal.div NaRow.lg
  rw [if_neg (by exact_mod_cast hl.ne'), ← EReal.coe_inv, EReal.coe_one, one_mul]

/-- The queries, scaled, as rows. -/
def rowsQ : FVec Ideal S32768x512 .f32 :=
  mulf (shapeCast S32768x512 (argQ m c) shapeCasts_S16x2048x512_S32768x512)
    (broadcastInDim S32768x512 ![] bcast_S_S32768x512 (mulf (constant S_ .f32 0x3E000000#32) hostLg))

theorem V10 : V m c main_v10 = truncf (F := Ideal) (φ := .f32) .bf16 (concatenate S32768x3584 1
      [⟨S32768x2048, broadcastInDim S32768x2048 ![] bcast_S_S32768x2048 (constant S_ .f32 0x00000000#32)⟩, ⟨S32768x512, rowsQ m c⟩,
       ⟨S32768x512, shapeCast S32768x512 (argK m c) shapeCasts_S16x2048x512_S32768x512⟩,
       ⟨S32768x512, shapeCast S32768x512 (argV m c) shapeCasts_S16x2048x512_S32768x512⟩]
      concatenates_S32768x2048_S32768x512_S32768x512_S32768x512_S32768x3584_d1) bitsLt_bf16_f32 := by
  unfold_abbrev_sides
  after_results
  rfl

theorem V15 : V m c main_v15 = truncf (F := Ideal) (φ := .f32) .bf16 (concatenate S4096x2048 1
      [⟨S4096x1024, broadcastInDim S4096x1024 ![] bcast_S_S4096x1024 (constant S_ .f32 0x00000000#32)⟩,
       ⟨S4096x512, shapeCast S4096x512 (argKc m c) shapeCasts_S16x256x512_S4096x512⟩,
       ⟨S4096x512, shapeCast S4096x512 (argVc m c) shapeCasts_S16x256x512_S4096x512⟩]
      concatenates_S4096x1024_S4096x512_S4096x512_S4096x2048_d1) bitsLt_bf16_f32 := by
  unfold_abbrev_sides
  after_results
  rfl

theorem V17 : V m c main_v17 = mulf (F := Ideal) (φ := .f32) (argB m c) (broadcastInDim S8x8x64x512 ![] bcast_S_S8x8x64x512 hostLg) := by
  unfold_abbrev_sides
  after_results
  rfl

theorem eighth : Ideal.ofBits .f32 0x3E000000#32 = ((1/8 : ℝ) : EReal) := by
  simp [Ideal.ofBits, Ideal.ieee, -EReal.coe_mul]; norm_num

theorem cast_row {α : Type} (x : S16x2048x512.Idx → α) (b : Fin 16) (n : Fin 2048) (l : Fin 512) (h) :
    shapeCast S32768x512 x h (ix2 (⟨2048 * b.val + n.val, by omega⟩ : Fin 32768) l) = x (ix3 b n l) := by
  refine shapeCast_apply x h _ _ ?_
  rw [Shape.rowMajor_val_three, Shape.rowMajor_val_two]
  show (b.val * 2048 + n.val) * 512 + l.val = (2048 * b.val + n.val) * 512 + l.val
  ring

theorem cast_crow {α : Type} (x : S16x256x512.Idx → α) (b : Fin 16) (n : Fin 256) (l : Fin 512) (h) :
    shapeCast S4096x512 x h (ix2 (⟨256 * b.val + n.val, by omega⟩ : Fin 4096) l) = x (ix3 b n l) := by
  refine shapeCast_apply x h _ _ ?_
  rw [Shape.rowMajor_val_three, Shape.rowMajor_val_two]
  show (b.val * 256 + n.val) * 512 + l.val = (256 * b.val + n.val) * 512 + l.val
  ring

theorem V10_q (b : Fin 16) (n : Fin 2048) (l : Fin 512) :
    (V m c main_v10 : FVec Ideal S32768x3584 .bf16) (ix2 (⟨2048 * b.val + n.val, by omega⟩ : Fin 32768) (⟨2048 + l.val, by omega⟩ : Fin 3584))
      = argQ m c (ix3 b n l) * (((1/8 : ℝ) : EReal) * NaRow.lg) := by
  rw [V10, truncf_apply]
  refine (concatenate_apply_piece (t := S32768x3584) 1 _ _ _ 1 (by simp only [List.length_cons, List.length_nil]; omega) S32768x512 (rowsQ m c) rfl rfl 2048 (by rfl)
    (ix2 (⟨2048 * b.val + n.val, by omega⟩ : Fin 32768) l) ?_ rfl).trans ?_
  · intro a ha
    match a with
    | ⟨0, _⟩ => rfl
    | ⟨1, _⟩ => exact absurd rfl ha
  · show shapeCast S32768x512 (argQ m c) _ _ * (Ideal.ofBits .f32 0x3E000000#32 * hostLg _) = _
    rw [cast_row, hostLg_apply, eighth]

theorem V10_k (b : Fin 16) (n : Fin 2048) (l : Fin 512) :
    (V m c main_v10 : FVec Ideal S32768x3584 .bf16) (ix2 (⟨2048 * b.val + n.val, by omega⟩ : Fin 32768) (⟨2560 + l.val, by omega⟩ : Fin 3584))
      = argK m c (ix3 b n l) := by
  rw [V10, truncf_apply]
  refine (concatenate_apply_piece (t := S32768x3584) 1 _ _ _ 2 (by simp only [List.length_cons, List.length_nil]; omega) S32768x512 _ rfl rfl 2560 (by rfl)
    (ix2 (⟨2048 * b.val + n.val, by omega⟩ : Fin 32768) l) ?_ rfl).trans (cast_row _ b n l _)
  intro a ha
  match a with
  | ⟨0, _⟩ => rfl
  | ⟨1, _⟩ => exact absurd rfl ha

theorem V10_v (b : Fin 16) (n : Fin 2048) (l : Fin 512) :
    (V m c main_v10 : FVec Ideal S32768x3584 .bf16) (ix2 (⟨2048 * b.val + n.val, by omega⟩ : Fin 32768) (⟨3072 + l.val, by omega⟩ : Fin 3584))
      = argV m c (ix3 b n l) := by
  rw [V10, truncf_apply]
  refine (concatenate_apply_piece (t := S32768x3584) 1 _ _ _ 3 (by simp only [List.length_cons, List.length_nil]; omega) S32768x512 _ rfl rfl 3072 (by rfl)
    (ix2 (⟨2048 * b.val + n.val, by omega⟩ : Fin 32768) l) ?_ rfl).trans (cast_row _ b n l _)
  intro a ha
  match a with
  | ⟨0, _⟩ => rfl
  | ⟨1, _⟩ => exact absurd rfl ha

theorem V15_k (b : Fin 16) (n : Fin 256) (l : Fin 512) :
    (V m c main_v15 : FVec Ideal S4096x2048 .bf16) (ix2 (⟨256 * b.val + n.val, by omega⟩ : Fin 4096) (⟨1024 + l.val, by omega⟩ : Fin 2048))
      = argKc m c (ix3 b n l) := by
  rw [V15, truncf_apply]
  refine (concatenate_apply_piece (t := S4096x2048) 1 _ _ _ 1 (by simp only [List.length_cons, List.length_nil]; omega) S4096x512 _ rfl rfl 1024 (by rfl)
    (ix2 (⟨256 * b.val + n.val, by omega⟩ : Fin 4096) l) ?_ rfl).trans (cast_crow _ b n l _)
  intro a ha
  match a with
  | ⟨0, _⟩ => rfl
  | ⟨1, _⟩ => exact absurd rfl ha

theorem V15_v (b : Fin 16) (n : Fin 256) (l : Fin 512) :
    (V m c main_v15 : FVec Ideal S4096x2048 .bf16) (ix2 (⟨256 * b.val + n.val, by omega⟩ : Fin 4096) (⟨1536 + l.val, by omega⟩ : Fin 2048))
      = argVc m c (ix3 b n l) := by
  rw [V15, truncf_apply]
  refine (concatenate_apply_piece (t := S4096x2048) 1 _ _ _ 2 (by simp only [List.length_cons, List.length_nil]; omega) S4096x512 _ rfl rfl 1536 (by rfl)
    (ix2 (⟨256 * b.val + n.val, by omega⟩ : Fin 4096) l) ?_ rfl).trans (cast_crow _ b n l _)
  intro a ha
  match a with
  | ⟨0, _⟩ => rfl
  | ⟨1, _⟩ => exact absurd rfl ha

theorem V17_apply (i : S8x8x64x512.Idx) : (V m c main_v17 : FVec Ideal S8x8x64x512 .f32) i = argB m c i * NaRow.lg := by
  rw [V17]
  show argB m c i * hostLg _ = _
  rw [hostLg_apply]

end Cert.KernelIdeal.Na

end
-- ==== Proof.NaSpec.lean ====
/- The attention's result at an index, over plain arrays: the row of the softmax of one query against the keys of its band of
   grid rows and against the context's keys. -/
module

public import proofs.«01_k».proof.Proof.NaRow
public import Idealize.ShloMosaic.Lib.ValueIdx

@[expose] public section

noncomputable section

namespace Cert.NaSpec

open Idealize.ShloMosaic Idealize.ShloMosaic.ValueIdx
open scoped BigOperators

abbrev Lat : Shape := ⟨3, ![16, 2048, 512]⟩
abbrev Ctx : Shape := ⟨3, ![16, 256, 512]⟩
abbrev Bias : Shape := ⟨4, ![8, 8, 64, 512]⟩

/-- The first row of the band of keys of grid row `r`. -/
def band (r : Nat) : Nat := min (r - 4) 24

theorem band_le (r : Nat) : band r ≤ 24 := min_le_right _ _

theorem shift_lt (r : Fin 32) : r.val - band r.val < 8 := by unfold band; omega

/-- One eighth, the square root of the head's width inverted. -/
def eighth : EReal := ((1/8 : ℝ) : EReal)

abbrev lane (h : Fin 8) (e : Fin 64) : Fin 512 := ⟨64 * h.val + e.val, by omega⟩
abbrev pos (r : Fin 32) (i : Fin 64) : Fin 2048 := ⟨64 * r.val + i.val, by omega⟩
abbrev key (r : Fin 32) (j : Fin 512) : Fin 2048 :=
  ⟨64 * band r.val + j.val, by have := band_le r.val; omega⟩

variable (q k v : Lat.Idx → EReal) (kc vc : Ctx.Idx → EReal) (bias : Bias.Idx → EReal)
variable (b : Fin 16) (h : Fin 8) (r : Fin 32) (i : Fin 64)

/-- The scores against the band's keys. -/
def sLoc (j : Fin 512) : EReal :=
  (∑ e : Fin 64, (q (ix3 b (pos r i) (lane h e)) * eighth) * k (ix3 b (key r j) (lane h e)))
    + bias (ix4 h (⟨r.val - band r.val, shift_lt r⟩ : Fin 8) i j)

/-- The scores against the context's keys. -/
def sCtx (j : Fin 256) : EReal :=
  ∑ e : Fin 64, (q (ix3 b (pos r i) (lane h e)) * eighth) * kc (ix3 b j (lane h e))

/-- The result at head `h`, lane `d`. -/
def out (d : Fin 64) : EReal :=
  NaRow.refRow (sLoc q k bias b h r i) (sCtx q kc b h r i)
    (fun j => v (ix3 b (key r j) (lane h d))) (fun j => vc (ix3 b j (lane h d)))

end Cert.NaSpec

end
-- ==== Proof.NaArray.lean ====
/- The neighbourhood-attention launch's result array, index by index. -/
module

public import proofs.«01_k».proof.Proof.Gen.KernelIdeal.Value
public import proofs.«01_k».proof.Proof.NaUnitAt
public import proofs.«01_k».proof.Proof.NaHost
public import proofs.«01_k».proof.Proof.NaSpec
public import Idealize.ShloMosaic.Lib.Pipeline.ValueKit.Tiles
public import Idealize.ShloMosaic.Lib.Pipeline.ValueKit.Point

@[expose] public section

set_option maxRecDepth 16384

noncomputable section

namespace Cert.KernelIdeal.Na

open Idealize.ShloMosaic hiding ix1 ix2 ix3 ix4 ix5 ix6 eq_ix2 eq_ix3 eq_ix4
open Cert.KernelIdeal Cert.KernelIdeal.Gen Idealize.ShloMosaic.ValueIdx Idealize.ShloMosaic.TcCoe
open Idealize.SL.Sem
open Idealize.ShloMosaic.Pipeline (Dat)
open scoped BigOperators

/-- Lane `d` of head `h` of pair `u` among a block's 256 lanes. -/
abbrev col (u h : Fin 2) (d : Fin 64) : Fin 256 := ⟨128 * u.val + (64 * h.val + d.val), by omega⟩
abbrev rowAt (r : Fin 32) (i : Fin 64) : Fin 2048 := ⟨64 * r.val + i.val, by omega⟩
abbrev keyAt (r : Fin 32) (j : Fin 512) : Fin 2048 := ⟨64 * band r.val + j.val, by unfold band; omega⟩

theorem tile_apply (x0 x1 x2 : Vec Ideal S2048x256 .bf16) (x3 x4 : Vec Ideal S256x256 .bf16) (x5 : Vec Ideal S4x8x64x512 .f32)
    (u : Fin 2) (r : Fin 32) (i : Fin 64) (h : Fin 2) (d : Fin 64) :
    tile x0 x1 x2 x3 x4 x5 u r (ix2 i (lane h d)) = NaRow.kerRow
      (fun j : Fin 512 => (∑ e : Fin 64, x0 (ix2 (rowAt r i) (col u h e)) * x1 (ix2 (keyAt r j) (col u h e)) : EReal)
        + x5 (ix4 (⟨2 * u.val + h.val, by omega⟩ : Fin 4) (⟨r.val - band r.val, by unfold band; omega⟩ : Fin 8) i j))
      (fun j : Fin 256 => ∑ e : Fin 64, x0 (ix2 (rowAt r i) (col u h e)) * x3 (ix2 j (col u h e)))
      (fun j => x2 (ix2 (keyAt r j) (col u h d))) (fun j => x4 (ix2 j (col u h d))) := by
  unfold tile
  rw [unit_apply]
  have hq : ∀ e : Fin 64, View.ld x0 (qRect u r) (ix2 i (lane h e)) = x0 (ix2 (rowAt r i) (col u h e)) := fun e =>
    View.ld_unit_apply_of x0 _ _ _ _ _ fun a => match a with | ⟨0, _⟩ => rfl | ⟨1, _⟩ => rfl
  have hk : ∀ (x : Vec Ideal S2048x256 .bf16) (j : Fin 512) (e : Fin 64),
      View.ld x (kRect u r) (ix2 j (lane h e)) = x (ix2 (keyAt r j) (col u h e)) := fun x j e =>
    View.ld_unit_apply_of x _ _ _ _ _ fun a => match a with | ⟨0, _⟩ => rfl | ⟨1, _⟩ => rfl
  have hc : ∀ (x : Vec Ideal S256x256 .bf16) (j : Fin 256) (e : Fin 64),
      View.ld x (cRect u) (ix2 j (lane h e)) = x (ix2 j (col u h e)) := fun x j e =>
    View.ld_unit_apply_of x _ _ _ _ _ fun a => match a with
      | ⟨0, _⟩ => (by show j.val = 0 + j.val; omega) | ⟨1, _⟩ => rfl
  have hb : ∀ (h' : Fin 2) (j : Fin 512), View.ld x5 (bRect u h' r) (ix4 (0 : Fin 1) (0 : Fin 1) i j)
      = x5 (ix4 (⟨2 * u.val + h'.val, by omega⟩ : Fin 4) (⟨r.val - band r.val, by unfold band; omega⟩ : Fin 8) i j) := fun h' j =>
    View.ld_unit_apply_of x5 _ _ _ _ _ fun a => match a with
      | ⟨0, _⟩ => rfl | ⟨1, _⟩ => rfl
      | ⟨2, _⟩ => (by show i.val = 0 + i.val; omega) | ⟨3, _⟩ => (by show j.val = 0 + j.val; omega)
  congr 1
  · funext j
    congr 1
    · exact Finset.sum_congr rfl fun e _ => by rw [hq, hk]
    · match h with
      | 0 => exact hb 0 j
      | 1 => exact hb 1 j
  · funext j
    exact Finset.sum_congr rfl fun e _ => by rw [hq, hc]
  · funext j; exact hk x2 j d
  · funext j; exact hc x4 j d

/-- The body's result at an index of the block. -/
theorem out_apply (x0 x1 x2 : Vec Ideal S2048x256 .bf16) (x3 x4 : Vec Ideal S256x256 .bf16) (x5 : Vec Ideal S4x8x64x512 .f32)
    (u : Fin 2) (r : Fin 32) (i : Fin 64) (h : Fin 2) (d : Fin 64) :
    out0_6 x0 x1 x2 x3 x4 x5 (ix2 (rowAt r i) (col u h d)) = tile x0 x1 x2 x3 x4 x5 u r (ix2 i (lane h d)) := by
  rw [out_eq]
  refine (View.canon_ofFn_eq_of_forall (Val := Elt Ideal) (S := S2048x256) (e := .bf16)
    (fun n : Fin 64 => qRect ⟨(63 - n.val) / 32, by omega⟩ ⟨(63 - n.val) % 32, by omega⟩)
    (fun n => tile x0 x1 x2 x3 x4 x5 ⟨(63 - n.val) / 32, by omega⟩ ⟨(63 - n.val) % 32, by omega⟩)
    (ix2 (rowAt r i) (col u h d)) (tile x0 x1 x2 x3 x4 x5 u r (ix2 i (lane h d))) ?_ ?_ :)
  · refine ⟨⟨63 - (32 * u.val + r.val), by omega⟩, Rect.mem_set_unit.mpr fun a => ?_⟩
    match a with
    | ⟨0, _⟩ =>
      show 64 * ((63 - (63 - (32 * u.val + r.val))) % 32) ≤ 64 * r.val + i.val
        ∧ 64 * r.val + i.val < 64 * ((63 - (63 - (32 * u.val + r.val))) % 32) + 64
      omega
    | ⟨1, _⟩ =>
      show 128 * ((63 - (63 - (32 * u.val + r.val))) / 32) ≤ 128 * u.val + (64 * h.val + d.val)
        ∧ 128 * u.val + (64 * h.val + d.val) < 128 * ((63 - (63 - (32 * u.val + r.val))) / 32) + 128
      omega
  · intro n x hx
    have h0 : 64 * ((63 - n.val) % 32) + 1 * (x 0).val = 64 * r.val + i.val := congrArg (fun y => (y 0).val) hx
    have h1 : 128 * ((63 - n.val) / 32) + 1 * (x 1).val = 128 * u.val + (64 * h.val + d.val) := congrArg (fun y => (y 1).val) hx
    have b0 : (x 0).val < 64 := (x 0).isLt
    have b1 : (x 1).val < 128 := (x 1).isLt
    have hu : (⟨(63 - n.val) / 32, by omega⟩ : Fin 2) = u := Fin.ext (by show (63 - n.val) / 32 = u.val; omega)
    have hr : (⟨(63 - n.val) % 32, by omega⟩ : Fin 32) = r := Fin.ext (by show (63 - n.val) % 32 = r.val; omega)
    have hxe : x = ix2 i (lane h d) := by
      funext a
      match a with
      | ⟨0, _⟩ => exact Fin.ext (by show (x 0).val = i.val; omega)
      | ⟨1, _⟩ => exact Fin.ext (by show (x 1).val = 64 * h.val + d.val; omega)
    show tile x0 x1 x2 x3 x4 x5 ⟨(63 - n.val) / 32, _⟩ ⟨(63 - n.val) % 32, _⟩ x = _
    rw [hu, hr, hxe]

/-! ## The index maps -/

theorem idx0 : ∀ t : Fin cfg0.N, win0_0.index t = ![t.val % 16, 8 + t.val / 16] :=
  (by decide +kernel : ∀ t : Fin grid0.N, win0_0.index t = ![t.val % 16, 8 + t.val / 16])
theorem idx1 : ∀ t : Fin cfg0.N, win0_1.index t = ![t.val % 16, 10 + t.val / 16] :=
  (by decide +kernel : ∀ t : Fin grid0.N, win0_1.index t = ![t.val % 16, 10 + t.val / 16])
theorem idx2 : ∀ t : Fin cfg0.N, win0_2.index t = ![t.val % 16, 12 + t.val / 16] :=
  (by decide +kernel : ∀ t : Fin grid0.N, win0_2.index t = ![t.val % 16, 12 + t.val / 16])
theorem idx3 : ∀ t : Fin cfg0.N, win0_3.index t = ![t.val % 16, 4 + t.val / 16] :=
  (by decide +kernel : ∀ t : Fin grid0.N, win0_3.index t = ![t.val % 16, 4 + t.val / 16])
theorem idx4 : ∀ t : Fin cfg0.N, win0_4.index t = ![t.val % 16, 6 + t.val / 16] :=
  (by decide +kernel : ∀ t : Fin grid0.N, win0_4.index t = ![t.val % 16, 6 + t.val / 16])
theorem idx5 : ∀ t : Fin cfg0.N, win0_5.index t = ![t.val / 16, 0, 0, 0] :=
  (by decide +kernel : ∀ t : Fin grid0.N, win0_5.index t = ![t.val / 16, 0, 0, 0])
theorem idx6 : ∀ t : Fin cfg0.N, win0_6.index t = ![t.val % 16, t.val / 16] :=
  (by decide +kernel : ∀ t : Fin grid0.N, win0_6.index t = ![t.val % 16, t.val / 16])

variable (m : (ℓ : Loc nD τ sig) → Buf (Elt Ideal) ℓ) (c : Dev nD)

/-- Lane `256 p + l` of the 512. -/
abbrev lane512 (p : Fin 2) (l : Fin 256) : Fin 512 := ⟨256 * p.val + l.val, by omega⟩

section Blocks

variable (b : Fin 16) (p : Fin 2) (t : Fin cfg0.N) (ht : t.val = 16 * p.val + b.val)

include ht

theorem iblk0_apply (n : Fin 2048) (l : Fin 256) :
    (iblk m c 0 t : Vec Ideal S2048x256 .bf16) (ix2 n l) = argQ m c (ix3 b n (lane512 p l)) * (NaSpec.eighth * NaRow.lg) := by
  refine Eq.trans ?_ (V10_q m c b n (lane512 p l))
  blk_ext [iblk, idx0 t]
  · show t.val % 16 * 2048 + n.val = 2048 * b.val + n.val; omega
  · show (8 + t.val / 16) * 256 + l.val = 2048 + (256 * p.val + l.val); omega

theorem iblk1_apply (n : Fin 2048) (l : Fin 256) :
    (iblk m c 1 t : Vec Ideal S2048x256 .bf16) (ix2 n l) = argK m c (ix3 b n (lane512 p l)) := by
  refine Eq.trans ?_ (V10_k m c b n (lane512 p l))
  blk_ext [iblk, idx1 t]
  · show t.val % 16 * 2048 + n.val = 2048 * b.val + n.val; omega
  · show (10 + t.val / 16) * 256 + l.val = 2560 + (256 * p.val + l.val); omega

theorem iblk2_apply (n : Fin 2048) (l : Fin 256) :
    (iblk m c 2 t : Vec Ideal S2048x256 .bf16) (ix2 n l) = argV m c (ix3 b n (lane512 p l)) := by
  refine Eq.trans ?_ (V10_v m c b n (lane512 p l))
  blk_ext [iblk, idx2 t]
  · show t.val % 16 * 2048 + n.val = 2048 * b.val + n.val; omega
  · show (12 + t.val / 16) * 256 + l.val = 3072 + (256 * p.val + l.val); omega

theorem iblk3_apply (n : Fin 256) (l : Fin 256) :
    (iblk m c 3 t : Vec Ideal S256x256 .bf16) (ix2 n l) = argKc m c (ix3 b n (lane512 p l)) := by
  refine Eq.trans ?_ (V15_k m c b n (lane512 p l))
  blk_ext [iblk, idx3 t]
  · show t.val % 16 * 256 + n.val = 256 * b.val + n.val; omega
  · show (4 + t.val / 16) * 256 + l.val = 1024 + (256 * p.val + l.val); omega

theorem iblk4_apply (n : Fin 256) (l : Fin 256) :
    (iblk m c 4 t : Vec Ideal S256x256 .bf16) (ix2 n l) = argVc m c (ix3 b n (lane512 p l)) := by
  refine Eq.trans ?_ (V15_v m c b n (lane512 p l))
  blk_ext [iblk, idx4 t]
  · show t.val % 16 * 256 + n.val = 256 * b.val + n.val; omega
  · show (6 + t.val / 16) * 256 + l.val = 1536 + (256 * p.val + l.val); omega

theorem iblk5_apply (a : Fin 4) (s : Fin 8) (i : Fin 64) (j : Fin 512) :
    (iblk m c 5 t : Vec Ideal S4x8x64x512 .f32) (ix4 a s i j)
      = argB m c (ix4 (⟨4 * p.val + a.val, by omega⟩ : Fin 8) s i j) * NaRow.lg := by
  refine Eq.trans ?_ (V17_apply m c _)
  blk_ext [iblk, idx5 t]
  · show t.val / 16 * 4 + a.val = 4 * p.val + a.val; omega

end Blocks

/-- A score with its factor `1 / log 2` taken out. -/
theorem scaled_sum (x y : Fin 64 → EReal) :
    ∑ e, (x e * (NaSpec.eighth * NaRow.lg)) * y e = NaRow.lg * ∑ e, (x e * NaSpec.eighth) * y e := by
  rw [NaRow.mul_sum_of_nonneg NaRow.lg_pos.le NaRow.lg_ne_top]
  refine Finset.sum_congr rfl fun e _ => ?_
  rw [← mul_assoc (x e), mul_comm (x e * NaSpec.eighth), mul_assoc]

/-- No score is `+∞`, and a row's context has a score above `-∞`. -/
structure Fits (q k : NaSpec.Lat.Idx → EReal) (kc : NaSpec.Ctx.Idx → EReal) (bias : NaSpec.Bias.Idx → EReal) : Prop where
  loc : ∀ b h r i j, NaSpec.sLoc q k bias b h r i j ≠ ⊤
  ctx : ∀ b h r i j, NaSpec.sCtx q kc b h r i j ≠ ⊤
  some : ∀ b h r i, NaSpec.sCtx q kc b h r i 0 ≠ ⊥

/-- The result array. -/
def G : S32768x512.Idx → EReal := fun y =>
  have h0 : (y 0).val < 32768 := (y 0).isLt
  have h1 : (y 1).val < 512 := (y 1).isLt
  NaSpec.out (argQ m c) (argK m c) (argV m c) (argKc m c) (argVc m c) (argB m c)
    ⟨(y 0).val / 2048, by omega⟩ ⟨(y 1).val / 64, by omega⟩ ⟨(y 0).val / 64 % 32, by omega⟩ ⟨(y 0).val % 64, by omega⟩
    ⟨(y 1).val % 64, by omega⟩

theorem block_apply (hf : Fits (argQ m c) (argK m c) (argKc m c) (argB m c))
    (b : Fin 16) (p : Fin 2) (t : Fin cfg0.N) (ht : t.val = 16 * p.val + b.val)
    (u : Fin 2) (r : Fin 32) (i : Fin 64) (h : Fin 2) (d : Fin 64) :
    out0_6 (iblk m c 0 t) (iblk m c 1 t) (iblk m c 2 t) (iblk m c 3 t) (iblk m c 4 t) (iblk m c 5 t)
        (ix2 (rowAt r i) (col u h d))
      = NaSpec.out (argQ m c) (argK m c) (argV m c) (argKc m c) (argVc m c) (argB m c)
          b ⟨4 * p.val + 2 * u.val + h.val, by omega⟩ r i d := by
  refine (out_apply _ _ _ _ _ _ u r i h d).trans ((tile_apply _ _ _ _ _ _ u r i h d).trans ?_)
  unfold NaSpec.out
  rw [← NaRow.kerRow_eq _ _ _ _ (hf.loc b _ r i) (hf.ctx b _ r i) 0 (hf.some b _ r i)]
  have hl : ∀ e : Fin 64, lane512 p (col u h e) = NaSpec.lane ⟨4 * p.val + 2 * u.val + h.val, by omega⟩ e := fun e =>
    Fin.ext (by show 256 * p.val + (128 * u.val + (64 * h.val + e.val)) = 64 * (4 * p.val + 2 * u.val + h.val) + e.val; omega)
  congr 1
  · funext j
    unfold NaSpec.sLoc
    rw [NaRow.lg_mul_add, ← scaled_sum]
    congr 1
    · refine Finset.sum_congr rfl fun e _ => ?_
      rw [iblk0_apply m c b p t ht, iblk1_apply m c b p t ht, hl]
      rfl
    · rw [iblk5_apply m c b p t ht, mul_comm]
      congr 3
      exact Fin.ext (by show 4 * p.val + (2 * u.val + h.val) = 4 * p.val + 2 * u.val + h.val; omega)
  · funext j
    unfold NaSpec.sCtx
    rw [← scaled_sum]
    refine Finset.sum_congr rfl fun e _ => ?_
    rw [iblk0_apply m c b p t ht, iblk3_apply m c b p t ht, hl]
  · funext j
    rw [iblk2_apply m c b p t ht, hl]
    rfl
  · funext j
    rw [iblk4_apply m c b p t ht, hl]

theorem final (hf : Fits (argQ m c) (argK m c) (argKc m c) (argB m c)) :
    (dats m 0 c).arrAt 6 cfg0.N = G m c := by
  refine (dats m 0 c).arrAt_eq_of_covers 6 _ (by decide +kernel) fun t _ y => ?_
  blk_simp
  rw [after0_6]
  have hN : t.val < 32 := lt_of_lt_of_eq t.isLt Gen.N_0
  have h0 : (y 0).val < 2048 := (y 0).isLt
  have h1 : (y 1).val < 256 := (y 1).isLt
  have e := block_apply m c hf ⟨t.val % 16, by omega⟩ ⟨t.val / 16, by omega⟩ t (by show t.val = 16 * (t.val / 16) + t.val % 16; omega)
    ⟨(y 1).val / 128, by omega⟩ ⟨(y 0).val / 64, by omega⟩ ⟨(y 0).val % 64, by omega⟩ ⟨(y 1).val / 64 % 2, by omega⟩ ⟨(y 1).val % 64, by omega⟩
  have hy : ix2 (rowAt ⟨(y 0).val / 64, by omega⟩ ⟨(y 0).val % 64, by omega⟩)
      (col ⟨(y 1).val / 128, by omega⟩ ⟨(y 1).val / 64 % 2, by omega⟩ ⟨(y 1).val % 64, by omega⟩) = y := by
    funext a
    match a with
    | ⟨0, _⟩ => exact Fin.ext (by show 64 * ((y 0).val / 64) + (y 0).val % 64 = (y 0).val; omega)
    | ⟨1, _⟩ => exact Fin.ext (by show 128 * ((y 1).val / 128) + (64 * ((y 1).val / 64 % 2) + (y 1).val % 64) = (y 1).val; omega)
  rw [hy] at e
  refine e.trans ?_
  have e0 : (((win0_6.blk t).view.emb y) 0 : Nat) = t.val % 16 * 2048 + (y 0).val := by blk_simp [idx6 t]
  have e1 : (((win0_6.blk t).view.emb y) 1 : Nat) = t.val / 16 * 256 + (y 1).val := by blk_simp [idx6 t]
  unfold G
  congr 1 <;> refine Fin.ext ?_
  · show t.val % 16 = (((win0_6.blk t).view.emb y) 0 : Nat) / 2048
    rw [e0]; omega
  · show 4 * (t.val / 16) + 2 * ((y 1).val / 128) + (y 1).val / 64 % 2 = (((win0_6.blk t).view.emb y) 1 : Nat) / 64
    rw [e1]; omega
  · show (y 0).val / 64 = (((win0_6.blk t).view.emb y) 0 : Nat) / 64 % 32
    rw [e0]; omega
  · show (y 0).val % 64 = (((win0_6.blk t).view.emb y) 0 : Nat) % 64
    rw [e0]; omega
  · show (y 1).val % 64 = (((win0_6.blk t).view.emb y) 1 : Nat) % 64
    rw [e1]; omega

end Cert.KernelIdeal.Na

end
-- ==== Proof.NaGather.lean ====
/- The reference's operands at an index: the grids of queries, keys and values, the band of grid rows that a query row reads,
   and the bias of its row shift. -/
module

public import proofs.«01_k».proof.Proof.Gen.ReferenceIdeal.Read
public import proofs.«01_k».proof.Proof.NaSpec
public import Idealize.ShloMosaic.Lib.ValueIdx
public import Idealize.ShloMosaic.Lib.ValueIdxRank6

@[expose] public section

set_option maxRecDepth 16384

noncomputable section

namespace Cert.NaRef

open Cert.ReferenceIdeal Cert.ReferenceIdeal.Gen Cert.ReferenceIdeal.Read
open Idealize.ShloMosaic
open Idealize.ShloMosaic.ValueIdx
open scoped BigOperators

abbrev Lat := (⟨S16x2048x512, .f32⟩ : BufTy).Contents (Elt Ideal)
abbrev Ctx := (⟨S16x256x512, .f32⟩ : BufTy).Contents (Elt Ideal)
abbrev Bias := (⟨S8x8x64x512, .f32⟩ : BufTy).Contents (Elt Ideal)

theorem eighth_eq : Ideal.ofBits .f32 0x3E000000#32 = NaSpec.eighth := by
  unfold NaSpec.eighth
  simp [Ideal.ofBits, Ideal.ieee, -EReal.coe_mul]; norm_num

/-- A [16, 2048, 512] index from its coordinates' values. -/
theorem ix3_of {n0 n1 n2 : Nat} (y : (⟨3, ![n0, n1, n2]⟩ : Shape).Idx) (a : Fin n0) (b : Fin n1) (c : Fin n2)
    (h0 : (y 0).val = a.val) (h1 : (y 1).val = b.val) (h2 : (y 2).val = c.val) : y = ix3 a b c := by
  funext d
  match d with
  | ⟨0, _⟩ => exact Fin.ext h0
  | ⟨1, _⟩ => exact Fin.ext h1
  | ⟨2, _⟩ => exact Fin.ext h2

variable (b : Fin 16) (h : Fin 8) (r : Fin 32) (w : Fin 64) (e : Fin 64)

theorem q_apply (x : Lat) : val_main_v3 (F := Ideal) x (ix5 b h r w e)
    = (x (ix3 b (NaSpec.pos r w) (NaSpec.lane h e)) * NaSpec.eighth : EReal) := by
  rw [val_main_v3_apply, val_main_v1_apply, val_main_v0_apply, val_main_v2_apply, val_main_cst_apply]
  show (_ * Ideal.ofBits .f32 0x3E000000#32 : EReal) = _
  rw [eighth_eq]
  refine congrArg (fun z => (x z * NaSpec.eighth : EReal)) (ix3_of _ _ _ _ ?_ ?_ ?_)
  · show ((((b.val * 32 + r.val) * 64 + w.val) * 8 + h.val) * 64 + e.val) / 1048576 = b.val; omega
  · show ((((b.val * 32 + r.val) * 64 + w.val) * 8 + h.val) * 64 + e.val) / 512 % 2048 = 64 * r.val + w.val; omega
  · show ((((b.val * 32 + r.val) * 64 + w.val) * 8 + h.val) * 64 + e.val) % 512 = 64 * h.val + e.val; omega

theorem k_apply (x : Lat) : val_main_v5 (F := Ideal) x (ix5 b h r w e)
    = x (ix3 b (NaSpec.pos r w) (NaSpec.lane h e)) := by
  rw [val_main_v5_apply, val_main_v4_apply]
  refine congrArg x (ix3_of _ _ _ _ ?_ ?_ ?_)
  · show ((((b.val * 32 + r.val) * 64 + w.val) * 8 + h.val) * 64 + e.val) / 1048576 = b.val; omega
  · show ((((b.val * 32 + r.val) * 64 + w.val) * 8 + h.val) * 64 + e.val) / 512 % 2048 = 64 * r.val + w.val; omega
  · show ((((b.val * 32 + r.val) * 64 + w.val) * 8 + h.val) * 64 + e.val) % 512 = 64 * h.val + e.val; omega

theorem v7_eq (x : Lat) : val_main_v7 (F := Ideal) x = val_main_v5 (F := Ideal) x := rfl

theorem kc_apply (x : Ctx) (j : Fin 256) : val_main_v9 (F := Ideal) x (ix4 b h j e)
    = x (ix3 b j (NaSpec.lane h e)) := by
  rw [val_main_v9_apply, val_main_v8_apply]
  refine congrArg x (ix3_of _ _ _ _ ?_ ?_ ?_)
  · show (((b.val * 256 + j.val) * 8 + h.val) * 64 + e.val) / 131072 = b.val; omega
  · show (((b.val * 256 + j.val) * 8 + h.val) * 64 + e.val) / 512 % 256 = j.val; omega
  · show (((b.val * 256 + j.val) * 8 + h.val) * 64 + e.val) % 512 = 64 * h.val + e.val; omega

theorem v11_eq (x : Ctx) : val_main_v11 (F := Ideal) x = val_main_v9 (F := Ideal) x := rfl

/-! ## The rows of the band -/

/-- The row index word of key row `s` of grid row `r`. -/
theorem rowWord (s : Fin 8) : (val_main_v27 (F := Ideal) (ix3 r s (0 : Fin 1))).toInt.toNat = NaSpec.band r.val + s.val := by
  simp only [val_main_v27_apply, val_main_v26_apply, val_main_v25_apply, val_main_v24_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_c_apply, val_main_c_0_apply,
    val_main_c_1_apply, val_main_c_2_apply, val_main_c_3_apply, val_main_call0_v0_apply, val_main_call0_v1_apply,
    val_main_call0_v2_apply, val_main_call0_v3_apply, val_main_call0_v4_apply]
  unfold NaSpec.band
  revert r s
  decide +kernel

theorem v35_eq : val_main_v35 (F := Ideal) = val_main_v27 (F := Ideal) := rfl

/-- The shift's index word of grid row `r`. -/
theorem shiftWord : (val_main_v45 (F := Ideal) (ix2 r (0 : Fin 1))).toInt.toNat = r.val - NaSpec.band r.val := by
  simp only [val_main_v45_apply, val_main_v44_apply, val_main_v43_apply, val_main_v42_apply, val_main_v41_apply, val_main_v40_apply,
    val_main_v39_apply, val_main_c_6_apply, val_main_c_7_apply,
    val_main_v15_apply, val_main_v14_apply, val_main_v13_apply, val_main_v12_apply, val_main_c_apply, val_main_c_0_apply,
    val_main_c_1_apply, val_main_call0_v0_apply, val_main_call0_v1_apply,
    val_main_call0_v2_apply, val_main_call0_v3_apply, val_main_call0_v4_apply]
  unfold NaSpec.band
  revert r
  decide +kernel

abbrev dRows := gather_S16x8x32x64x64_S32x8x1_S16x8x32x8x64x64_0145_2_n_n_2_2_16816464
abbrev dBias := gather_S8x8x64x512_S32x1_S8x32x64x512_023_1_n_n_1_1_8164512

/-- The gather of grid rows at an index: the operand at the row that the index word names. -/
theorem gather_rows (x : S16x8x32x64x64.Idx → EReal) (idx : IVec S32x8x1 32) (s : Fin 8) (row : Fin 32)
    (hrow : (idx (ix3 r s (0 : Fin 1))).toInt.toNat = row.val) :
    Host.gather dRows x idx (ix6 b h r s w e) = x (ix5 b h row w e) := by
  unfold Host.gather
  congr 1
  funext a
  refine Fin.ext ?_
  show dRows.start (ix6 b h r s w e) idx a + dRows.batchCoord (ix6 b h r s w e) a + dRows.offCoord (ix6 b h r s w e) a = _
  rw [GatherDims.batchCoord_eq_zero _ _ _ List.not_mem_nil]
  match a with
  | ⟨2, ha⟩ =>
    rw [GatherDims.offCoord_eq_zero _ _ _ (fun hm => ((GatherDims.mem_sKept _ _).mp hm).1 (List.mem_singleton.mpr rfl))]
    unfold GatherDims.start
    rw [dif_pos (show (⟨2, ha⟩ : Fin 5) ∈ dRows.startIndexMap from List.mem_singleton.mpr rfl)]
    have hsi : dRows.siIdx (ix6 b h r s w e) ⟨List.idxOf (⟨2, ha⟩ : Fin 5) dRows.startIndexMap,
        List.idxOf_lt_length_iff.2 (List.mem_singleton.mpr rfl)⟩ = ix3 r s (0 : Fin 1) := by
      funext d; refine Fin.ext ?_
      match d with
      | ⟨0, _⟩ => rfl
      | ⟨1, _⟩ => rfl
      | ⟨2, _⟩ => rfl
    rw [hsi, hrow]
    show min row.val (32 - 1) + 0 + 0 = row.val
    omega
  | ⟨0, _⟩ => exact Nat.zero_add _
  | ⟨1, _⟩ => exact Nat.zero_add _
  | ⟨3, _⟩ => exact Nat.zero_add _
  | ⟨4, _⟩ => exact Nat.zero_add _

/-- The gather of the bias' shift at an index. -/
theorem gather_bias (x : S8x8x64x512.Idx → EReal) (idx : IVec S32x1 32) (j : Fin 512) (row : Fin 8)
    (hrow : (idx (ix2 r (0 : Fin 1))).toInt.toNat = row.val) :
    Host.gather dBias x idx (ix4 h r w j) = x (ix4 h row w j) := by
  unfold Host.gather
  congr 1
  funext a
  refine Fin.ext ?_
  show dBias.start (ix4 h r w j) idx a + dBias.batchCoord (ix4 h r w j) a + dBias.offCoord (ix4 h r w j) a = _
  rw [GatherDims.batchCoord_eq_zero _ _ _ List.not_mem_nil]
  match a with
  | ⟨1, ha⟩ =>
    rw [GatherDims.offCoord_eq_zero _ _ _ (fun hm => ((GatherDims.mem_sKept _ _).mp hm).1 (List.mem_singleton.mpr rfl))]
    unfold GatherDims.start
    rw [dif_pos (show (⟨1, ha⟩ : Fin 4) ∈ dBias.startIndexMap from List.mem_singleton.mpr rfl)]
    have hsi : dBias.siIdx (ix4 h r w j) ⟨List.idxOf (⟨1, ha⟩ : Fin 4) dBias.startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi, hrow]
    show min row.val (8 - 1) + 0 + 0 = row.val
    omega
  | ⟨0, _⟩ => exact Nat.zero_add _
  | ⟨2, _⟩ => exact Nat.zero_add _
  | ⟨3, _⟩ => exact Nat.zero_add _

/-- The band's keys. -/
theorem band_apply (x : Lat) (j : Fin 512) : val_main_v29 (F := Ideal) x (ix5 b h r j e)
    = x (ix3 b (NaSpec.key r j) (NaSpec.lane h e)) := by
  unfold val_main_v29
  refine (shapeCast_apply _ shapeCasts_S16x8x32x8x64x64_S16x8x32x512x64 _
    (ix6 b h r (⟨j.val / 64, by omega⟩ : Fin 8) (⟨j.val % 64, by omega⟩ : Fin 64) e) ?_).trans ?_
  · rw [Shape.rowMajor_val_six, Shape.rowMajor_val_five]
    show ((((b.val * 8 + h.val) * 32 + r.val) * 8 + j.val / 64) * 64 + j.val % 64) * 64 + e.val
      = (((b.val * 8 + h.val) * 32 + r.val) * 512 + j.val) * 64 + e.val
    omega
  · unfold val_main_v28
    have hb := NaSpec.band_le r.val
    refine (gather_rows b h r _ e _ _ _ (⟨NaSpec.band r.val + j.val / 64, by omega⟩ : Fin 32) (rowWord r _)).trans ?_
    refine (k_apply b h _ _ e x).trans (congrArg x (ix3_of _ _ _ _ rfl ?_ rfl))
    show 64 * (NaSpec.band r.val + j.val / 64) + j.val % 64 = 64 * NaSpec.band r.val + j.val
    omega

theorem v37_eq (x : Lat) : val_main_v37 (F := Ideal) x = val_main_v29 (F := Ideal) x := rfl

theorem bias_apply (x : Bias) (j : Fin 512) : val_main_v48 (F := Ideal) x (ix5 b h r w j)
    = x (ix4 h (⟨r.val - NaSpec.band r.val, NaSpec.shift_lt r⟩ : Fin 8) w j) := by
  rw [val_main_v48_apply, val_main_v47_apply]
  unfold val_main_v46
  refine (congrArg _ ?_).trans (gather_bias h r w x _ j _ (shiftWord r))
  funext a
  match a with
  | ⟨0, _⟩ => rfl
  | ⟨1, _⟩ => rfl
  | ⟨2, _⟩ => rfl
  | ⟨3, _⟩ => rfl

end Cert.NaRef

end
-- ==== Proof.NaRef.lean ====
/- The reference's result, index by index. -/
module

public import proofs.«01_k».proof.Proof.NaGather
public import Mathlib.Algebra.BigOperators.Fin

@[expose] public section

set_option maxRecDepth 16384

noncomputable section

namespace Cert.NaRef

open Cert.ReferenceIdeal Cert.ReferenceIdeal.Gen Cert.ReferenceIdeal.Read
open Idealize.ShloMosaic
open Idealize.ShloMosaic.ValueIdx
open scoped BigOperators

/-- A key of the band, and a key of the context, among the 768 columns. -/
abbrev colL (j : Fin 512) : Fin 768 := ⟨j.val, by omega⟩
abbrev colC (j : Fin 256) : Fin 768 := ⟨512 + j.val, by omega⟩

theorem sum_cols (f : Fin 768 → EReal) : ∑ l, f l = ∑ j, f (colL j) + ∑ j, f (colC j) :=
  Fin.sum_univ_add (a := 512) (b := 256) f

theorem sup_cols (f : Fin 768 → EReal) :
    Finset.univ.sup f = Finset.univ.sup (fun j => f (colL j)) ⊔ Finset.univ.sup fun j => f (colC j) := by
  apply le_antisymm
  · refine Finset.sup_le fun l _ => ?_
    by_cases hl : l.val < 512
    · exact le_sup_of_le_left (Finset.le_sup (f := fun j => f (colL j)) (Finset.mem_univ (⟨l.val, hl⟩ : Fin 512)))
    · refine le_sup_of_le_right ?_
      have e : l = colC ⟨l.val - 512, by omega⟩ := Fin.ext (by show l.val = 512 + (l.val - 512); omega)
      rw [e]
      exact Finset.le_sup (f := fun j => f (colC j)) (Finset.mem_univ (⟨l.val - 512, by omega⟩ : Fin 256))
  · exact sup_le (Finset.sup_le fun j _ => Finset.le_sup (Finset.mem_univ _))
      (Finset.sup_le fun j _ => Finset.le_sup (Finset.mem_univ _))

theorem ix5_ext {n0 n1 n2 n3 n4 : Nat} (y z : (⟨5, ![n0, n1, n2, n3, n4]⟩ : Shape).Idx)
    (h0 : (y 0).val = (z 0).val) (h1 : (y 1).val = (z 1).val) (h2 : (y 2).val = (z 2).val) (h3 : (y 3).val = (z 3).val)
    (h4 : (y 4).val = (z 4).val) : y = z := by
  funext d
  match d with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

theorem ix4_ext {n0 n1 n2 n3 : Nat} (y z : (⟨4, ![n0, n1, n2, n3]⟩ : Shape).Idx)
    (h0 : (y 0).val = (z 0).val) (h1 : (y 1).val = (z 1).val) (h2 : (y 2).val = (z 2).val) (h3 : (y 3).val = (z 3).val) :
    y = z := by
  funext d
  match d with
  | ⟨0, _⟩ => exact Fin.ext h0
  | ⟨1, _⟩ => exact Fin.ext h1
  | ⟨2, _⟩ => exact Fin.ext h2
  | ⟨3, _⟩ => exact Fin.ext h3

variable (q k v : Lat) (kc vc : Ctx) (bias : Bias)
variable (b : Fin 16) (h : Fin 8) (r : Fin 32) (w : Fin 64)

theorem loc_apply (j : Fin 512) : val_main_v49 (F := Ideal) q k bias (ix5 b h r w j) = NaSpec.sLoc q k bias b h r w j := by
  rw [val_main_v49_apply, val_main_v38_apply, bias_apply]
  unfold NaSpec.sLoc
  refine congrArg (· + _) (Finset.sum_congr rfl fun e _ => ?_)
  exact congrArg₂ (· * · : EReal → EReal → EReal)
    ((congrArg _ (ix5_ext _ _ rfl rfl rfl rfl rfl)).trans (q_apply b h r w e q))
    ((congrArg _ (ix5_ext _ _ rfl rfl rfl rfl rfl)).trans (band_apply b h r e k j))

theorem ctx_apply (j : Fin 256) : val_main_v50 (F := Ideal) q kc (ix5 b h r w j) = NaSpec.sCtx q kc b h r w j := by
  rw [val_main_v50_apply]
  unfold NaSpec.sCtx
  refine Finset.sum_congr rfl fun e _ => ?_
  exact congrArg₂ (· * · : EReal → EReal → EReal)
    ((congrArg _ (ix5_ext _ _ rfl rfl rfl rfl rfl)).trans (q_apply b h r w e q))
    ((congrArg _ (ix4_ext _ _ rfl rfl rfl rfl)).trans (kc_apply b h e kc j))

theorem cat_loc (j : Fin 512) : val_main_v51 (F := Ideal) q k kc bias (ix5 b h r w (colL j)) = NaSpec.sLoc q k bias b h r w j := by
  rw [← loc_apply]
  unfold val_main_v51
  exact concatenate_pair_apply_left (t := S16x8x32x64x768) 4 (val_main_v49 (F := Ideal) q k bias) (val_main_v50 (F := Ideal) q kc) _
    (ix5 b h r w (colL j)) rfl (ix5 b h r w j)
    (fun d => match d with | ⟨0, _⟩ => rfl | ⟨1, _⟩ => rfl | ⟨2, _⟩ => rfl | ⟨3, _⟩ => rfl | ⟨4, _⟩ => rfl)

theorem cat_ctx (j : Fin 256) : val_main_v51 (F := Ideal) q k kc bias (ix5 b h r w (colC j)) = NaSpec.sCtx q kc b h r w j := by
  rw [← ctx_apply]
  unfold val_main_v51
  exact concatenate_pair_apply_right (t := S16x8x32x64x768) 4 (val_main_v49 (F := Ideal) q k bias) (val_main_v50 (F := Ideal) q kc) _
    (ix5 b h r w (colC j)) rfl rfl (ix5 b h r w j)
    (fun d hd => match d with | ⟨0, _⟩ => rfl | ⟨1, _⟩ => rfl | ⟨2, _⟩ => rfl | ⟨3, _⟩ => rfl | ⟨4, _⟩ => absurd rfl hd)
    (by exact Nat.add_comm j.val 512)

theorem max_apply : val_main_v52 (F := Ideal) q k kc bias (ix4 b h r w)
    = NaRow.top (NaSpec.sLoc q k bias b h r w) (NaSpec.sCtx q kc b h r w) := by
  unfold val_main_v52
  rw [Host.reduce_eq_fold_single FloatOps.maximumf _ _ _ (by decide) h_S_]
  show Finset.univ.fold max (Ideal.ofBits .f32 0xFF800000#32) _ = _
  have hn : (Ideal.ofBits .f32 0xFF800000#32 : EReal) = ⊥ := by simp [Ideal.ofBits, Ideal.ieee]
  rw [hn]
  have hs := sup_cols fun l => val_main_v51 (F := Ideal) q k kc bias (ix5 b h r w l)
  simp only [cat_loc, cat_ctx] at hs
  refine Eq.trans ?_ hs
  refine Finset.fold_congr fun (l : Fin 768) _ => ?_
  exact congrArg (val_main_v51 (F := Ideal) q k kc bias) (ix5_ext _ (ix5 b h r w l) rfl rfl rfl rfl rfl)

theorem ninf_max (x : EReal) : FloatOps.maximumf (F := Ideal) (φ := .f32) (FloatOps.ofBits .f32 0xFF800000#32) x = x := by
  show max (Ideal.ofBits .f32 0xFF800000#32 : EReal) x = x
  have hn : (Ideal.ofBits .f32 0xFF800000#32 : EReal) = ⊥ := by simp [Ideal.ofBits, Ideal.ieee]
  rw [hn, max_eq_right bot_le]

/-- The largest score, against `-∞` once more. -/
theorem top_apply (l : Fin 768) : val_main_v56 (F := Ideal) q k kc bias (ix5 b h r w l)
    = NaRow.top (NaSpec.sLoc q k bias b h r w) (NaSpec.sCtx q kc b h r w) := by
  rw [val_main_v56_apply, val_main_v55_apply, val_main_v54_apply, val_main_v53_apply, val_main_cst_9_apply]
  refine (ninf_max _).trans ?_
  exact (congrArg (val_main_v52 (F := Ideal) q k kc bias) (ix4_ext (idx_main_v55 (idx_main_v56 (ix5 b h r w l))) (ix4 b h r w) rfl rfl rfl rfl)).trans (max_apply q k kc bias b h r w)

theorem exp_loc (j : Fin 512) : val_main_v58 (F := Ideal) q k kc bias (ix5 b h r w (colL j))
    = Ideal.exp (NaSpec.sLoc q k bias b h r w j - NaRow.top (NaSpec.sLoc q k bias b h r w) (NaSpec.sCtx q kc b h r w)) := by
  rw [val_main_v58_apply, val_main_v57_apply, cat_loc, top_apply]; rfl

theorem exp_ctx (j : Fin 256) : val_main_v58 (F := Ideal) q k kc bias (ix5 b h r w (colC j))
    = Ideal.exp (NaSpec.sCtx q kc b h r w j - NaRow.top (NaSpec.sLoc q k bias b h r w) (NaSpec.sCtx q kc b h r w)) := by
  rw [val_main_v58_apply, val_main_v57_apply, cat_ctx, top_apply]; rfl

theorem den_apply (l : Fin 768) : val_main_v61 (F := Ideal) q k kc bias (ix5 b h r w l)
    = ∑ j, Ideal.exp (NaSpec.sLoc q k bias b h r w j - NaRow.top (NaSpec.sLoc q k bias b h r w) (NaSpec.sCtx q kc b h r w))
      + ∑ j, Ideal.exp (NaSpec.sCtx q kc b h r w j - NaRow.top (NaSpec.sLoc q k bias b h r w) (NaSpec.sCtx q kc b h r w)) := by
  rw [val_main_v61_apply, val_main_v60_apply, val_main_v59_apply, val_main_cst_10_apply]
  show (Ideal.ofBits .f32 0x00000000#32 : EReal) + _ = _
  have hz : (Ideal.ofBits .f32 0x00000000#32 : EReal) = 0 := by simp [Ideal.ofBits, Ideal.ieee]
  rw [hz, zero_add]
  have hs := sum_cols fun l => val_main_v58 (F := Ideal) q k kc bias (ix5 b h r w l)
  simp only [exp_loc, exp_ctx] at hs
  refine Eq.trans (Finset.sum_congr rfl fun l _ => ?_) hs
  exact congrArg _ (ix5_ext _ _ rfl rfl rfl rfl rfl)

theorem out_apply (d : Fin 64) : val_main_v67 (F := Ideal) q k v kc vc bias (ix5 b h r w d)
    = NaSpec.out q k v kc vc bias b h r w d := by
  rw [val_main_v67_apply, val_main_v64_apply, val_main_v66_apply, v37_eq, v11_eq]
  unfold NaSpec.out NaRow.refRow
  refine congrArg₂ (· + · : EReal → EReal → EReal) (Finset.sum_congr rfl fun j _ => ?_) (Finset.sum_congr rfl fun j _ => ?_)
  · refine congrArg₂ (· * · : EReal → EReal → EReal) ?_ ?_
    · rw [val_main_v63_apply, val_main_v62_apply]
      refine congrArg₂ Ideal.div ?_ ?_
      · exact (congrArg _ (ix5_ext (idx_main_v63 (lidx_main_v64 (ix5 b h r w d) j)) (ix5 b h r w (colL j)) rfl rfl rfl rfl rfl)).trans (exp_loc q k kc bias b h r w j)
      · exact (congrArg _ (ix5_ext (idx_main_v63 (lidx_main_v64 (ix5 b h r w d) j)) (ix5 b h r w (colL j)) rfl rfl rfl rfl rfl)).trans (den_apply q k kc bias b h r w (colL j))
    · exact (congrArg _ (ix5_ext _ _ rfl rfl rfl rfl rfl)).trans (band_apply b h r d v j)
  · refine congrArg₂ (· * · : EReal → EReal → EReal) ?_ ?_
    · rw [val_main_v65_apply, val_main_v62_apply]
      refine congrArg₂ Ideal.div ?_ ?_
      · exact (congrArg _ (ix5_ext (idx_main_v65 (lidx_main_v66 (ix5 b h r w d) j)) (ix5 b h r w (colC j)) rfl rfl rfl rfl (by first | rfl | exact Nat.add_comm _ _))).trans (exp_ctx q k kc bias b h r w j)
      · exact (congrArg _ (ix5_ext (idx_main_v65 (lidx_main_v66 (ix5 b h r w d) j)) (ix5 b h r w (colC j)) rfl rfl rfl rfl (by first | rfl | exact Nat.add_comm _ _))).trans (den_apply q k kc bias b h r w (colC j))
    · exact (congrArg _ (ix4_ext _ _ rfl rfl rfl rfl)).trans (kc_apply b h d vc j)

theorem result_apply (y : S32768x512.Idx) (h0 : (y 0).val < 32768) (h1 : (y 1).val < 512) :
    val_main_v70 (F := Ideal) q k v kc vc bias y = NaSpec.out q k v kc vc bias
      ⟨(y 0).val / 2048, by omega⟩ ⟨(y 1).val / 64, by omega⟩ ⟨(y 0).val / 64 % 32, by omega⟩ ⟨(y 0).val % 64, by omega⟩
      ⟨(y 1).val % 64, by omega⟩ := by
  rw [val_main_v70_apply]
  refine (val_main_v69_apply q k v kc vc bias y).trans ?_
  rw [val_main_v68_apply, ← out_apply]
  refine congrArg _ (ix5_ext _ _ ?_ ?_ ?_ ?_ ?_)
  · show ((y 0).val * 512 + (y 1).val) / 1048576 = (y 0).val / 2048; omega
  · show ((y 0).val * 512 + (y 1).val) / 64 % 8 = (y 1).val / 64; omega
  · show ((y 0).val * 512 + (y 1).val) / 32768 % 32 = (y 0).val / 64 % 32; omega
  · show ((y 0).val * 512 + (y 1).val) / 512 % 64 = (y 0).val % 64; omega
  · show ((y 0).val * 512 + (y 1).val) % 64 = (y 1).val % 64; omega

end Cert.NaRef

end
-- ==== Proof.NaClaim.lean ====
/- The precondition, read at the scores; and the claims about the neighbourhood attention. -/
module

public import proofs.«01_k».proof.Defs
public import proofs.«01_k».proof.Proof.NaArray
public import proofs.«01_k».proof.Proof.NaRef
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run

@[expose] public section

set_option maxRecDepth 16384

noncomputable section

namespace Cert.NaClaim

open Idealize.ShloMosaic Idealize.SL.Sem
open Idealize.ShloMosaic.ValueIdx
open scoped BigOperators

/-! ## Reals among the extended reals -/

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {ι : Type} (s : Finset ι) (f : ι → EReal) (h : ∀ i, IsReal (f i)) : IsReal (∑ i ∈ s, f i) := by
  classical
  induction s using Finset.induction_on with
  | empty => exact ⟨0, by simp⟩
  | insert a t ha ih => rw [Finset.sum_insert ha]; exact (h a).add ih

theorem IsReal.ne_top {x : EReal} : IsReal x → x ≠ ⊤
  | ⟨a, ha⟩ => by rw [ha]; exact EReal.coe_ne_top a

theorem IsReal.ne_bot {x : EReal} : IsReal x → x ≠ ⊥
  | ⟨a, ha⟩ => by rw [ha]; exact EReal.coe_ne_bot a

theorem inf_f32 : (Ideal.ofBits .f32 0x7F800000#32 : EReal) = ⊤ := by simp [Ideal.ofBits, Ideal.ieee]

theorem lt_of_olt {x y : EReal} (h : Ideal.cmp .olt x y = 1#1) : x < y := by
  by_contra hn
  have : Ideal.cmp .olt x y = 0#1 := by simp [Ideal.cmp, hn]
  rw [this] at h
  exact absurd h (by decide)

theorem isReal_of_abs {x : EReal} (h : Ideal.cmp .olt (max x (-x)) (Ideal.ofBits .f32 0x7F800000#32) = 1#1) : IsReal x := by
  have h' := lt_of_olt h
  rw [inf_f32] at h'
  obtain ⟨h1, h2⟩ := max_lt_iff.mp h'
  refine ⟨x.toReal, (EReal.coe_toReal h1.ne fun hb => ?_).symm⟩
  rw [hb, EReal.neg_bot] at h2
  exact lt_irrefl _ h2

theorem ne_top_of_olt {x : EReal} (h : Ideal.cmp .olt x (Ideal.ofBits .f32 0x7F800000#32) = 1#1) : x ≠ ⊤ := by
  have h' := lt_of_olt h
  rw [inf_f32] at h'
  exact h'.ne

/-! ## The precondition -/

theorem preFacts : Cert.Pre_finite_scores.Facts := ⟨by decide, by decide, by decide⟩

open Cert.KernelIdeal Cert.KernelIdeal.Gen in
theorem fits (m : (ℓ : Loc nD τ sig) → Buf (Elt Ideal) ℓ) (h : Cert.Pre_KernelIdeal_finite_scores (hPre_finite_scores := preFacts) m)
    (c : Dev nD) : Na.Fits (Na.argQ m c) (Na.argK m c) (Na.argKc m c) (Na.argB m c) := by
  obtain ⟨h0, h1, h2, h3⟩ := h c
  have hq (i) : IsReal (Na.argQ m c i) := isReal_of_abs (congrFun h0 i)
  have hk (i) : IsReal (Na.argK m c i) := isReal_of_abs (congrFun h1 i)
  have hkc (i) : IsReal (Na.argKc m c i) := isReal_of_abs (congrFun h2 i)
  have hb (i) : Na.argB m c i ≠ ⊤ := ne_top_of_olt (congrFun h3 i)
  have he : IsReal NaSpec.eighth := ⟨1 / 8, rfl⟩
  have hc (b h r i j) : IsReal (NaSpec.sCtx (Na.argQ m c) (Na.argKc m c) b h r i j) :=
    IsReal.sum _ _ fun e => ((hq _).mul he).mul (hkc _)
  refine ⟨fun b h r i j => ?_, fun b h r i j => (hc b h r i j).ne_top, fun b h r i => (hc b h r i 0).ne_bot⟩
  exact EReal.add_ne_top (IsReal.sum _ _ fun e => ((hq _).mul he).mul (hk _)).ne_top (hb _)

/-! ## The claims -/

theorem frame : Cert.quiescent_Kernel (hKernel := Cert.Kernel.Gen.facts) := fun m ρ _ => Cert.Kernel.Gen.frame m ρ

theorem frameIdeal : Cert.quiescent_KernelIdeal (hKernelIdeal := Cert.KernelIdeal.Gen.facts) :=
  fun m ρ _ => Cert.KernelIdeal.Gen.frame m ρ

theorem frameReference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem algebraic : Cert.algebraic_KernelIdeal_ReferenceIdeal_pre_finite_scores (hKernelIdeal := Cert.KernelIdeal.Gen.facts)
    (hReferenceIdeal := Cert.ReferenceIdeal.Gen.facts) (hPre_finite_scores := preFacts) := by
  intro m ρ m' ρ' hpre hagree
  refine ⟨fun c => Cert.KernelIdeal.Na.G m c, ?_, ?_⟩
  · exact (θ_run Cert.KernelIdeal.defs _ _).mono
      (fun _ h c => ⟨(h c).1.trans (Cert.KernelIdeal.Na.final m c (fits m hpre c)), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v70_eq]
    obtain ⟨e0, e1, e2, e3, e4, e5⟩ := hagree c
    rw [e0, e1, e2, e3, e4, e5]
    funext y
    exact NaRef.result_apply _ _ _ _ _ _ y (y 0).isLt (y 1).isLt

end Cert.NaClaim

end
-- ==== Proof.OmTile.lean ====
/- The body of the output-projection and network kernel: each of its four stores is the same function `tile` of the rows
   it covers. -/
module

public import proofs.«01_k».proof.Proof.Gen.Kernel2Ideal.Frame
public import Idealize.ShloMosaic.Lib.Pipeline.Value
public import Idealize.ShloMosaic.Lib.Pipeline.ValueKit.Tiles

@[expose] public section

set_option maxRecDepth 16384

noncomputable section

namespace Cert.Kernel2Ideal.Om

open Cert.Kernel2Ideal Cert.Kernel2Ideal.Gen Idealize.ShloMosaic

variable {F : FTy → Type} [FloatOps F]

/-- Rows over their root mean square. -/
def normed (x : FVec F S256x1024 .f32) : FVec F S256x1024 .f32 :=
  mulf x (broadcastTo S256x1024 (rsqrt (addf (divf (shapeCast S256x1 (multiReduction .add [1] S256 (mulf x x) 0x00000000#32
      reduces_S256x1024_S256 (.inl rfl) rfl) shapeCasts_S256_S256x1)
    (broadcast S256x1 (Scalar.ofBits .f32 0x44800000#32 : F .f32))) (broadcast S256x1 (Scalar.ofBits .f32 0x358637BD#32 : F .f32))))
    broadcasts_S256x1_S256x1024)

def spread (g : FVec F S1x1024 .f32) : FVec F S256x1024 .f32 := broadcastTo S256x1024 g broadcasts_S1x1024_S256x1024

/-- A modulation vector as a row. -/
def modRow (g : Vec F S1x1x1024 .f32) : FVec F S1x1024 .f32 := shapeCast S1x1024 g shapeCasts_S1x1x1024_S1x1024
def gainRow (g : Vec F S1x1024 .f32) : FVec F S1x1024 .f32 := shapeCast S1x1024 g shapeCasts_S1x1024_S1x1024

/-- The output projection, from the rows of both mixers. -/
def mixed (a b : Vec F S256x512 .bf16) (wa wb : Vec F S512x1024 .bf16) : FVec F S256x1024 .f32 :=
  addf (matmul dot_S256x512_S512x1024_S256x1024_1_0_0_1_n_n none (shapeCast S256x512 a shapeCasts_S256x512_S256x512 : FVec F S256x512 .bf16)
      (shapeCast S512x1024 wa shapeCasts_S512x1024_S512x1024 : FVec F S512x1024 .bf16) (constant S256x1024 .f32 0x00000000#32))
    (matmul dot_S256x512_S512x1024_S256x1024_1_0_0_1_n_n none (shapeCast S256x512 b shapeCasts_S256x512_S256x512 : FVec F S256x512 .bf16)
      (shapeCast S512x1024 wb shapeCasts_S512x1024_S512x1024 : FVec F S512x1024 .bf16) (constant S256x1024 .f32 0x00000000#32))

def residual (x y : FVec F S256x1024 .f32) (g : FVec F S1x1024 .f32) : FVec F S256x1024 .f32 :=
  addf x (mulf (normed y) (spread g))

def inner (x : FVec F S256x1024 .f32) (g sh : FVec F S1x1024 .f32) : FVec F S256x1024 .bf16 :=
  truncf .bf16 (addf (mulf (normed x) (spread g)) (spread sh)) bitsLt_bf16_f32

def hidden (h : FVec F S256x1024 .bf16) (w : Vec F S1024x1024 .bf16) : FVec F S256x1024 .f32 :=
  maximumf (matmul dot_S256x1024_S1024x1024_S256x1024_1_0_0_1_n_n none h
      (shapeCast S1024x1024 w shapeCasts_S1024x1024_S1024x1024 : FVec F S1024x1024 .bf16) (constant S256x1024 .f32 0x00000000#32))
    (broadcast S256x1024 (Scalar.ofBits .f32 0x00000000#32 : F .f32))

/-- One quarter of the network added to what is there. -/
def step (h : FVec F S256x1024 .bf16) (acc : FVec F S256x1024 .f32) (w1 w2 : Vec F S1024x1024 .bf16) : FVec F S256x1024 .f32 :=
  addf acc (matmul dot_S256x1024_S1024x1024_S256x1024_1_0_0_1_n_n none
    (truncf .bf16 (mulf (hidden h w1) (hidden h w1)) bitsLt_bf16_f32)
    (shapeCast S1024x1024 w2 shapeCasts_S1024x1024_S1024x1024 : FVec F S1024x1024 .bf16) (constant S256x1024 .f32 0x00000000#32))

def net (h : FVec F S256x1024 .bf16) (w1 : Vec F S1024x4096 .bf16) (w2 : Vec F S4096x1024 .bf16) : FVec F S256x1024 .f32 :=
  step h (step h (step h (step h (broadcast S256x1024 (Scalar.ofBits .f32 0x00000000#32 : F .f32))
    (View.ld w1 r0_12) (View.ld w2 r0_13)) (View.ld w1 r0_14) (View.ld w2 r0_15))
    (View.ld w1 r0_16) (View.ld w2 r0_17)) (View.ld w1 r0_18) (View.ld w2 r0_19)

/-- The rows after the first residual sum. -/
def mid (x3 : Vec F S1x1x1024 .f32) (x7 : Vec F S1x1024 .f32) (x10 : Vec F S1024x1024 .bf16)
    (x : Vec F S256x1024 .f32) (a b : Vec F S256x512 .bf16) : FVec F S256x1024 .f32 :=
  residual (shapeCast S256x1024 x shapeCasts_S256x1024_S256x1024) (mixed a b (View.ld x10 r0_3) (View.ld x10 r0_4))
    (mulf (modRow (View.ld x3 r0_0)) (gainRow (View.ld x7 r0_1)))

def fed (x4 x5 : Vec F S1x1x1024 .f32) (x8 : Vec F S1x1024 .f32) (x1 : FVec F S256x1024 .f32) : FVec F S256x1024 .bf16 :=
  inner x1 (mulf (gainRow (View.ld x8 r0_1)) (addf (broadcast S1x1024 (Scalar.ofBits .f32 0x3F800000#32 : F .f32)) (modRow (View.ld x5 r0_0))))
    (modRow (View.ld x4 r0_0))

/-- What one store writes, from the rows it covers. -/
def tile (x3 x4 x5 x6 : Vec F S1x1x1024 .f32) (x7 x8 x9 : Vec F S1x1024 .f32) (x10 : Vec F S1024x1024 .bf16)
    (x11 : Vec F S1024x4096 .bf16) (x12 : Vec F S4096x1024 .bf16)
    (x : Vec F S256x1024 .f32) (a b : Vec F S256x512 .bf16) : FVec F S256x1024 .f32 :=
  residual (mid x3 x7 x10 x a b) (net (fed x4 x5 x8 (mid x3 x7 x10 x a b)) x11 x12)
    (mulf (modRow (View.ld x6 r0_0)) (gainRow (View.ld x9 r0_1)))

theorem inb2 {n0 n1 a0 a1 : Nat} (o0 o1 : Nat) (h0 : o0 + a0 ≤ n0) (h1 : o1 + a1 ≤ n1) :
    ∀ a, (![o0, o1] : Fin 2 → Nat) a + (⟨2, ![a0, a1]⟩ : Shape).size a ≤ (⟨2, ![n0, n1]⟩ : Shape).size a := by
  intro a; match a with
  | ⟨0, _⟩ => exact h0
  | ⟨1, _⟩ => exact h1

/-- The rows of store `k`. -/
abbrev rowsX (k : Fin 4) : Rect S1024x1024 :=
  Rect.unit (s := S1024x1024) ![256 * k.val, 0] S256x1024.size (inb2 _ _ (by omega) (by omega))
abbrev rowsA (k : Fin 4) : Rect S1024x512 :=
  Rect.unit (s := S1024x512) ![256 * k.val, 0] S256x512.size (inb2 _ _ (by omega) (by omega))

section
variable (x0 : Vec F S1024x1024 .f32) (x1 x2 : Vec F S1024x512 .bf16) (x3 x4 x5 x6 : Vec F S1x1x1024 .f32)
  (x7 x8 x9 : Vec F S1x1024 .f32) (x10 : Vec F S1024x1024 .bf16) (x11 : Vec F S1024x4096 .bf16) (x12 : Vec F S4096x1024 .bf16)

theorem mid0 : k0_pay58 x0 x1 x2 x3 x4 x5 x6 x7 x8 x9 x10 x11 x12
    = mid x3 x7 x10 (View.ld x0 r0_8) (View.ld x1 r0_2) (View.ld x2 r0_2) := rfl
theorem mid1 : k0_pay59 x0 x1 x2 x3 x4 x5 x6 x7 x8 x9 x10 x11 x12
    = mid x3 x7 x10 (View.ld x0 r0_9) (View.ld x1 r0_5) (View.ld x2 r0_5) := rfl
theorem mid2 : k0_pay62 x0 x1 x2 x3 x4 x5 x6 x7 x8 x9 x10 x11 x12
    = mid x3 x7 x10 (View.ld x0 r0_10) (View.ld x1 r0_6) (View.ld x2 r0_6) := rfl
theorem mid3 : k0_pay63 x0 x1 x2 x3 x4 x5 x6 x7 x8 x9 x10 x11 x12
    = mid x3 x7 x10 (View.ld x0 r0_11) (View.ld x1 r0_7) (View.ld x2 r0_7) := rfl

/-- The body's result is its four tiles. -/
theorem out_eq : out0_13 x0 x1 x2 x3 x4 x5 x6 x7 x8 x9 x10 x11 x12
    = View.canon (List.ofFn fun n : Fin 4 => (⟨rowsX ⟨3 - n.val, by omega⟩,
        tile x3 x4 x5 x6 x7 x8 x9 x10 x11 x12 (View.ld x0 (rowsX ⟨3 - n.val, by omega⟩)) (View.ld x1 (rowsA ⟨3 - n.val, by omega⟩))
          (View.ld x2 (rowsA ⟨3 - n.val, by omega⟩))⟩ : View.Piece (Elt F) S1024x1024 .f32)) := by
  unfold out0_13 k0_pay68 k0_pay67 k0_pay66 k0_pay65 k0_pay64
  rw [mid0, mid1, mid2, mid3]
  rfl

end

end Cert.Kernel2Ideal.Om

end
-- ==== Proof.OmSpec.lean ====
/- The end of the layer for one position, over the extended reals: output projection, two residual sums and the network
   between them, as functions of the position's row and the weights. -/
module

public import Idealize.ShloMosaic.Lib.ValueIdx
public import Idealize.ShloMosaic.Lib.MatmulPlain

@[expose] public section

noncomputable section

namespace Cert.OmSpec

open Idealize.ShloMosaic
open scoped BigOperators

/-- The row's width, the guard under the root, and one, as the programs write them. -/
def width : EReal := Ideal.ofBits .f32 0x44800000#32
def guard : EReal := Ideal.ofBits .f32 0x358637BD#32
def one : EReal := Ideal.ofBits .f32 0x3F800000#32

abbrev Row (n : Nat) := Fin n → EReal

/-- A row over its root mean square. -/
def normed (x : Row 1024) : Row 1024 := fun l =>
  x l * Ideal.rsqrt (Ideal.div (∑ k, x k * x k) width + guard)

/-- The output projection of the two mixers' rows set side by side. -/
def mix (a b : Row 512) (w : Fin 1024 → Row 1024) : Row 1024 := fun l =>
  (∑ k : Fin 512, a k * w ⟨k.val, by omega⟩ l) + ∑ k : Fin 512, b k * w ⟨512 + k.val, by omega⟩ l

/-- A residual sum with a normed branch. -/
def residual (x y gain : Row 1024) : Row 1024 := fun l => x l + normed y l * gain l

/-- The network's input. -/
def inner (x gain shift : Row 1024) : Row 1024 := fun l => normed x l * gain l + shift l

def hidden (h : Row 1024) (w1 : Fin 1024 → Row 4096) : Row 4096 := fun f => max (∑ k, h k * w1 k f) 0

def mlp (h : Row 1024) (w1 : Fin 1024 → Row 4096) (w2 : Fin 4096 → Row 1024) : Row 1024 := fun l =>
  ∑ f, (hidden h w1 f * hidden h w1 f) * w2 f l

/-- The whole row: `g1`, `g2`, `g3` are the three gains with their modulation, `sh` the shift. -/
def out (x : Row 1024) (a b : Row 512) (g1 g2 sh g3 : Row 1024) (w : Fin 1024 → Row 1024) (w1 : Fin 1024 → Row 4096)
    (w2 : Fin 4096 → Row 1024) : Row 1024 :=
  have x1 := residual x (mix a b w) g1
  residual x1 (mlp (inner x1 g2 sh) w1 w2) g3

abbrev Tokens (n : Nat) : Shape := ⟨3, ![16, 2048, n]⟩
abbrev Mods : Shape := ⟨2, ![16, 6144]⟩
abbrev Gain : Shape := ⟨1, ![1024]⟩

/-- Modulation vector `j` of sequence `b`. -/
def modRow (mods : Mods.Idx → EReal) (j : Fin 6) (b : Fin 16) : Row 1024 := fun l =>
  mods (ValueIdx.ix2 b (⟨1024 * j.val + l.val, by omega⟩ : Fin 6144))

def gainRow (g : Gain.Idx → EReal) : Row 1024 := fun l => g (ValueIdx.ix1 l)

def tokenRow {n : Nat} (x : (Tokens n).Idx → EReal) (b : Fin 16) (s : Fin 2048) : Row n := fun k => x (ValueIdx.ix3 b s k)

def matrix {n k : Nat} (w : (⟨2, ![n, k]⟩ : Shape).Idx → EReal) : Fin n → Row k := fun i j => w (ValueIdx.ix2 i j)

/-- The result for token `s` of sequence `b`. -/
def result (x : (Tokens 1024).Idx → EReal) (ret na : (Tokens 512).Idx → EReal) (mods : Mods.Idx → EReal)
    (gm gi go : Gain.Idx → EReal) (w : (⟨2, ![1024, 1024]⟩ : Shape).Idx → EReal) (w1 : (⟨2, ![1024, 4096]⟩ : Shape).Idx → EReal)
    (w2 : (⟨2, ![4096, 1024]⟩ : Shape).Idx → EReal) (b : Fin 16) (s : Fin 2048) : Row 1024 :=
  out (tokenRow x b s) (tokenRow ret b s) (tokenRow na b s) (fun k => modRow mods 2 b k * gainRow gm k)
    (fun k => gainRow gi k * (one + modRow mods 4 b k)) (modRow mods 3 b) (fun k => modRow mods 5 b k * gainRow go k)
    (matrix w) (matrix w1) (matrix w2)

/-- A sum over 4096 in four parts, taken one after the other. -/
theorem sum_quarters (f : Row 4096) :
    ∑ k, f k = ((∑ k : Fin 1024, f ⟨k.val, by omega⟩) + (∑ k : Fin 1024, f ⟨1024 + k.val, by omega⟩)
      + (∑ k : Fin 1024, f ⟨2048 + k.val, by omega⟩)) + ∑ k : Fin 1024, f ⟨3072 + k.val, by omega⟩ := by
  refine (Fin.sum_univ_add (a := 3072) (b := 1024) f).trans (congrArg₂ (· + ·) ?_ rfl)
  refine (Fin.sum_univ_add (a := 2048) (b := 1024) fun k : Fin 3072 => f ⟨k.val, by omega⟩).trans (congrArg₂ (· + ·) ?_ rfl)
  exact Fin.sum_univ_add (a := 1024) (b := 1024) fun k : Fin 2048 => f ⟨k.val, by omega⟩

end Cert.OmSpec

end
-- ==== Proof.OmAt.lean ====
/- The output-projection and network body over the ideal values, read at one row and column: the row of OmSpec. -/
module

public import proofs.«01_k».proof.Proof.OmTile
public import proofs.«01_k».proof.Proof.OmSpec
public import Idealize.ShloMosaic.Lib.MatmulPlain
public import Idealize.ShloMosaic.Lib.ValueIdx

@[expose] public section

set_option maxRecDepth 16384

noncomputable section

namespace Cert.Kernel2Ideal.Om

open Cert.Kernel2Ideal Cert.Kernel2Ideal.Gen Idealize.ShloMosaic Idealize.ShloMosaic.ValueIdx
open scoped BigOperators

theorem zero_f32 : (Ideal.ofBits .f32 0x00000000#32 : EReal) = 0 := by simp [Ideal.ofBits, Ideal.ieee]

theorem lift_row (i : Fin 256) (k : Fin 1024) : reduces_S256x1024_S256.lift (ix1 i) k = ix2 i k := by
  funext a; apply Fin.ext
  match a with
  | ⟨0, _⟩ => rfl
  | ⟨1, _⟩ => rfl

theorem column_apply (x : S256.Idx → EReal) (i : Fin 256) :
    shapeCast S256x1 x shapeCasts_S256_S256x1 (ix2 i (0 : Fin 1)) = x (ix1 i) :=
  shapeCast_apply x _ _ _ (by rw [Shape.rowMajor_val_one, Shape.rowMajor_val_two]; show i.val = i.val * 1 + 0; omega)

theorem sumSq_apply (x : FVec Ideal S256x1024 .f32) (i : Fin 256) :
    multiReduction .add [1] S256 (mulf x x) 0x00000000#32 reduces_S256x1024_S256 (.inl rfl) rfl (ix1 i)
      = (∑ k : Fin 1024, x (ix2 i k) * x (ix2 i k) : EReal) := by
  refine (Ideal.multiReduction_add_single _ _ reduces_S256x1024_S256 _ _ (ix1 i)).trans ?_
  exact Finset.sum_congr rfl fun (k : Fin 1024) _ => congrArg (mulf x x) (lift_row i k)

theorem normed_apply (x : FVec Ideal S256x1024 .f32) (i : Fin 256) (l : Fin 1024) :
    normed x (ix2 i l) = OmSpec.normed (fun k => x (ix2 i k)) l := by
  unfold normed OmSpec.normed
  rw [mulf_apply]
  refine congrArg (fun z : EReal => x (ix2 i l) * z) ?_
  rw [broadcastTo_apply _ _ _ (ix2 i (0 : Fin 1)) (fun a => match a with | ⟨0, _⟩ => rfl | ⟨1, _⟩ => rfl)]
  refine congrArg (fun z : EReal => Ideal.rsqrt (Ideal.div z OmSpec.width + OmSpec.guard)) ?_
  rw [column_apply, sumSq_apply]

theorem spread_apply (g : FVec Ideal S1x1024 .f32) (i : Fin 256) (l : Fin 1024) : spread g (ix2 i l) = g (ix2 (0 : Fin 1) l) :=
  broadcastTo_apply g _ _ _ (fun a => match a with | ⟨0, _⟩ => rfl | ⟨1, _⟩ => rfl)

theorem modRow_apply (g : Vec Ideal S1x1x1024 .f32) (l : Fin 1024) :
    modRow g (ix2 (0 : Fin 1) l) = g (ix3 (0 : Fin 1) (0 : Fin 1) l) :=
  shapeCast_apply g _ _ _ (by rw [Shape.rowMajor_val_three, Shape.rowMajor_val_two]; rfl)

theorem gainRow_apply (g : Vec Ideal S1x1024 .f32) (l : Fin 1024) : gainRow g (ix2 (0 : Fin 1) l) = g (ix2 (0 : Fin 1) l) := by
  unfold gainRow; rw [shapeCast_self]

theorem mixed_apply (a b : Vec Ideal S256x512 .bf16) (wa wb : Vec Ideal S512x1024 .bf16) (i : Fin 256) (l : Fin 1024) :
    mixed a b wa wb (ix2 i l)
      = (∑ k : Fin 512, a (ix2 i k) * wa (ix2 k l) : EReal) + ∑ k : Fin 512, b (ix2 i k) * wb (ix2 k l) := by
  unfold mixed
  rw [addf_apply, shapeCast_self, shapeCast_self, shapeCast_self, shapeCast_self]
  refine congrArg₂ (· + ·) ?_ ?_
  · refine (Ideal.matmul_plain_apply none _ _ _ i l).trans ?_
    rw [constant_apply, zero_f32, zero_add]
  · refine (Ideal.matmul_plain_apply none _ _ _ i l).trans ?_
    rw [constant_apply, zero_f32, zero_add]

theorem residual_apply (x y : FVec Ideal S256x1024 .f32) (g : FVec Ideal S1x1024 .f32) (i : Fin 256) (l : Fin 1024) :
    residual x y g (ix2 i l)
      = OmSpec.residual (fun k => x (ix2 i k)) (fun k => y (ix2 i k)) (fun k => g (ix2 (0 : Fin 1) k)) l := by
  unfold residual OmSpec.residual
  rw [addf_apply, mulf_apply, normed_apply, spread_apply]

theorem inner_apply (x : FVec Ideal S256x1024 .f32) (g sh : FVec Ideal S1x1024 .f32) (i : Fin 256) (l : Fin 1024) :
    inner x g sh (ix2 i l)
      = OmSpec.inner (fun k => x (ix2 i k)) (fun k => g (ix2 (0 : Fin 1) k)) (fun k => sh (ix2 (0 : Fin 1) k)) l := by
  unfold inner OmSpec.inner
  rw [truncf_apply, addf_apply, mulf_apply, normed_apply, spread_apply, spread_apply]

theorem hidden_apply (h : FVec Ideal S256x1024 .bf16) (w : Vec Ideal S1024x1024 .bf16) (i : Fin 256) (f : Fin 1024) :
    hidden h w (ix2 i f) = max (∑ k : Fin 1024, h (ix2 i k) * w (ix2 k f) : EReal) 0 := by
  unfold hidden
  rw [maximumf_apply, shapeCast_self, broadcast_apply]
  refine congrArg₂ max ?_ zero_f32
  refine (Ideal.matmul_plain_apply none _ _ _ i f).trans ?_
  rw [constant_apply, zero_f32, zero_add]

theorem step_apply (h : FVec Ideal S256x1024 .bf16) (acc : FVec Ideal S256x1024 .f32) (w1 w2 : Vec Ideal S1024x1024 .bf16)
    (i : Fin 256) (l : Fin 1024) :
    step h acc w1 w2 (ix2 i l) = (acc (ix2 i l) : EReal)
      + ∑ f : Fin 1024, (hidden h w1 (ix2 i f) * hidden h w1 (ix2 i f)) * w2 (ix2 f l) := by
  unfold step
  rw [addf_apply, shapeCast_self]
  refine congrArg (fun z : EReal => acc (ix2 i l) + z) ?_
  refine (Ideal.matmul_plain_apply none _ _ _ i l).trans ?_
  rw [constant_apply, zero_f32, zero_add]
  rfl

/-- Column block `o` of the first weight and row block `o` of the second. -/
theorem ld_w1 (x : Vec Ideal S1024x4096 .bf16) (o : Nat) (inb) (k f : Fin 1024) (ho : o + 1024 ≤ 4096) :
    View.ld x (Rect.unit (s := S1024x4096) ![0, o] S1024x1024.size inb) (ix2 k f) = x (ix2 k (⟨o + f.val, by omega⟩ : Fin 4096)) :=
  View.ld_unit_apply_of x _ _ _ _ _ fun a => match a with
    | ⟨0, _⟩ => (by show k.val = 0 + k.val; omega) | ⟨1, _⟩ => rfl

theorem ld_w2 (x : Vec Ideal S4096x1024 .bf16) (o : Nat) (inb) (f l : Fin 1024) (ho : o + 1024 ≤ 4096) :
    View.ld x (Rect.unit (s := S4096x1024) ![o, 0] S1024x1024.size inb) (ix2 f l) = x (ix2 (⟨o + f.val, by omega⟩ : Fin 4096) l) :=
  View.ld_unit_apply_of x _ _ _ _ _ fun a => match a with
    | ⟨0, _⟩ => rfl | ⟨1, _⟩ => (by show l.val = 0 + l.val; omega)

theorem ld_wo (x : Vec Ideal S1024x1024 .bf16) (o : Nat) (inb) (k : Fin 512) (l : Fin 1024) (ho : o + 512 ≤ 1024) :
    View.ld x (Rect.unit (s := S1024x1024) ![o, 0] S512x1024.size inb) (ix2 k l) = x (ix2 (⟨o + k.val, by omega⟩ : Fin 1024) l) :=
  View.ld_unit_apply_of x _ _ _ _ _ fun a => match a with
    | ⟨0, _⟩ => rfl | ⟨1, _⟩ => (by show l.val = 0 + l.val; omega)

theorem ld_mod (x : Vec Ideal S1x1x1024 .f32) : View.ld x r0_0 = x := by
  funext y
  exact View.ld_unit_apply_of x _ _ _ _ _ fun a => match a with
    | ⟨0, _⟩ => (Nat.zero_add _).symm | ⟨1, _⟩ => (Nat.zero_add _).symm | ⟨2, _⟩ => (Nat.zero_add _).symm

theorem ld_gain (x : Vec Ideal S1x1024 .f32) : View.ld x r0_1 = x := by
  funext y
  exact View.ld_unit_apply_of x _ _ _ _ _ fun a => match a with
    | ⟨0, _⟩ => (Nat.zero_add _).symm | ⟨1, _⟩ => (Nat.zero_add _).symm

theorem hidden_part (h : FVec Ideal S256x1024 .bf16) (w1 : Vec Ideal S1024x4096 .bf16) (o : Nat) (inb) (i : Fin 256) (f : Fin 1024)
    (ho : o + 1024 ≤ 4096) :
    hidden h (View.ld w1 (Rect.unit (s := S1024x4096) ![0, o] S1024x1024.size inb)) (ix2 i f)
      = OmSpec.hidden (fun k => h (ix2 i k)) (fun k f => w1 (ix2 k f)) ⟨o + f.val, by omega⟩ := by
  rw [hidden_apply]
  unfold OmSpec.hidden
  exact congrArg (fun z : EReal => max z 0) (Finset.sum_congr rfl fun k _ => by rw [ld_w1 w1 o inb k f ho])

theorem part_apply (h : FVec Ideal S256x1024 .bf16) (w1 : Vec Ideal S1024x4096 .bf16) (w2 : Vec Ideal S4096x1024 .bf16) (o : Nat)
    (inb inb') (i : Fin 256) (l : Fin 1024) (ho : o + 1024 ≤ 4096) (acc : FVec Ideal S256x1024 .f32) :
    step h acc (View.ld w1 (Rect.unit (s := S1024x4096) ![0, o] S1024x1024.size inb))
        (View.ld w2 (Rect.unit (s := S4096x1024) ![o, 0] S1024x1024.size inb')) (ix2 i l)
      = (acc (ix2 i l) : EReal) + ∑ f : Fin 1024,
          (fun f : Fin 4096 => (OmSpec.hidden (fun k => h (ix2 i k)) (fun k f => w1 (ix2 k f)) f
            * OmSpec.hidden (fun k => h (ix2 i k)) (fun k f => w1 (ix2 k f)) f) * w2 (ix2 f l)) ⟨o + f.val, by omega⟩ := by
  rw [step_apply]
  refine congrArg (fun z : EReal => acc (ix2 i l) + z) (Finset.sum_congr rfl fun f _ => ?_)
  rw [hidden_part h w1 o inb i f ho, ld_w2 w2 o inb' f l ho]

theorem net_apply (h : FVec Ideal S256x1024 .bf16) (w1 : Vec Ideal S1024x4096 .bf16) (w2 : Vec Ideal S4096x1024 .bf16)
    (i : Fin 256) (l : Fin 1024) :
    net h w1 w2 (ix2 i l)
      = OmSpec.mlp (fun k => h (ix2 i k)) (fun k f => w1 (ix2 k f)) (fun f l => w2 (ix2 f l)) l := by
  unfold net OmSpec.mlp
  rw [OmSpec.sum_quarters]
  rw [part_apply h w1 w2 3072 _ _ i l (by omega), part_apply h w1 w2 2048 _ _ i l (by omega),
    part_apply h w1 w2 1024 _ _ i l (by omega), part_apply h w1 w2 0 _ _ i l (by omega), broadcast_apply]
  rw [show (Scalar.ofBits .f32 0x00000000#32 : Ideal .f32) = (0 : EReal) from zero_f32, zero_add]
  simp only [Nat.zero_add]

section
variable (x3 x4 x5 x6 : Vec Ideal S1x1x1024 .f32) (x7 x8 x9 : Vec Ideal S1x1024 .f32) (x10 : Vec Ideal S1024x1024 .bf16)
    (x11 : Vec Ideal S1024x4096 .bf16) (x12 : Vec Ideal S4096x1024 .bf16) (x : Vec Ideal S256x1024 .f32) (a b : Vec Ideal S256x512 .bf16)

abbrev modAt (g : Vec Ideal S1x1x1024 .f32) : OmSpec.Row 1024 := fun l => g (ix3 (0 : Fin 1) (0 : Fin 1) l)
abbrev gainAt (g : Vec Ideal S1x1024 .f32) : OmSpec.Row 1024 := fun l => g (ix2 (0 : Fin 1) l)

theorem mid_apply (i : Fin 256) (l : Fin 1024) :
    mid x3 x7 x10 x a b (ix2 i l) = OmSpec.residual (fun k => x (ix2 i k))
      (OmSpec.mix (fun k => a (ix2 i k)) (fun k => b (ix2 i k)) (fun k l => x10 (ix2 k l)))
      (fun k => modAt x3 k * gainAt x7 k) l := by
  unfold mid
  rw [residual_apply, shapeCast_self, ld_mod, ld_gain]
  have e : (fun k : Fin 1024 => (mixed a b (View.ld x10 r0_3) (View.ld x10 r0_4) (ix2 i k) : EReal))
      = OmSpec.mix (fun k => a (ix2 i k)) (fun k => b (ix2 i k)) (fun k l => x10 (ix2 k l)) := by
    funext k
    rw [mixed_apply]
    unfold OmSpec.mix
    refine congrArg₂ (· + ·) (Finset.sum_congr rfl fun j _ => ?_) (Finset.sum_congr rfl fun j _ => ?_)
    · rw [ld_wo x10 0 _ j k (by omega)]; simp only [Nat.zero_add]
    · rw [ld_wo x10 512 _ j k (by omega)]
  rw [e]
  refine congrArg (fun g => OmSpec.residual _ _ g l) ?_
  funext k
  rw [mulf_apply, modRow_apply, gainRow_apply]

theorem fed_apply (x1 : FVec Ideal S256x1024 .f32) (i : Fin 256) (l : Fin 1024) :
    fed x4 x5 x8 x1 (ix2 i l) = OmSpec.inner (fun k => x1 (ix2 i k)) (fun k => gainAt x8 k * (OmSpec.one + modAt x5 k)) (modAt x4) l := by
  unfold fed
  rw [inner_apply, ld_mod, ld_mod, ld_gain]
  refine congrArg₂ (fun g s => OmSpec.inner _ g s l) ?_ ?_
  · funext k
    rw [mulf_apply, addf_apply, modRow_apply, gainRow_apply]; rfl
  · funext k
    rw [modRow_apply]

theorem tile_apply (i : Fin 256) (l : Fin 1024) :
    tile x3 x4 x5 x6 x7 x8 x9 x10 x11 x12 x a b (ix2 i l)
      = OmSpec.out (fun k => x (ix2 i k)) (fun k => a (ix2 i k)) (fun k => b (ix2 i k)) (fun k => modAt x3 k * gainAt x7 k)
          (fun k => gainAt x8 k * (OmSpec.one + modAt x5 k)) (modAt x4) (fun k => modAt x6 k * gainAt x9 k)
          (fun k l => x10 (ix2 k l)) (fun k f => x11 (ix2 k f)) (fun f l => x12 (ix2 f l)) l := by
  unfold tile OmSpec.out
  rw [residual_apply, ld_mod, ld_gain]
  simp only [net_apply, fed_apply, mid_apply, mulf_apply, modRow_apply, gainRow_apply]

end

end Cert.Kernel2Ideal.Om

end
-- ==== Proof.OmHost.lean ====
/- What the output-projection and network launch finds in its operands: the layout that the host code prepares, read at an
   index. -/
module

public import proofs.«01_k».proof.Proof.Gen.Kernel2Ideal.Frame
public import proofs.«01_k».proof.Proof.OmSpec
public import Idealize.ShloMosaic.Lib.ValueIdx
public import Idealize.ShloMosaic.Lib.Claim
public import Idealize.ShloMosaic.Lib.StableHlo.RunRead
public import Idealize.ShloMosaic.Lib.Pipeline.Value

@[expose] public section

set_option maxRecDepth 16384

noncomputable section

namespace Cert.Kernel2Ideal.Om

open Cert.Kernel2Ideal Cert.Kernel2Ideal.Gen Idealize.ShloMosaic Idealize.ShloMosaic.ValueIdx Idealize.ShloMosaic.TcCoe Idealize.SL.Sem

variable (m : (ℓ : Loc nD τ sig) → Buf (Elt Ideal) ℓ) (c : Dev nD)

abbrev argX : FVec Ideal S16x2048x1024 .f32 := m ((c : Thread nD τ).loc main_arg0)
abbrev argRet : FVec Ideal S16x2048x512 .f32 := m ((c : Thread nD τ).loc main_arg1)
abbrev argNa : FVec Ideal S16x2048x512 .f32 := m ((c : Thread nD τ).loc main_arg2)
abbrev argMods : FVec Ideal S16x6144 .f32 := m ((c : Thread nD τ).loc main_arg3)
abbrev argGm : FVec Ideal S1024 .f32 := m ((c : Thread nD τ).loc main_arg4)
abbrev argGi : FVec Ideal S1024 .f32 := m ((c : Thread nD τ).loc main_arg5)
abbrev argGo : FVec Ideal S1024 .f32 := m ((c : Thread nD τ).loc main_arg6)
abbrev argW : FVec Ideal S1024x1024 .f32 := m ((c : Thread nD τ).loc main_arg7)
abbrev argW1 : FVec Ideal S1024x4096 .f32 := m ((c : Thread nD τ).loc main_arg8)
abbrev argW2 : FVec Ideal S4096x1024 .f32 := m ((c : Thread nD τ).loc main_arg9)

theorem V2 : V m c main_v2 = shapeCast S32x1x6144 (concatenate S32x6144 0
      [⟨S16x6144, argMods m c⟩, ⟨S16x6144, broadcastInDim S16x6144 ![] bcast_S_S16x6144 (constant (F := Ideal) S_ .f32 0x00000000#32)⟩]
      concatenates_S16x6144_S16x6144_S32x6144_d0) shapeCasts_S32x6144_S32x1x6144 := by
  unfold_abbrev_sides
  after_results
  rfl

theorem V3 : V m c main_v3 = shapeCast S32768x1024 (argX m c) shapeCasts_S16x2048x1024_S32768x1024 := by
  unfold_abbrev_sides
  after_results
  rfl

theorem V5 : V m c main_v5 = truncf (F := Ideal) (φ := .f32) .bf16
    (shapeCast S32768x512 (argRet m c) shapeCasts_S16x2048x512_S32768x512) bitsLt_bf16_f32 := by
  unfold_abbrev_sides
  after_results
  rfl

theorem V7 : V m c main_v7 = truncf (F := Ideal) (φ := .f32) .bf16
    (shapeCast S32768x512 (argNa m c) shapeCasts_S16x2048x512_S32768x512) bitsLt_bf16_f32 := by
  unfold_abbrev_sides
  after_results
  rfl

theorem V8 : V m c main_v8 = shapeCast S1x1024 (argGm m c) shapeCasts_S1024_S1x1024 := by
  unfold_abbrev_sides
  after_results
  rfl

theorem V9 : V m c main_v9 = shapeCast S1x1024 (argGi m c) shapeCasts_S1024_S1x1024 := by
  unfold_abbrev_sides
  after_results
  rfl

theorem V10 : V m c main_v10 = shapeCast S1x1024 (argGo m c) shapeCasts_S1024_S1x1024 := by
  unfold_abbrev_sides
  after_results
  rfl

theorem V11 : V m c main_v11 = truncf (F := Ideal) (φ := .f32) .bf16 (argW m c) bitsLt_bf16_f32 := by
  unfold_abbrev_sides
  after_results

theorem V12 : V m c main_v12 = truncf (F := Ideal) (φ := .f32) .bf16 (argW1 m c) bitsLt_bf16_f32 := by
  unfold_abbrev_sides
  after_results

theorem V13 : V m c main_v13 = truncf (F := Ideal) (φ := .f32) .bf16 (argW2 m c) bitsLt_bf16_f32 := by
  unfold_abbrev_sides
  after_results

/-- Token `s` of sequence `b` among the rows. -/
theorem cast_row {α : Type} {n : Nat} (x : (⟨3, ![16, 2048, n]⟩ : Shape).Idx → α) (b : Fin 16) (s : Fin 2048) (l : Fin n) (h) :
    shapeCast ⟨2, ![32768, n]⟩ x h (ix2 (⟨2048 * b.val + s.val, by omega⟩ : Fin 32768) l) = x (ix3 b s l) := by
  refine shapeCast_apply x h _ _ ?_
  rw [Shape.rowMajor_val_three, Shape.rowMajor_val_two]
  show (b.val * 2048 + s.val) * n + l.val = (2048 * b.val + s.val) * n + l.val
  rw [Nat.mul_comm b.val]

theorem cast_gain {α : Type} (g : S1024.Idx → α) (l : Fin 1024) (h) :
    shapeCast S1x1024 g h (ix2 (0 : Fin 1) l) = g (ix1 l) :=
  shapeCast_apply g h _ _ (by rw [Shape.rowMajor_val_one, Shape.rowMajor_val_two]; show l.val = 0 * 1024 + l.val; omega)

/-- A modulation vector in its padded layout. -/
theorem V2_apply (b : Fin 16) (l : Fin 6144) :
    (V m c main_v2 : FVec Ideal S32x1x6144 .f32) (ix3 (⟨b.val, by omega⟩ : Fin 32) (0 : Fin 1) l) = argMods m c (ix2 b l) := by
  rw [V2]
  refine (shapeCast_apply _ shapeCasts_S32x6144_S32x1x6144 _ (ix2 (⟨b.val, by omega⟩ : Fin 32) l) ?_).trans ?_
  · rw [Shape.rowMajor_val_three, Shape.rowMajor_val_two]
    show b.val * 6144 + l.val = (b.val * 1 + 0) * 6144 + l.val
    omega
  · exact concatenate_pair_apply_left (t := S32x6144) 0 (argMods m c) _ _ (ix2 (⟨b.val, by omega⟩ : Fin 32) l) rfl (ix2 b l)
      (fun a => match a with | ⟨0, _⟩ => rfl | ⟨1, _⟩ => rfl)

end Cert.Kernel2Ideal.Om

end
-- ==== Proof.OmArray.lean ====
/- The output-projection and network launch's result array, index by index. -/
module

public import proofs.«01_k».proof.Proof.Gen.Kernel2Ideal.Value
public import proofs.«01_k».proof.Proof.OmAt
public import proofs.«01_k».proof.Proof.OmHost
public import Idealize.ShloMosaic.Lib.Pipeline.ValueKit.Tiles
public import Idealize.ShloMosaic.Lib.Pipeline.ValueKit.Point

@[expose] public section

set_option maxRecDepth 16384

noncomputable section

namespace Cert.Kernel2Ideal.Om

open Idealize.ShloMosaic hiding ix1 ix2 ix3 ix4 ix5 ix6 eq_ix2 eq_ix3 eq_ix4
open Cert.Kernel2Ideal Cert.Kernel2Ideal.Gen Idealize.ShloMosaic.ValueIdx Idealize.ShloMosaic.TcCoe
open Idealize.SL.Sem
open Idealize.ShloMosaic.Pipeline (Dat)
open scoped BigOperators

/-- Row `i` of store `k`. -/
abbrev rowAt (k : Fin 4) (i : Fin 256) : Fin 1024 := ⟨256 * k.val + i.val, by omega⟩

section Body

variable (x0 : Vec Ideal S1024x1024 .f32) (x1 x2 : Vec Ideal S1024x512 .bf16) (x3 x4 x5 x6 : Vec Ideal S1x1x1024 .f32)
  (x7 x8 x9 : Vec Ideal S1x1024 .f32) (x10 : Vec Ideal S1024x1024 .bf16) (x11 : Vec Ideal S1024x4096 .bf16) (x12 : Vec Ideal S4096x1024 .bf16)

/-- The body's row `r`. -/
def bodyRow (r : Fin 1024) : OmSpec.Row 1024 :=
  OmSpec.out (fun k => x0 (ix2 r k)) (fun k => x1 (ix2 r k)) (fun k => x2 (ix2 r k)) (fun k => modAt x3 k * gainAt x7 k)
    (fun k => gainAt x8 k * (OmSpec.one + modAt x5 k)) (modAt x4) (fun k => modAt x6 k * gainAt x9 k)
    (fun k l => x10 (ix2 k l)) (fun k f => x11 (ix2 k f)) (fun f l => x12 (ix2 f l))

abbrev piece (k : Fin 4) : FVec Ideal S256x1024 .f32 :=
  tile x3 x4 x5 x6 x7 x8 x9 x10 x11 x12 (View.ld x0 (rowsX k)) (View.ld x1 (rowsA k)) (View.ld x2 (rowsA k))

theorem piece_apply (k : Fin 4) (i : Fin 256) (l : Fin 1024) :
    piece x0 x1 x2 x3 x4 x5 x6 x7 x8 x9 x10 x11 x12 k (ix2 i l)
      = bodyRow x0 x1 x2 x3 x4 x5 x6 x7 x8 x9 x10 x11 x12 (rowAt k i) l := by
  have hx : ∀ j : Fin 1024, View.ld x0 (rowsX k) (ix2 i j) = x0 (ix2 (rowAt k i) j) := fun j =>
    View.ld_unit_apply_of x0 _ _ _ _ _ fun a => match a with
      | ⟨0, _⟩ => rfl | ⟨1, _⟩ => (by show j.val = 0 + j.val; omega)
  have ha : ∀ (x : Vec Ideal S1024x512 .bf16) (j : Fin 512), View.ld x (rowsA k) (ix2 i j) = x (ix2 (rowAt k i) j) := fun x j =>
    View.ld_unit_apply_of x _ _ _ _ _ fun a => match a with
      | ⟨0, _⟩ => rfl | ⟨1, _⟩ => (by show j.val = 0 + j.val; omega)
  unfold piece bodyRow
  rw [tile_apply]
  congr 1
  · exact funext hx
  · exact funext (ha x1)
  · exact funext (ha x2)

theorem out_apply (k : Fin 4) (i : Fin 256) (l : Fin 1024) :
    out0_13 x0 x1 x2 x3 x4 x5 x6 x7 x8 x9 x10 x11 x12 (ix2 (rowAt k i) l)
      = bodyRow x0 x1 x2 x3 x4 x5 x6 x7 x8 x9 x10 x11 x12 (rowAt k i) l := by
  rw [out_eq, ← piece_apply]
  refine (View.canon_ofFn_eq_of_forall (Val := Elt Ideal) (S := S1024x1024) (e := .f32)
    (fun n : Fin 4 => rowsX ⟨3 - n.val, by omega⟩)
    (fun n => piece x0 x1 x2 x3 x4 x5 x6 x7 x8 x9 x10 x11 x12 ⟨3 - n.val, by omega⟩)
    (ix2 (rowAt k i) l) (piece x0 x1 x2 x3 x4 x5 x6 x7 x8 x9 x10 x11 x12 k (ix2 i l)) ?_ ?_ :)
  · refine ⟨⟨3 - k.val, by omega⟩, Rect.mem_set_unit.mpr fun a => ?_⟩
    match a with
    | ⟨0, _⟩ =>
      show 256 * (3 - (3 - k.val)) ≤ 256 * k.val + i.val ∧ 256 * k.val + i.val < 256 * (3 - (3 - k.val)) + 256
      omega
    | ⟨1, _⟩ =>
      show 0 ≤ l.val ∧ l.val < 0 + 1024
      omega
  · intro n x hx
    have h0 : 256 * (3 - n.val) + 1 * (x 0).val = 256 * k.val + i.val := congrArg (fun y => (y 0).val) hx
    have h1 : 0 + 1 * (x 1).val = l.val := congrArg (fun y => (y 1).val) hx
    have b0 : (x 0).val < 256 := (x 0).isLt
    have hk : (⟨3 - n.val, by omega⟩ : Fin 4) = k := Fin.ext (by show 3 - n.val = k.val; omega)
    have hxe : x = ix2 i l := by
      funext a
      match a with
      | ⟨0, _⟩ => exact Fin.ext (by show (x 0).val = i.val; omega)
      | ⟨1, _⟩ => exact Fin.ext (by show (x 1).val = l.val; omega)
    show piece x0 x1 x2 x3 x4 x5 x6 x7 x8 x9 x10 x11 x12 ⟨3 - n.val, _⟩ x = _
    rw [hk, hxe]

end Body

/-! ## The index maps -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val / 2, 0, 2] :=
  (by decide +kernel : ∀ t : Fin grid0.N, win0_3.index t = ![t.val / 2, 0, 2])
theorem idx4 : ∀ t : Fin cfg0.N, win0_4.index t = ![t.val / 2, 0, 3] :=
  (by decide +kernel : ∀ t : Fin grid0.N, win0_4.index t = ![t.val / 2, 0, 3])
theorem idx5 : ∀ t : Fin cfg0.N, win0_5.index t = ![t.val / 2, 0, 4] :=
  (by decide +kernel : ∀ t : Fin grid0.N, win0_5.index t = ![t.val / 2, 0, 4])
theorem idx6 : ∀ t : Fin cfg0.N, win0_6.index t = ![t.val / 2, 0, 5] :=
  (by decide +kernel : ∀ t : Fin grid0.N, win0_6.index t = ![t.val / 2, 0, 5])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![t.val, 0] :=
  (by decide +kernel : ∀ t : Fin grid0.N, win0_13.index t = ![t.val, 0])

variable (m : (ℓ : Loc nD τ sig) → Buf (Elt Ideal) ℓ) (c : Dev nD)

/-- Row `r` of half `p` of a sequence. -/
abbrev tok (p : Fin 2) (r : Fin 1024) : Fin 2048 := ⟨1024 * p.val + r.val, by omega⟩

section Blocks

variable (b : Fin 16) (p : Fin 2) (t : Fin cfg0.N) (ht : t.val = 2 * b.val + p.val)

include ht

theorem iblk0_apply (r l : Fin 1024) :
    (iblk m c 0 t : Vec Ideal S1024x1024 .f32) (ix2 r l) = argX m c (ix3 b (tok p r) l) := by
  refine Eq.trans ?_ ((congrFun (V3 m c) _).trans (cast_row (argX m c) b (tok p r) l _))
  blk_ext [iblk, idx0 t]
  · show t.val * 1024 + r.val = 2048 * b.val + (1024 * p.val + r.val); omega

theorem iblk1_apply (r : Fin 1024) (l : Fin 512) :
    (iblk m c 1 t : Vec Ideal S1024x512 .bf16) (ix2 r l) = argRet m c (ix3 b (tok p r) l) := by
  refine Eq.trans ?_ ((congrFun (V5 m c) _).trans (cast_row (argRet m c) b (tok p r) l _))
  blk_ext [iblk, idx1 t]
  · show t.val * 1024 + r.val = 2048 * b.val + (1024 * p.val + r.val); omega

theorem iblk2_apply (r : Fin 1024) (l : Fin 512) :
    (iblk m c 2 t : Vec Ideal S1024x512 .bf16) (ix2 r l) = argNa m c (ix3 b (tok p r) l) := by
  refine Eq.trans ?_ ((congrFun (V7 m c) _).trans (cast_row (argNa m c) b (tok p r) l _))
  blk_ext [iblk, idx2 t]
  · show t.val * 1024 + r.val = 2048 * b.val + (1024 * p.val + r.val); omega

theorem iblk3_apply (l : Fin 1024) : (iblk m c 3 t : Vec Ideal S1x1x1024 .f32) (ix3 (0 : Fin 1) (0 : Fin 1) l) = OmSpec.modRow (argMods m c) 2 b l := by
  refine Eq.trans ?_ (V2_apply m c b (⟨2048 + l.val, by omega⟩ : Fin 6144))
  blk_ext [iblk, idx3 t]

theorem iblk4_apply (l : Fin 1024) : (iblk m c 4 t : Vec Ideal S1x1x1024 .f32) (ix3 (0 : Fin 1) (0 : Fin 1) l) = OmSpec.modRow (argMods m c) 3 b l := by
  refine Eq.trans ?_ (V2_apply m c b (⟨3072 + l.val, by omega⟩ : Fin 6144))
  blk_ext [iblk, idx4 t]

theorem iblk5_apply (l : Fin 1024) : (iblk m c 5 t : Vec Ideal S1x1x1024 .f32) (ix3 (0 : Fin 1) (0 : Fin 1) l) = OmSpec.modRow (argMods m c) 4 b l := by
  refine Eq.trans ?_ (V2_apply m c b (⟨4096 + l.val, by omega⟩ : Fin 6144))
  blk_ext [iblk, idx5 t]

theorem iblk6_apply (l : Fin 1024) : (iblk m c 6 t : Vec Ideal S1x1x1024 .f32) (ix3 (0 : Fin 1) (0 : Fin 1) l) = OmSpec.modRow (argMods m c) 5 b l := by
  refine Eq.trans ?_ (V2_apply m c b (⟨5120 + l.val, by omega⟩ : Fin 6144))
  blk_ext [iblk, idx6 t]

end Blocks

section Whole

variable (t : Fin cfg0.N)

theorem iblk7_apply (l : Fin 1024) : (iblk m c 7 t : Vec Ideal S1x1024 .f32) (ix2 (0 : Fin 1) l) = OmSpec.gainRow (argGm m c) l := by
  refine Eq.trans ?_ ((congrFun (V8 m c) _).trans (cast_gain (argGm m c) l _))
  blk_ext [iblk, idx7 t]

theorem iblk8_apply (l : Fin 1024) : (iblk m c 8 t : Vec Ideal S1x1024 .f32) (ix2 (0 : Fin 1) l) = OmSpec.gainRow (argGi m c) l := by
  refine Eq.trans ?_ ((congrFun (V9 m c) _).trans (cast_gain (argGi m c) l _))
  blk_ext [iblk, idx8 t]

theorem iblk9_apply (l : Fin 1024) : (iblk m c 9 t : Vec Ideal S1x1024 .f32) (ix2 (0 : Fin 1) l) = OmSpec.gainRow (argGo m c) l := by
  refine Eq.trans ?_ ((congrFun (V10 m c) _).trans (cast_gain (argGo m c) l _))
  blk_ext [iblk, idx9 t]

theorem iblk10_apply (k l : Fin 1024) : (iblk m c 10 t : Vec Ideal S1024x1024 .bf16) (ix2 k l) = argW m c (ix2 k l) := by
  refine Eq.trans ?_ (congrFun (V11 m c) (ix2 k l))
  blk_ext [iblk, idx10 t]

theorem iblk11_apply (k : Fin 1024) (l : Fin 4096) : (iblk m c 11 t : Vec Ideal S1024x4096 .bf16) (ix2 k l) = argW1 m c (ix2 k l) := by
  refine Eq.trans ?_ (congrFun (V12 m c) (ix2 k l))
  blk_ext [iblk, idx11 t]

theorem iblk12_apply (k : Fin 4096) (l : Fin 1024) : (iblk m c 12 t : Vec Ideal S4096x1024 .bf16) (ix2 k l) = argW2 m c (ix2 k l) := by
  refine Eq.trans ?_ (congrFun (V13 m c) (ix2 k l))
  blk_ext [iblk, idx12 t]

end Whole

/-- The result array. -/
def G : S32768x1024.Idx → EReal := fun y =>
  OmSpec.result (argX m c) (argRet m c) (argNa m c) (argMods m c) (argGm m c) (argGi m c) (argGo m c) (argW m c) (argW1 m c) (argW2 m c)
    (⟨(y 0).val / 2048, by have h : (y 0).val < 32768 := (y 0).isLt; omega⟩ : Fin 16) (⟨(y 0).val % 2048, by omega⟩ : Fin 2048)
    (⟨(y 1).val, (y 1).isLt⟩ : Fin 1024)

theorem G_apply (y : S32768x1024.Idx) (b : Fin 16) (s : Fin 2048) (l : Fin 1024) (hb : (y 0).val / 2048 = b.val)
    (hs : (y 0).val % 2048 = s.val) (hl : (y 1).val = l.val) :
    G m c y = OmSpec.result (argX m c) (argRet m c) (argNa m c) (argMods m c) (argGm m c) (argGi m c) (argGo m c) (argW m c)
      (argW1 m c) (argW2 m c) b s l := by
  unfold G
  rw [show (⟨(y 0).val / 2048, by have h : (y 0).val < 32768 := (y 0).isLt; omega⟩ : Fin 16) = b from Fin.ext hb,
    show (⟨(y 0).val % 2048, by omega⟩ : Fin 2048) = s from Fin.ext hs, show (⟨(y 1).val, (y 1).isLt⟩ : Fin 1024) = l from Fin.ext hl]

theorem block_apply (b : Fin 16) (p : Fin 2) (t : Fin cfg0.N) (ht : t.val = 2 * b.val + p.val) (r l : Fin 1024) :
    bodyRow (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) r l
      = OmSpec.result (argX m c) (argRet m c) (argNa m c) (argMods m c) (argGm m c) (argGi m c) (argGo m c) (argW m c) (argW1 m c)
          (argW2 m c) b (tok p r) l := by
  have m3 : modAt (iblk m c 3 t) = OmSpec.modRow (argMods m c) 2 b := funext fun l => iblk3_apply m c b p t ht l
  have m4 : modAt (iblk m c 4 t) = OmSpec.modRow (argMods m c) 3 b := funext fun l => iblk4_apply m c b p t ht l
  have m5 : modAt (iblk m c 5 t) = OmSpec.modRow (argMods m c) 4 b := funext fun l => iblk5_apply m c b p t ht l
  have m6 : modAt (iblk m c 6 t) = OmSpec.modRow (argMods m c) 5 b := funext fun l => iblk6_apply m c b p t ht l
  have m7 : gainAt (iblk m c 7 t) = OmSpec.gainRow (argGm m c) := funext fun l => iblk7_apply m c t l
  have m8 : gainAt (iblk m c 8 t) = OmSpec.gainRow (argGi m c) := funext fun l => iblk8_apply m c t l
  have m9 : gainAt (iblk m c 9 t) = OmSpec.gainRow (argGo m c) := funext fun l => iblk9_apply m c t l
  unfold bodyRow OmSpec.result
  rw [m3, m4, m5, m6, m7, m8, m9]
  congr 1
  · exact funext fun k => iblk0_apply m c b p t ht r k
  · exact funext fun k => iblk1_apply m c b p t ht r k
  · exact funext fun k => iblk2_apply m c b p t ht r k
  · exact funext fun k => funext fun l => iblk10_apply m c t k l
  · exact funext fun k => funext fun l => iblk11_apply m c t k l
  · exact funext fun k => funext fun l => iblk12_apply m c t k l

theorem whole_apply (b : Fin 16) (p : Fin 2) (t : Fin cfg0.N) (ht : t.val = 2 * b.val + p.val) (k : Fin 4) (i : Fin 256)
    (l : Fin 1024) :
    out0_13 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (ix2 (rowAt k i) l)
      = OmSpec.result (argX m c) (argRet m c) (argNa m c) (argMods m c) (argGm m c) (argGi m c) (argGo m c) (argW m c) (argW1 m c)
          (argW2 m c) b (tok p (rowAt k i)) l :=
  (out_apply _ _ _ _ _ _ _ _ _ _ _ _ _ k i l).trans (block_apply m c b p t ht (rowAt k i) l)

theorem final : (dats m 0 c).arrAt 13 cfg0.N = G m c := by
  refine (dats m 0 c).arrAt_eq_of_covers 13 _ (by decide +kernel) fun t _ y => ?_
  blk_simp
  rw [after0_13]
  have hN : t.val < 32 := lt_of_lt_of_eq t.isLt Gen.N_0
  have h0 : (y 0).val < 1024 := (y 0).isLt
  have h1 : (y 1).val < 1024 := (y 1).isLt
  have e := whole_apply m c ⟨t.val / 2, by omega⟩ ⟨t.val % 2, by omega⟩ t (by show t.val = 2 * (t.val / 2) + t.val % 2; omega)
    ⟨(y 0).val / 256, by omega⟩ ⟨(y 0).val % 256, by omega⟩ ⟨(y 1).val, h1⟩
  have hy : ix2 (rowAt ⟨(y 0).val / 256, by omega⟩ ⟨(y 0).val % 256, by omega⟩) (⟨(y 1).val, h1⟩ : Fin 1024) = y := by
    funext a
    match a with
    | ⟨0, _⟩ => exact Fin.ext (by show 256 * ((y 0).val / 256) + (y 0).val % 256 = (y 0).val; omega)
    | ⟨1, _⟩ => rfl
  rw [hy] at e
  refine e.trans ?_
  have e0 : (((win0_13.blk t).view.emb y) 0 : Nat) = t.val * 1024 + (y 0).val := by blk_simp [idx13 t]
  have e1 : (((win0_13.blk t).view.emb y) 1 : Nat) = (y 1).val := by blk_simp [idx13 t]
  refine (G_apply m c _ _ _ _ ?_ ?_ ?_).symm
  · show (((win0_13.blk t).view.emb y) 0 : Nat) / 2048 = t.val / 2
    rw [e0]; omega
  · show (((win0_13.blk t).view.emb y) 0 : Nat) % 2048 = 1024 * (t.val % 2) + (256 * ((y 0).val / 256) + (y 0).val % 256)
    rw [e0]; omega
  · exact e1

end Cert.Kernel2Ideal.Om

end
-- ==== Proof.OmRef.lean ====
/- The reference's end of the layer, index by index. -/
module

public import proofs.«01_k».proof.Proof.Gen.Reference2Ideal.Read
public import proofs.«01_k».proof.Proof.OmSpec
public import Mathlib.Algebra.BigOperators.Fin

@[expose] public section

set_option maxRecDepth 16384

noncomputable section

namespace Cert.OmRef

open Cert.Reference2Ideal Cert.Reference2Ideal.Gen Cert.Reference2Ideal.Read
open Idealize.ShloMosaic
open Idealize.ShloMosaic.ValueIdx
open scoped BigOperators

theorem zero_f32 : (Ideal.ofBits .f32 0x00000000#32 : EReal) = 0 := by simp [Ideal.ofBits, Ideal.ieee]

theorem ix3_ext {n0 n1 n2 : Nat} (y z : (⟨3, ![n0, n1, n2]⟩ : Shape).Idx)
    (h0 : (y 0).val = (z 0).val) (h1 : (y 1).val = (z 1).val) (h2 : (y 2).val = (z 2).val) : y = z := by
  funext d
  match d with
  | ⟨0, _⟩ => exact Fin.ext h0
  | ⟨1, _⟩ => exact Fin.ext h1
  | ⟨2, _⟩ => exact Fin.ext h2

theorem ix2_ext {n0 n1 : Nat} (y z : (⟨2, ![n0, n1]⟩ : Shape).Idx)
    (h0 : (y 0).val = (z 0).val) (h1 : (y 1).val = (z 1).val) : y = z := by
  funext d
  match d with
  | ⟨0, _⟩ => exact Fin.ext h0
  | ⟨1, _⟩ => exact Fin.ext h1

theorem ix1_ext {n0 : Nat} (y z : (⟨1, ![n0]⟩ : Shape).Idx) (h0 : (y 0).val = (z 0).val) : y = z := by
  funext d
  match d with
  | ⟨0, _⟩ => exact Fin.ext h0

variable (x0 : FVec Ideal S16x2048x1024 .f32) (x1 x2 : FVec Ideal S16x2048x512 .f32) (x3 : FVec Ideal S16x6144 .f32)
  (x4 x5 x6 : FVec Ideal S1024 .f32) (x7 : FVec Ideal S1024x1024 .f32) (x8 : FVec Ideal S1024x4096 .f32) (x9 : FVec Ideal S4096x1024 .f32)

/-! ### Modulations and gains, spread over the tokens -/

theorem mod_apply (b : Fin 16) (k : Nat) (hk : k < 6144) (i : S16x1x6144.Idx) (h0 : (i 0).val = b.val) (h2 : (i 2).val = k) :
    val_main_v0 (F := Ideal) x3 i = x3 (ix2 b (⟨k, hk⟩ : Fin 6144)) :=
  (val_main_v0_apply (F := Ideal) x3 i).trans
    (congrArg (x3 : S16x6144.Idx → EReal) (ix2_ext (idx_main_v0 i) (ix2 b (⟨k, hk⟩ : Fin 6144)) h0 h2))

theorem gate1 (b : Fin 16) (s : Fin 2048) (l : Fin 1024) :
    val_main_v22 (F := Ideal) x3 (ix3 b s l) = OmSpec.modRow x3 2 b l := by
  rw [val_main_v22_apply, val_main_v3_apply]
  exact mod_apply x3 b _ (by omega) _ rfl rfl

theorem shift2 (b : Fin 16) (s : Fin 2048) (l : Fin 1024) :
    val_main_v42 (F := Ideal) x3 (ix3 b s l) = OmSpec.modRow x3 3 b l := by
  rw [val_main_v42_apply, val_main_v4_apply]
  exact mod_apply x3 b _ (by omega) _ rfl rfl

theorem scale2 (b : Fin 16) (s : Fin 2048) (l : Fin 1024) :
    val_main_v40 (F := Ideal) x3 (ix3 b s l) = OmSpec.one + OmSpec.modRow x3 4 b l := by
  rw [val_main_v40_apply, val_main_v39_apply, val_main_v5_apply, val_main_v38_apply]
  refine congrArg (fun z : EReal => OmSpec.one + z) ?_
  exact mod_apply x3 b _ (by omega) _ rfl rfl

theorem gate2 (b : Fin 16) (s : Fin 2048) (l : Fin 1024) :
    val_main_v61 (F := Ideal) x3 (ix3 b s l) = OmSpec.modRow x3 5 b l := by
  rw [val_main_v61_apply, val_main_v6_apply]
  exact mod_apply x3 b _ (by omega) _ rfl rfl

theorem gainM (b : Fin 16) (s : Fin 2048) (l : Fin 1024) : val_main_v20 (F := Ideal) x4 (ix3 b s l) = OmSpec.gainRow x4 l := by
  rw [val_main_v20_apply, val_main_v19_apply]
  exact congrArg x4 (ix1_ext _ (ix1 l) rfl)

theorem gainI (b : Fin 16) (s : Fin 2048) (l : Fin 1024) : val_main_v36 (F := Ideal) x5 (ix3 b s l) = OmSpec.gainRow x5 l := by
  rw [val_main_v36_apply, val_main_v35_apply]
  exact congrArg x5 (ix1_ext _ (ix1 l) rfl)

theorem gainO (b : Fin 16) (s : Fin 2048) (l : Fin 1024) : val_main_v59 (F := Ideal) x6 (ix3 b s l) = OmSpec.gainRow x6 l := by
  rw [val_main_v59_apply, val_main_v58_apply]
  exact congrArg x6 (ix1_ext _ (ix1 l) rfl)

/-! ### The output projection -/

theorem both_left (b : Fin 16) (s : Fin 2048) (k : Fin 512) :
    val_main_v7 (F := Ideal) x1 x2 (ix3 b s (⟨k.val, by omega⟩ : Fin 1024)) = x1 (ix3 b s k) := by
  unfold val_main_v7
  exact concatenate_pair_apply_left (t := S16x2048x1024) 2 x1 x2 _ (ix3 b s (⟨k.val, by omega⟩ : Fin 1024)) rfl (ix3 b s k)
    (fun a => match a with | ⟨0, _⟩ => rfl | ⟨1, _⟩ => rfl | ⟨2, _⟩ => rfl)

theorem both_right (b : Fin 16) (s : Fin 2048) (k : Fin 512) :
    val_main_v7 (F := Ideal) x1 x2 (ix3 b s (⟨512 + k.val, by omega⟩ : Fin 1024)) = x2 (ix3 b s k) := by
  unfold val_main_v7
  exact concatenate_pair_apply_right (t := S16x2048x1024) 2 x1 x2 _ (ix3 b s (⟨512 + k.val, by omega⟩ : Fin 1024)) rfl rfl (ix3 b s k)
    (fun a ha => match a with | ⟨0, _⟩ => rfl | ⟨1, _⟩ => rfl | ⟨2, _⟩ => absurd rfl ha)
    (by exact Nat.add_comm k.val 512)

abbrev mixRow (b : Fin 16) (s : Fin 2048) : OmSpec.Row 1024 :=
  OmSpec.mix (OmSpec.tokenRow x1 b s) (OmSpec.tokenRow x2 b s) (OmSpec.matrix x7)

theorem mix_apply (b : Fin 16) (s : Fin 2048) (l : Fin 1024) :
    val_main_v8 (F := Ideal) x1 x2 x7 (ix3 b s l) = mixRow x1 x2 x7 b s l := by
  rw [val_main_v8_apply]
  refine (Fin.sum_univ_add (a := 512) (b := 512) (fun k : Fin 1024 =>
    (val_main_v7 (F := Ideal) x1 x2 (lidx_main_v8 (ix3 b s l) k) * x7 (ridx_main_v8 (ix3 b s l) k) : EReal))).trans ?_
  refine congrArg₂ (· + ·) (Finset.sum_congr rfl fun k _ => ?_) (Finset.sum_congr rfl fun k _ => ?_)
  · refine congrArg₂ (fun p q : EReal => p * q) ?_ ?_
    · exact (congrArg (val_main_v7 (F := Ideal) x1 x2) (ix3_ext (lidx_main_v8 (ix3 b s l) (Fin.castAdd 512 k))
        (ix3 b s (⟨k.val, by omega⟩ : Fin 1024)) rfl rfl rfl)).trans (both_left x1 x2 b s k)
    · exact congrArg x7 (ix2_ext (ridx_main_v8 (ix3 b s l) (Fin.castAdd 512 k)) (ix2 (⟨k.val, by omega⟩ : Fin 1024) l) rfl rfl)
  · refine congrArg₂ (fun p q : EReal => p * q) ?_ ?_
    · exact (congrArg (val_main_v7 (F := Ideal) x1 x2) (ix3_ext (lidx_main_v8 (ix3 b s l) (Fin.natAdd 512 k))
        (ix3 b s (⟨512 + k.val, by omega⟩ : Fin 1024)) rfl rfl rfl)).trans (both_right x1 x2 b s k)
    · exact congrArg x7 (ix2_ext (ridx_main_v8 (ix3 b s l) (Fin.natAdd 512 k)) (ix2 (⟨512 + k.val, by omega⟩ : Fin 1024) l) rfl rfl)

/-! ### The first residual sum -/

/-- A row's scale, whatever the row: the reference's three are one text at three rows. -/
theorem normed_of (y : OmSpec.Row 1024) (sq : EReal) (h : sq = ∑ k, y k * y k) (l : Fin 1024) :
    y l * Ideal.rsqrt (Ideal.div sq OmSpec.width + OmSpec.guard) = OmSpec.normed y l := by rw [h]; rfl

theorem sq1 (b : Fin 16) (s : Fin 2048) :
    val_main_v10 (F := Ideal) x1 x2 x7 (ix2 b s) = ∑ k, mixRow x1 x2 x7 b s k * mixRow x1 x2 x7 b s k := by
  rw [val_main_v10_apply, val_main_cst_apply]
  refine (congrArg (fun z : EReal => z + _) zero_f32).trans ((zero_add _).trans (Finset.sum_congr rfl fun k _ => ?_))
  rw [show idx_main_v10 (ix2 b s) k = ix3 b s k from ix3_ext _ (ix3 b s k) rfl rfl rfl, val_main_v9_apply, mix_apply]
  rfl

theorem norm1 (b : Fin 16) (s : Fin 2048) (l : Fin 1024) :
    val_main_v18 (F := Ideal) x1 x2 x7 (ix3 b s l) = OmSpec.normed (mixRow x1 x2 x7 b s) l := by
  rw [val_main_v18_apply, mix_apply, val_main_v17_apply, val_main_v16_apply, val_main_v15_apply, val_main_v13_apply,
    val_main_v12_apply, val_main_v14_apply, val_main_v11_apply]
  rw [show idx_main_v11 (idx_main_v17 (ix3 b s l)) = ix2 b s from ix2_ext _ (ix2 b s) rfl rfl]
  exact normed_of _ _ (sq1 x1 x2 x7 b s) l

abbrev midRow (b : Fin 16) (s : Fin 2048) : OmSpec.Row 1024 :=
  OmSpec.residual (OmSpec.tokenRow x0 b s) (mixRow x1 x2 x7 b s) (fun k => OmSpec.modRow x3 2 b k * OmSpec.gainRow x4 k)

theorem mid_apply (b : Fin 16) (s : Fin 2048) (l : Fin 1024) :
    val_main_v24 (F := Ideal) x0 x1 x2 x3 x4 x7 (ix3 b s l) = midRow x0 x1 x2 x3 x4 x7 b s l := by
  rw [val_main_v24_apply, val_main_v23_apply, val_main_v21_apply, gate1, gainM, norm1]
  exact congrArg (fun z : EReal => x0 (ix3 b s l) + z) (mul_left_comm _ _ _)

/-! ### The network -/

theorem sq2 (b : Fin 16) (s : Fin 2048) :
    val_main_v26 (F := Ideal) x0 x1 x2 x3 x4 x7 (ix2 b s)
      = ∑ k, midRow x0 x1 x2 x3 x4 x7 b s k * midRow x0 x1 x2 x3 x4 x7 b s k := by
  rw [val_main_v26_apply, val_main_cst_2_apply]
  refine (congrArg (fun z : EReal => z + _) zero_f32).trans ((zero_add _).trans (Finset.sum_congr rfl fun k _ => ?_))
  rw [show idx_main_v26 (ix2 b s) k = ix3 b s k from ix3_ext _ (ix3 b s k) rfl rfl rfl, val_main_v25_apply, mid_apply]
  rfl

theorem norm2 (b : Fin 16) (s : Fin 2048) (l : Fin 1024) :
    val_main_v34 (F := Ideal) x0 x1 x2 x3 x4 x7 (ix3 b s l) = OmSpec.normed (midRow x0 x1 x2 x3 x4 x7 b s) l := by
  rw [val_main_v34_apply, mid_apply, val_main_v33_apply, val_main_v32_apply, val_main_v31_apply, val_main_v29_apply,
    val_main_v28_apply, val_main_v30_apply, val_main_v27_apply]
  rw [show idx_main_v27 (idx_main_v33 (ix3 b s l)) = ix2 b s from ix2_ext _ (ix2 b s) rfl rfl]
  exact normed_of _ _ (sq2 x0 x1 x2 x3 x4 x7 b s) l

abbrev innerRow (b : Fin 16) (s : Fin 2048) : OmSpec.Row 1024 :=
  OmSpec.inner (midRow x0 x1 x2 x3 x4 x7 b s) (fun k => OmSpec.gainRow x5 k * (OmSpec.one + OmSpec.modRow x3 4 b k)) (OmSpec.modRow x3 3 b)

theorem inner_apply (b : Fin 16) (s : Fin 2048) (l : Fin 1024) :
    val_main_v43 (F := Ideal) x0 x1 x2 x3 x4 x5 x7 (ix3 b s l) = innerRow x0 x1 x2 x3 x4 x5 x7 b s l := by
  rw [val_main_v43_apply, val_main_v41_apply, val_main_v37_apply, norm2, gainI, scale2, shift2]
  exact congrArg (fun z : EReal => z + OmSpec.modRow x3 3 b l) (mul_assoc _ _ _)

theorem hidden_apply (b : Fin 16) (s : Fin 2048) (f : Fin 4096) :
    val_main_v45 (F := Ideal) x0 x1 x2 x3 x4 x5 x7 x8 (ix3 b s f)
      = OmSpec.hidden (innerRow x0 x1 x2 x3 x4 x5 x7 b s) (OmSpec.matrix x8) f := by
  rw [val_main_v45_apply, val_main_v44_apply, val_main_call0_v0_apply]
  refine congrArg₂ (fun p q : EReal => max p q) (Finset.sum_congr rfl fun k _ => ?_) zero_f32
  rw [show lidx_main_v44 (ix3 b s f) k = ix3 b s k from ix3_ext _ (ix3 b s k) rfl rfl rfl, inner_apply]
  exact congrArg (fun z : EReal => innerRow x0 x1 x2 x3 x4 x5 x7 b s k * z)
    (congrArg x8 (ix2_ext (ridx_main_v44 (ix3 b s f) k) (ix2 k f) rfl rfl))

abbrev mlpRow (b : Fin 16) (s : Fin 2048) : OmSpec.Row 1024 :=
  OmSpec.mlp (innerRow x0 x1 x2 x3 x4 x5 x7 b s) (OmSpec.matrix x8) (OmSpec.matrix x9)

theorem mlp_apply (b : Fin 16) (s : Fin 2048) (l : Fin 1024) :
    val_main_v47 (F := Ideal) x0 x1 x2 x3 x4 x5 x7 x8 x9 (ix3 b s l) = mlpRow x0 x1 x2 x3 x4 x5 x7 x8 x9 b s l := by
  rw [val_main_v47_apply]
  refine Finset.sum_congr rfl fun f _ => ?_
  rw [show lidx_main_v47 (ix3 b s l) f = ix3 b s f from ix3_ext _ (ix3 b s f) rfl rfl rfl, val_main_v46_apply, hidden_apply]
  exact congrArg (fun z : EReal => _ * z) (congrArg x9 (ix2_ext (ridx_main_v47 (ix3 b s l) f) (ix2 f l) rfl rfl))

/-! ### The second residual sum -/

theorem sq3 (b : Fin 16) (s : Fin 2048) :
    val_main_v49 (F := Ideal) x0 x1 x2 x3 x4 x5 x7 x8 x9 (ix2 b s)
      = ∑ k, mlpRow x0 x1 x2 x3 x4 x5 x7 x8 x9 b s k * mlpRow x0 x1 x2 x3 x4 x5 x7 x8 x9 b s k := by
  rw [val_main_v49_apply, val_main_cst_6_apply]
  refine (congrArg (fun z : EReal => z + _) zero_f32).trans ((zero_add _).trans (Finset.sum_congr rfl fun k _ => ?_))
  rw [show idx_main_v49 (ix2 b s) k = ix3 b s k from ix3_ext _ (ix3 b s k) rfl rfl rfl, val_main_v48_apply, mlp_apply]
  rfl

theorem norm3 (b : Fin 16) (s : Fin 2048) (l : Fin 1024) :
    val_main_v57 (F := Ideal) x0 x1 x2 x3 x4 x5 x7 x8 x9 (ix3 b s l) = OmSpec.normed (mlpRow x0 x1 x2 x3 x4 x5 x7 x8 x9 b s) l := by
  rw [val_main_v57_apply, mlp_apply, val_main_v56_apply, val_main_v55_apply, val_main_v54_apply, val_main_v52_apply,
    val_main_v51_apply, val_main_v53_apply, val_main_v50_apply]
  rw [show idx_main_v50 (idx_main_v56 (ix3 b s l)) = ix2 b s from ix2_ext _ (ix2 b s) rfl rfl]
  exact normed_of _ _ (sq3 x0 x1 x2 x3 x4 x5 x7 x8 x9 b s) l

theorem last_apply (b : Fin 16) (s : Fin 2048) (l : Fin 1024) :
    val_main_v63 (F := Ideal) x0 x1 x2 x3 x4 x5 x6 x7 x8 x9 (ix3 b s l)
      = OmSpec.result x0 x1 x2 x3 x4 x5 x6 x7 x8 x9 b s l := by
  rw [val_main_v63_apply, val_main_v62_apply, val_main_v60_apply, gate2, gainO, norm3, mid_apply]
  exact congrArg (fun z : EReal => midRow x0 x1 x2 x3 x4 x7 b s l + z) (mul_left_comm _ _ _)

theorem result_apply (y : S32768x1024.Idx) :
    val_main_v64 (F := Ideal) x0 x1 x2 x3 x4 x5 x6 x7 x8 x9 y
      = OmSpec.result x0 x1 x2 x3 x4 x5 x6 x7 x8 x9 (⟨(y 0).val / 2048, by have h : (y 0).val < 32768 := (y 0).isLt; omega⟩ : Fin 16)
          (⟨(y 0).val % 2048, by omega⟩ : Fin 2048) (⟨(y 1).val, (y 1).isLt⟩ : Fin 1024) := by
  refine Eq.trans ?_ (last_apply x0 x1 x2 x3 x4 x5 x6 x7 x8 x9 _ _ _)
  rw [val_main_v64_apply]
  have h0 : (y 0).val < 32768 := (y 0).isLt
  have h1 : (y 1).val < 1024 := (y 1).isLt
  refine congrArg (val_main_v63 (F := Ideal) x0 x1 x2 x3 x4 x5 x6 x7 x8 x9) (ix3_ext (idx_main_v64 y)
    (ix3 (⟨(y 0).val / 2048, by omega⟩ : Fin 16) (⟨(y 0).val % 2048, by omega⟩ : Fin 2048) (⟨(y 1).val, (y 1).isLt⟩ : Fin 1024)) ?_ ?_ ?_)
  · show ((y 0).val * 1024 + (y 1).val) / 2097152 = (y 0).val / 2048; omega
  · show ((y 0).val * 1024 + (y 1).val) / 1024 % 2048 = (y 0).val % 2048; omega
  · show ((y 0).val * 1024 + (y 1).val) % 1024 = (y 1).val; omega

end Cert.OmRef

end
-- ==== Proof.OmClaim.lean ====
/- The claims about the output projection and the network. -/
module

public import proofs.«01_k».proof.Defs
public import proofs.«01_k».proof.Proof.OmArray
public import proofs.«01_k».proof.Proof.OmRef
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run

@[expose] public section

set_option maxRecDepth 16384

noncomputable section

namespace Cert.OmClaim

open Idealize.ShloMosaic Idealize.SL.Sem

theorem frame : Cert.quiescent_Kernel2 (hKernel2 := Cert.Kernel2.Gen.facts) := fun m ρ _ => Cert.Kernel2.Gen.frame m ρ

theorem frameIdeal : Cert.quiescent_Kernel2Ideal (hKernel2Ideal := Cert.Kernel2Ideal.Gen.facts) := fun m ρ _ =>
  Cert.Kernel2Ideal.Gen.frame m ρ

theorem frameReference : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Om.G m c, ?_, ?_⟩
  · exact (θ_run Cert.Kernel2Ideal.defs _ _).mono (fun _ h c => ⟨(h c).1.trans (Cert.Kernel2Ideal.Om.final m c), (h c).2⟩)
      (Cert.Kernel2Ideal.Value.run_blocks (F := Ideal) m ρ)
  · refine (θ_run Cert.Reference2Ideal.defs _ _).mono (fun _ h c => ⟨(h c).1.trans ?_, (h c).2⟩)
      (Cert.Reference2Ideal.Value.run (F := Ideal) m' ρ')
    rw [Cert.Reference2Ideal.Read.val_main_v64_eq]
    obtain ⟨e0, e1, e2, e3, e4, e5, e6, e7, e8, e9⟩ := hagree c
    rw [e0, e1, e2, e3, e4, e5, e6, e7, e8, e9]
    funext y
    exact OmRef.result_apply _ _ _ _ _ _ _ _ _ _ y

end Cert.OmClaim

end
-- ==== Proof.IpTile.lean ====
/- The body of the latent input projection: its 52 stores are blocks of seven groups, each group one function of the rows
   and columns it covers. -/
module

public import proofs.«01_k».proof.Proof.Gen.Kernel3Ideal.Value
public import proofs.«01_k».proof.Proof.OmTile
public import Idealize.ShloMosaic.Lib.Pipeline.Value
public import Idealize.ShloMosaic.Lib.Pipeline.ValueKit
public import Idealize.ShloMosaic.Lib.Pipeline.ValueKit.Tiles

@[expose] public section

set_option maxRecDepth 16384

noncomputable section

namespace Cert.Kernel3Ideal.Ip

open Cert.Kernel3Ideal Cert.Kernel3Ideal.Gen Idealize.ShloMosaic Idealize.ShloMosaic.TcCoe Idealize.SL.Sem
open Cert.Kernel2Ideal.Om (inner modRow gainRow inb2)

variable {F : FTy → Type} [FloatOps F] [Named F]

/-- The rows that go into the projection. -/
def fed (g : Vec F S1x1024 .f32) (sc sh : Vec F S1x1x1024 .f32) (x : Vec F S256x1024 .f32) : FVec F S256x1024 .bf16 :=
  inner (shapeCast S256x1024 x shapeCasts_S256x1024_S256x1024)
    (mulf (gainRow g) (addf (broadcast S1x1024 (Scalar.ofBits .f32 0x3F800000#32 : F .f32)) (modRow sc))) (modRow sh)

/-- One group of columns of the projection. -/
def acc (h : FVec F S256x1024 .bf16) (w : Vec F S1024x512 .bf16) : FVec F S256x512 .f32 :=
  matmul dot_S256x1024_S1024x512_S256x512_1_0_0_1_n_n none h
    (shapeCast S1024x512 w shapeCasts_S1024x512_S1024x512 : FVec F S1024x512 .bf16) (constant S256x512 .f32 0x00000000#32)

def plain (h : FVec F S256x1024 .bf16) (w : Vec F S1024x512 .bf16) : FVec F S256x512 .bf16 :=
  truncf .bf16 (acc h w) bitsLt_bf16_f32

def query (h : FVec F S256x1024 .bf16) (w : Vec F S1024x512 .bf16) : FVec F S256x512 .bf16 :=
  truncf .bf16 (mulf (acc h w) (broadcast S256x512 (Named.named κ "q_scale" 0x3E38AA3B#32 : F .f32))) bitsLt_bf16_f32

def gated (gn : Vec F S1x512 .f32) (h : FVec F S256x1024 .bf16) (w : Vec F S1024x512 .bf16) : FVec F S256x512 .bf16 :=
  truncf .bf16 (mulf (mulf (acc h w) (logistic (acc h w)))
    (broadcastTo S256x512 (shapeCast S1x512 gn shapeCasts_S1x512_S1x512) broadcasts_S1x512_S256x512)) bitsLt_bf16_f32

/-- Where the lane's partner lies above it. -/
def lower : IVec S256x128 1 :=
  broadcastTo S256x128 (shapeCast S1x128 (k0_pay14 : IVec S1x128 1) shapeCasts_S1x128_S1x128) broadcasts_S1x128_S256x128

def turn (a cos sin : FVec F S256x128 .f32) : FVec F S256x128 .bf16 :=
  truncf .bf16 (addf (mulf a (shapeCast S256x128 cos shapeCasts_S256x128_S256x128))
    (mulf (select lower (dynamicRotate 1 96#32 none a rotates_S256x128_d1) (dynamicRotate 1 32#32 none a rotates_S256x128_d1))
      (shapeCast S256x128 sin shapeCasts_S256x128_S256x128))) bitsLt_bf16_f32

theorem slices_head (k : Fin 4) : S256x512.Slices ![0, 128 * k.val] S256x128 :=
  match k with
  | 0 => slices_S256x512_o0_0_S256x128
  | 1 => slices_S256x512_o0_128_S256x128
  | 2 => slices_S256x512_o0_256_S256x128
  | 3 => slices_S256x512_o0_384_S256x128

/-- The rows of row block `r`. -/
abbrev rowsX (r : Fin 4) : Rect S1024x1024 :=
  Rect.unit (s := S1024x1024) ![256 * r.val, 0] S256x1024.size (inb2 _ _ (by omega) (by omega))
abbrev rowsTab (r : Fin 4) (o : Nat) (ho : o + 128 ≤ 256) : Rect S1024x256 :=
  Rect.unit (s := S1024x256) ![256 * r.val, o] S256x128.size (inb2 _ _ (by omega) (by omega))
abbrev wide (g : Fin 7) (r : Fin 4) : Rect S1024x3584 :=
  Rect.unit (s := S1024x3584) ![256 * r.val, 512 * g.val] S256x512.size (inb2 _ _ (by omega) (by omega))
abbrev head (g : Fin 2) (r k : Fin 4) : Rect S1024x3584 :=
  Rect.unit (s := S1024x3584) ![256 * r.val, 512 * g.val + 128 * k.val] S256x128.size (inb2 _ _ (by omega) (by omega))

def rotated (tab : Vec F S1024x256 .f32) (r k : Fin 4) (h : FVec F S256x1024 .bf16) (w : Vec F S1024x512 .bf16) :
    FVec F S256x128 .bf16 :=
  turn (extractStridedSlice S256x128 ![0, 128 * k.val] (acc h w) (slices_head k)) (View.ld tab (rowsTab r 0 (by omega)))
    (View.ld tab (rowsTab r 128 (by omega)))

abbrev Piece (F : FTy → Type) := View.Piece (Elt F) S1024x3584 .bf16

/-- The four stores of a group, the last row block first. -/
def wides (g : Fin 7) (f : Fin 4 → FVec F S256x512 .bf16) : List (Piece F) :=
  List.ofFn fun n : Fin 4 => ⟨wide g ⟨3 - n.val, by omega⟩, f ⟨3 - n.val, by omega⟩⟩

/-- The sixteen stores of a group of heads. -/
def heads (g : Fin 2) (f : Fin 4 → Fin 4 → FVec F S256x128 .bf16) : List (Piece F) :=
  List.ofFn fun n : Fin 16 => ⟨head g ⟨3 - n.val / 4, by omega⟩ ⟨3 - n.val % 4, by omega⟩,
    f ⟨3 - n.val / 4, by omega⟩ ⟨3 - n.val % 4, by omega⟩⟩

variable (m : (ℓ : Loc nD τ sig) → Buf (Elt F) ℓ) (c : Dev nD) (t : Fin cfg0.N)

abbrev rowsIn (r : Fin 4) : FVec F S256x1024 .bf16 :=
  fed (iblk m c 3 t) (iblk m c 2 t) (iblk m c 1 t) (View.ld (iblk m c 0 t) (rowsX r))

theorem after_16 : (dats m 0 c).after 16 t = View.canon
    (wides 6 (fun r => plain (rowsIn m c t r) (iblk m c 10 t)) ++ (wides 5 (fun r => plain (rowsIn m c t r) (iblk m c 9 t))
      ++ (wides 4 (fun r => query (rowsIn m c t r) (iblk m c 8 t)) ++ (wides 3 (fun r => gated (iblk m c 12 t) (rowsIn m c t r) (iblk m c 7 t))
      ++ (wides 2 (fun r => plain (rowsIn m c t r) (iblk m c 6 t)) ++ (heads 1 (fun r k => rotated (iblk m c 11 t) r k (rowsIn m c t r) (iblk m c 5 t))
      ++ heads 0 (fun r k => rotated (iblk m c 11 t) r k (rowsIn m c t r) (iblk m c 4 t)))))))) := by
  rw [after0_16]
  frame_out
  rfl

theorem after_17 : (dats m 0 c).after 17 t = truncf .bf16 (iblk m c 13 t : Vec F S32x1024 .f32) bitsLt_bf16_f32 := by
  rw [after0_17]
  frame_out
  rfl

theorem after_18 : (dats m 0 c).after 18 t = truncf .bf16 (iblk m c 14 t : Vec F S32x4096 .f32) bitsLt_bf16_f32 := by
  rw [after0_18]
  frame_out
  rfl

theorem after_19 : (dats m 0 c).after 19 t = truncf .bf16 (iblk m c 15 t : Vec F S128x1024 .f32) bitsLt_bf16_f32 := by
  rw [after0_19]
  frame_out
  rfl

end Cert.Kernel3Ideal.Ip

end
-- ==== Proof.IpSpec.lean ====
/- The input projection of the latent tokens for one position, over the extended reals: the seven column groups of the
   projected row, the first two with their heads rotated, the fourth made a gate, the fifth scaled. -/
module

public import proofs.«01_k».proof.Proof.OmSpec

@[expose] public section

noncomputable section

namespace Cert.IpSpec

open Idealize.ShloMosaic
open Cert.OmSpec (Row Tokens Mods Gain)
open scoped BigOperators

/-- The host's cosine and sine. -/
def cosE (x : EReal) : EReal := (FloatOps.hostUnary .cos (x : Ideal .f32) : Ideal .f32)
def sinE (x : EReal) : EReal := (FloatOps.hostUnary .sin (x : Ideal .f32) : Ideal .f32)

/-- A head of 128 channels in two halves, each turned in its 32 pairs: the first by the row's angles, the second by the
    column's. -/
def turned (a : Row 128) (ang : Fin 2 → Row 32) : Row 128 := fun j =>
  if h : j.val % 64 < 32 then
    a j * cosE (ang ⟨j.val / 64, by omega⟩ ⟨j.val % 32, by omega⟩)
      - a ⟨j.val + 32, by omega⟩ * sinE (ang ⟨j.val / 64, by omega⟩ ⟨j.val % 32, by omega⟩)
  else
    a ⟨j.val - 32, by omega⟩ * sinE (ang ⟨j.val / 64, by omega⟩ ⟨j.val % 32, by omega⟩)
      + a j * cosE (ang ⟨j.val / 64, by omega⟩ ⟨j.val % 32, by omega⟩)

/-- The gate's channel times its own logistic value. -/
def gate (gn z : EReal) : EReal := gn * (z * Ideal.logistic z)

/-- A query's channel in units that make the attention's powers those of two. -/
def scaled (z : EReal) : EReal := z * (((1 / 8) * (Real.log 2)⁻¹ : ℝ) : EReal)

/-- Column `j` of group `g` of the projected row `p`. -/
def column (p : Fin 7 → Row 512) (ang : Fin 2 → Row 32) (gn : Row 512) : Fin 7 → Row 512
  | 0 => fun j => turned (fun i => p 0 ⟨128 * (j.val / 128) + i.val, by omega⟩) ang ⟨j.val % 128, by omega⟩
  | 1 => fun j => turned (fun i => p 1 ⟨128 * (j.val / 128) + i.val, by omega⟩) ang ⟨j.val % 128, by omega⟩
  | 2 => p 2
  | 3 => fun j => gate (gn j) (p 3 j)
  | 4 => fun j => scaled (p 4 j)
  | 5 => p 5
  | 6 => p 6

/-- The row before the groups are told apart. -/
def proj (h : Row 1024) (w : Fin 1024 → Row 3584) : Fin 7 → Row 512 := fun g j =>
  ∑ k, h k * w k ⟨512 * g.val + j.val, by omega⟩

/-- The result for token `s` of sequence `b`, its angles given. -/
def result (x : (Tokens 1024).Idx → EReal) (mods : Mods.Idx → EReal) (gm : Gain.Idx → EReal)
    (w : (⟨2, ![1024, 3584]⟩ : Shape).Idx → EReal) (gn : (⟨1, ![512]⟩ : Shape).Idx → EReal)
    (rows cols : (⟨2, ![2048, 32]⟩ : Shape).Idx → EReal) (b : Fin 16) (s : Fin 2048) : Fin 7 → Row 512 :=
  column (proj (OmSpec.inner (OmSpec.tokenRow x b s) (fun k => OmSpec.gainRow gm k * (OmSpec.one + OmSpec.modRow mods 1 b k))
      (OmSpec.modRow mods 0 b)) (OmSpec.matrix w))
    (fun a k => if a = 0 then rows (ValueIdx.ix2 s k) else cols (ValueIdx.ix2 s k)) (fun j => gn (ValueIdx.ix1 j))

end Cert.IpSpec

end
-- ==== Proof.IcSpec.lean ====
/- The input projection of the context tokens for one position, over the extended reals: four of the seven column groups. -/
module

public import proofs.«01_k».proof.Proof.IpSpec

@[expose] public section

set_option maxRecDepth 16384

noncomputable section

namespace Cert.IcSpec

open Idealize.ShloMosaic
open Cert.OmSpec (Row Gain)
open scoped BigOperators

/-- The groups that the latent tokens read: keys and values of each mixer. -/
def pick : Fin 4 → Fin 7
  | 0 => 1 | 1 => 2 | 2 => 5 | 3 => 6

/-- One of the six parts of the modulation vector that all sequences share. -/
def modRow (mods : (⟨1, ![6144]⟩ : Shape).Idx → EReal) (j : Fin 6) : Row 1024 := fun l =>
  mods (ValueIdx.ix1 (⟨1024 * j.val + l.val, by omega⟩ : Fin 6144))

/-- The projection's input. -/
def row (x : (⟨3, ![16, 256, 1024]⟩ : Shape).Idx → EReal) (mods : (⟨1, ![6144]⟩ : Shape).Idx → EReal) (gm : Gain.Idx → EReal)
    (b : Fin 16) (s : Fin 256) : Row 1024 :=
  OmSpec.inner (fun k => x (ValueIdx.ix3 b s k)) (fun k => OmSpec.gainRow gm k * (OmSpec.one + modRow mods 1 k)) (modRow mods 0)

/-- The result for context token `s` of sequence `b`. -/
def result (x : (⟨3, ![16, 256, 1024]⟩ : Shape).Idx → EReal) (mods : (⟨1, ![6144]⟩ : Shape).Idx → EReal) (gm : Gain.Idx → EReal)
    (w : (⟨2, ![1024, 3584]⟩ : Shape).Idx → EReal) (b : Fin 16) (s : Fin 256) : Fin 4 → Row 512 := fun g =>
  IpSpec.proj (row x mods gm b s) (OmSpec.matrix w) (pick g)

end Cert.IcSpec

end
-- ==== Proof.IcTile.lean ====
/- The context projection's body and operands: its sixteen stores, and what its launch finds, read at an index. -/
module

public import proofs.«01_k».proof.Proof.Gen.Kernel4Ideal.Value
public import proofs.«01_k».proof.Proof.IpTile
public import proofs.«01_k».proof.Proof.IcSpec
public import proofs.«01_k».proof.Proof.OmHost
public import Idealize.ShloMosaic.Lib.ValueIdx
public import Idealize.ShloMosaic.Lib.StableHlo.RunRead
public import Idealize.ShloMosaic.Lib.Pipeline.Value
public import Idealize.ShloMosaic.Lib.Pipeline.ValueKit.Tiles

@[expose] public section

set_option maxRecDepth 16384

noncomputable section

namespace Cert.Kernel4Ideal.Ic

open Idealize.ShloMosaic hiding ix1 ix2 ix3 ix4 ix5 ix6 eq_ix2 eq_ix3 eq_ix4
open Cert.Kernel4Ideal Cert.Kernel4Ideal.Gen Idealize.ShloMosaic.ValueIdx Idealize.ShloMosaic.TcCoe Idealize.SL.Sem
open Cert.Kernel2Ideal.Om (inner modRow gainRow inb2 cast_gain)

section Body

variable {F : FTy → Type} [FloatOps F]

/-- The rows that go into the projection. -/
def fed (g : Vec F S1x1024 .f32) (sc sh : Vec F S1x1x1024 .f32) (x : Vec F S256x1024 .f32) : FVec F S256x1024 .bf16 :=
  inner (shapeCast S256x1024 x shapeCasts_S256x1024_S256x1024)
    (mulf (gainRow g) (addf (broadcast S1x1024 (Scalar.ofBits .f32 0x3F800000#32 : F .f32)) (modRow sc))) (modRow sh)

/-- One group of columns of the projection. -/
def plain (h : FVec F S256x1024 .bf16) (w : Vec F S1024x512 .bf16) : FVec F S256x512 .bf16 :=
  truncf .bf16 (matmul dot_S256x1024_S1024x512_S256x512_1_0_0_1_n_n none h
    (shapeCast S1024x512 w shapeCasts_S1024x512_S1024x512 : FVec F S1024x512 .bf16) (constant S256x512 .f32 0x00000000#32)) bitsLt_bf16_f32

abbrev rowsX (r : Fin 4) : Rect S1024x1024 :=
  Rect.unit (s := S1024x1024) ![256 * r.val, 0] S256x1024.size (inb2 _ _ (by omega) (by omega))
abbrev wide (g : Fin 4) (r : Fin 4) : Rect S1024x2048 :=
  Rect.unit (s := S1024x2048) ![256 * r.val, 512 * g.val] S256x512.size (inb2 _ _ (by omega) (by omega))

abbrev Piece (F : FTy → Type) := View.Piece (Elt F) S1024x2048 .bf16

/-- The four stores of a group, the last row block first. -/
def wides (g : Fin 4) (f : Fin 4 → FVec F S256x512 .bf16) : List (Piece F) :=
  List.ofFn fun n : Fin 4 => ⟨wide g ⟨3 - n.val, by omega⟩, f ⟨3 - n.val, by omega⟩⟩

variable (m : (ℓ : Loc nD τ sig) → Buf (Elt F) ℓ) (c : Dev nD) (t : Fin cfg0.N)

abbrev rowsIn (r : Fin 4) : FVec F S256x1024 .bf16 :=
  fed (iblk m c 3 t) (iblk m c 2 t) (iblk m c 1 t) (View.ld (iblk m c 0 t) (rowsX r))

section Rows

variable (x0 : Vec F S1024x1024 .f32) (x1 x2 : Vec F S1x1x1024 .f32) (x3 : Vec F S1x1024 .f32) (x4 x5 x6 x7 : Vec F S1024x512 .bf16)

theorem ld_gain : View.ld x3 r0_0 = x3 :=
  View.ld_unit_zero (funext fun a => match a with | ⟨0, _⟩ => rfl | ⟨1, _⟩ => rfl) _ x3

theorem ld_mod : View.ld x1 r0_1 = x1 :=
  View.ld_unit_zero (funext fun a => match a with | ⟨0, _⟩ => rfl | ⟨1, _⟩ => rfl | ⟨2, _⟩ => rfl) _ x1

theorem rows_0 : k0_pay26 x0 x1 x2 x3 x4 x5 x6 x7 = fed x3 x2 x1 (View.ld x0 (rowsX 0)) := by
  unfold k0_pay26
  rw [ld_gain, ld_mod, ld_mod]
  rfl

theorem rows_1 : k0_pay27 x0 x1 x2 x3 x4 x5 x6 x7 = fed x3 x2 x1 (View.ld x0 (rowsX 1)) := by
  unfold k0_pay27 k0_pay25
  rw [ld_gain, ld_mod, ld_mod]
  rfl

theorem rows_2 : k0_pay28 x0 x1 x2 x3 x4 x5 x6 x7 = fed x3 x2 x1 (View.ld x0 (rowsX 2)) := by
  unfold k0_pay28 k0_pay24 k0_pay25
  rw [ld_gain, ld_mod, ld_mod]
  rfl

theorem rows_3 : k0_pay29 x0 x1 x2 x3 x4 x5 x6 x7 = fed x3 x2 x1 (View.ld x0 (rowsX 3)) := by
  unfold k0_pay29 k0_pay24 k0_pay25
  rw [ld_gain, ld_mod, ld_mod]
  rfl

end Rows

theorem after_8 : (dats m 0 c).after 8 t = View.canon
    (wides 3 (fun r => plain (rowsIn m c t r) (iblk m c 7 t)) ++ (wides 2 (fun r => plain (rowsIn m c t r) (iblk m c 6 t))
      ++ (wides 1 (fun r => plain (rowsIn m c t r) (iblk m c 5 t)) ++ wides 0 (fun r => plain (rowsIn m c t r) (iblk m c 4 t))))) := by
  rw [after0_8]
  frame_out
  rw [rows_0, rows_1, rows_2, rows_3]
  rfl

end Body

/-! ## The operands -/

variable (m : (ℓ : Loc nD τ sig) → Buf (Elt Ideal) ℓ) (c : Dev nD)

abbrev argX : FVec Ideal S16x256x1024 .f32 := m ((c : Thread nD τ).loc main_arg0)
abbrev argMods : FVec Ideal S6144 .f32 := m ((c : Thread nD τ).loc main_arg1)
abbrev argGm : FVec Ideal S1024 .f32 := m ((c : Thread nD τ).loc main_arg2)
abbrev argW : FVec Ideal S1024x3584 .f32 := m ((c : Thread nD τ).loc main_arg3)

theorem V5 : V m c main_v5 = shapeCast S4096x1024 (argX m c) shapeCasts_S16x256x1024_S4096x1024 := by
  unfold_abbrev_sides
  after_results
  rfl

theorem V6 : V m c main_v6 = shapeCast S1x1024 (argGm m c) shapeCasts_S1024_S1x1024 := by
  unfold_abbrev_sides
  after_results
  rfl

theorem V7 : V m c main_v7 = truncf (F := Ideal) (φ := .f32) .bf16 (argW m c) bitsLt_bf16_f32 := by
  unfold_abbrev_sides
  after_results

abbrev zeros (s : Shape) (h : S_.BroadcastsInDim s ![]) : FVec Ideal s .f32 :=
  broadcastInDim s ![] h (constant (F := Ideal) S_ .f32 0x00000000#32)

/-- The modulation vector among rows of zeros. -/
def padded : FVec Ideal S32x6144 .f32 :=
  concatenate S32x6144 0 [⟨S16x6144, zeros S16x6144 bcast_S_S16x6144⟩,
    ⟨S1x6144, broadcastInDim S1x6144 ![1] bcast_S6144_S1x6144_1 (argMods m c)⟩, ⟨S15x6144, zeros S15x6144 bcast_S_S15x6144⟩]
    concatenates_S16x6144_S1x6144_S15x6144_S32x6144_d0

theorem V4 : V m c main_v4 = shapeCast S32x1x6144 (padded m c) shapeCasts_S32x6144_S32x1x6144 := by
  unfold_abbrev_sides
  after_results
  rfl

/-- A row of the input in the layout of all sequences' rows. -/
theorem cast_rows {α : Type} (x : S16x256x1024.Idx → α) (R : Fin 4096) (b : Fin 16) (s : Fin 256) (hR : R.val = 256 * b.val + s.val)
    (l : Fin 1024) (h) : shapeCast S4096x1024 x h (ix2 R l) = x (ix3 b s l) := by
  refine shapeCast_apply x h _ _ ?_
  rw [Shape.rowMajor_val_three, Shape.rowMajor_val_two]
  show (b.val * 256 + s.val) * 1024 + l.val = R.val * 1024 + l.val
  omega

theorem padded_apply (l : Fin 6144) : padded m c (ix2 (16 : Fin 32) l) = argMods m c (ix1 l) := by
  unfold padded
  refine (concatenate_apply_piece (t := S32x6144) 0 [(⟨S16x6144, zeros S16x6144 bcast_S_S16x6144⟩ : (s : Shape) × (s.Idx → EReal)),
    ⟨S1x6144, broadcastInDim S1x6144 ![1] bcast_S6144_S1x6144_1 (argMods m c)⟩, ⟨S15x6144, zeros S15x6144 bcast_S_S15x6144⟩] _ _ 1 (by show 1 < 3; omega)
    S1x6144 (broadcastInDim S1x6144 ![1] bcast_S6144_S1x6144_1 (argMods m c)) rfl rfl 16 rfl (ix2 (0 : Fin 1) l)
    (fun d hd => match d with | ⟨0, _⟩ => absurd rfl hd | ⟨1, _⟩ => rfl) rfl).trans ?_
  exact broadcastInDim_apply _ bcast_S6144_S1x6144_1 (argMods m c) _ (ix1 l) (fun a => match a with
    | ⟨0, _⟩ => by show l.val = if (6144 : Nat) = 1 then 0 else l.val; rw [if_neg (by decide)])

theorem V4_apply (l : Fin 6144) :
    (V m c main_v4 : FVec Ideal S32x1x6144 .f32) (ix3 (16 : Fin 32) (0 : Fin 1) l) = argMods m c (ix1 l) := by
  rw [V4]
  refine (shapeCast_apply _ shapeCasts_S32x6144_S32x1x6144 _ (ix2 (16 : Fin 32) l) ?_).trans (padded_apply m c l)
  rw [Shape.rowMajor_val_three, Shape.rowMajor_val_two]
  show 16 * 6144 + l.val = (16 * 1 + 0) * 6144 + l.val
  omega

end Cert.Kernel4Ideal.Ic

end
-- ==== Proof.IcArray.lean ====
/- The context projection's result array, index by index. -/
module

public import proofs.«01_k».proof.Proof.IcTile
public import proofs.«01_k».proof.Proof.OmAt
public import Idealize.ShloMosaic.Lib.KernelVsHost
public import Idealize.ShloMosaic.Lib.MatmulPlain
public import Idealize.ShloMosaic.Lib.Pipeline.ValueKit.Point

@[expose] public section

set_option maxRecDepth 16384

noncomputable section

namespace Cert.Kernel4Ideal.Ic

open Idealize.ShloMosaic hiding ix1 ix2 ix3 ix4 ix5 ix6 eq_ix2 eq_ix3 eq_ix4
open Cert.Kernel4Ideal Cert.Kernel4Ideal.Gen Idealize.ShloMosaic.ValueIdx Idealize.ShloMosaic.TcCoe Idealize.SL.Sem
open Cert.Kernel2Ideal.Om (cast_gain inner_apply modRow_apply gainRow_apply zero_f32 modAt gainAt)
open Cert.OmSpec (Row)
open scoped BigOperators

/-! ## One block -/

section Body

variable (x0 : Vec Ideal S1024x1024 .f32) (g : Vec Ideal S1x1024 .f32) (sc sh : Vec Ideal S1x1x1024 .f32)
  (ws : Fin 4 → Vec Ideal S1024x512 .bf16)

/-- Row `i` of row block `r`. -/
abbrev rowAt (r : Fin 4) (i : Fin 256) : Fin 1024 := ⟨256 * r.val + i.val, by omega⟩

/-- The projected row's input. -/
def fedRow (R : Fin 1024) : Row 1024 :=
  OmSpec.inner (fun k => x0 (ix2 R k)) (fun k => gainAt g k * (OmSpec.one + modAt sc k)) (modAt sh)

def bodyRow (R : Fin 1024) : Fin 4 → Row 512 := fun a j => ∑ k, fedRow x0 g sc sh R k * ws a (ix2 k j)

/-- The block. -/
def body : S1024x2048.Idx → EReal := fun y =>
  bodyRow x0 g sc sh ws (⟨(y 0).val, (y 0).isLt⟩ : Fin 1024)
    (⟨(y 1).val / 512, by have h : (y 1).val < 2048 := (y 1).isLt; omega⟩ : Fin 4) (⟨(y 1).val % 512, by omega⟩ : Fin 512)

theorem body_apply (y : S1024x2048.Idx) (R : Fin 1024) (a : Fin 4) (j : Fin 512) (h0 : (y 0).val = R.val)
    (h1 : (y 1).val = 512 * a.val + j.val) : body x0 g sc sh ws y = bodyRow x0 g sc sh ws R a j := by
  unfold body
  rw [show (⟨(y 0).val, (y 0).isLt⟩ : Fin 1024) = R from Fin.ext h0,
    show (⟨(y 1).val / 512, by have h : (y 1).val < 2048 := (y 1).isLt; omega⟩ : Fin 4) = a from Fin.ext (by show (y 1).val / 512 = a.val; omega),
    show (⟨(y 1).val % 512, by omega⟩ : Fin 512) = j from Fin.ext (by show (y 1).val % 512 = j.val; omega)]

abbrev fedRows (r : Fin 4) : FVec Ideal S256x1024 .bf16 := fed g sc sh (View.ld x0 (rowsX r))

theorem fedRows_apply (r : Fin 4) (i : Fin 256) (l : Fin 1024) :
    fedRows x0 g sc sh r (ix2 i l) = fedRow x0 g sc sh (rowAt r i) l := by
  have hx : (fun k : Fin 1024 => View.ld x0 (rowsX r) (ix2 i k)) = fun k => x0 (ix2 (rowAt r i) k) := funext fun j =>
    View.ld_unit_apply_of x0 _ _ _ _ _ fun a => match a with
      | ⟨0, _⟩ => rfl | ⟨1, _⟩ => (by show j.val = 0 + j.val; omega)
  unfold fedRows fedRow fed
  rw [inner_apply, shapeCast_self, hx]
  refine congrArg₂ (fun g s => OmSpec.inner _ g s l) ?_ ?_
  · funext k
    rw [mulf_apply, addf_apply, modRow_apply, gainRow_apply]; rfl
  · funext k
    rw [modRow_apply]

theorem plain_apply (r a : Fin 4) (i : Fin 256) (j : Fin 512) :
    plain (fedRows x0 g sc sh r) (ws a) (ix2 i j) = bodyRow x0 g sc sh ws (rowAt r i) a j := by
  unfold plain bodyRow
  rw [truncf_apply, shapeCast_self]
  refine (Ideal.matmul_plain_apply none _ _ _ i j).trans ?_
  rw [constant_apply, zero_f32, zero_add]
  exact Finset.sum_congr rfl fun k _ => by rw [fedRows_apply]

theorem wides_value (a : Fin 4) : ∀ p ∈ wides a (fun r => plain (fedRows x0 g sc sh r) (ws a)), ∀ x,
    p.2 x = body x0 g sc sh ws (p.1.emb x) := by
  intro p hp
  obtain ⟨n, rfl⟩ := List.mem_ofFn.mp hp
  intro x
  have b0 : (x 0).val < 256 := (x 0).isLt
  have b1 : (x 1).val < 512 := (x 1).isLt
  have hx : x = ix2 (⟨(x 0).val, b0⟩ : Fin 256) (⟨(x 1).val, b1⟩ : Fin 512) := by
    funext d
    match d with
    | ⟨0, _⟩ => rfl
    | ⟨1, _⟩ => rfl
  refine Eq.trans (congrArg (plain (fedRows x0 g sc sh ⟨3 - n.val, by omega⟩) (ws a)) hx)
    ((plain_apply x0 g sc sh ws _ a _ _).trans (body_apply x0 g sc sh ws _ _ _ _ ?_ ?_).symm)
  · show 256 * (3 - n.val) + 1 * (x 0).val = 256 * (3 - n.val) + (x 0).val
    omega
  · show 512 * a.val + 1 * (x 1).val = 512 * a.val + (x 1).val
    omega

end Body

theorem wide_mem (a : Fin 4) (r : Fin 4) (y : S1024x2048.Idx) (h0 : 256 * r.val ≤ (y 0).val ∧ (y 0).val < 256 * r.val + 256)
    (h1 : 512 * a.val ≤ (y 1).val ∧ (y 1).val < 512 * a.val + 512) : y ∈ (wide a r).set := by
  unfold wide
  rw [Rect.mem_set_unit]
  intro d
  match d with
  | ⟨0, _⟩ => exact h0
  | ⟨1, _⟩ => exact h1

theorem wides_cover (a : Fin 4) (f : Fin 4 → FVec Ideal S256x512 .bf16) (y : S1024x2048.Idx) (h : (y 1).val / 512 = a.val) :
    ∃ p ∈ wides a f, y ∈ p.1.set := by
  have h0 : (y 0).val < 1024 := (y 0).isLt
  refine ⟨_, List.mem_ofFn.mpr ⟨(⟨3 - (y 0).val / 256, by omega⟩ : Fin 4), rfl⟩, wide_mem a _ y ?_ ?_⟩
  · show 256 * (3 - (3 - (y 0).val / 256)) ≤ (y 0).val ∧ (y 0).val < 256 * (3 - (3 - (y 0).val / 256)) + 256
    omega
  · show 512 * a.val ≤ (y 1).val ∧ (y 1).val < 512 * a.val + 512
    omega

section Body

variable (x0 : Vec Ideal S1024x1024 .f32) (g : Vec Ideal S1x1024 .f32) (sc sh : Vec Ideal S1x1x1024 .f32)
  (ws : Fin 4 → Vec Ideal S1024x512 .bf16)

abbrev group (a : Fin 4) : List (Piece Ideal) := wides a fun r => plain (fedRows x0 g sc sh r) (ws a)

/-- The stores of the body. -/
abbrev stores : List (Piece Ideal) :=
  group x0 g sc sh ws 3 ++ (group x0 g sc sh ws 2 ++ (group x0 g sc sh ws 1 ++ group x0 g sc sh ws 0))

theorem stores_value : ∀ p ∈ stores x0 g sc sh ws, ∀ x, p.2 x = body x0 g sc sh ws (p.1.emb x) := by
  intro p hp
  rcases List.mem_append.mp hp with hp | hp
  · exact wides_value x0 g sc sh ws 3 p hp
  rcases List.mem_append.mp hp with hp | hp
  · exact wides_value x0 g sc sh ws 2 p hp
  rcases List.mem_append.mp hp with hp | hp
  · exact wides_value x0 g sc sh ws 1 p hp
  · exact wides_value x0 g sc sh ws 0 p hp

theorem stores_cover (y : S1024x2048.Idx) : ∃ p ∈ stores x0 g sc sh ws, y ∈ p.1.set := by
  have h1 : (y 1).val < 2048 := (y 1).isLt
  have left : ∀ {l l' : List (Piece Ideal)}, (∃ p ∈ l, y ∈ p.1.set) → ∃ p ∈ l ++ l', y ∈ p.1.set :=
    fun ⟨p, hp, hy⟩ => ⟨p, List.mem_append_left _ hp, hy⟩
  have right : ∀ {l l' : List (Piece Ideal)}, (∃ p ∈ l', y ∈ p.1.set) → ∃ p ∈ l ++ l', y ∈ p.1.set :=
    fun ⟨p, hp, hy⟩ => ⟨p, List.mem_append_right _ hp, hy⟩
  by_cases h3 : (y 1).val / 512 = 3
  · exact left (wides_cover 3 _ y h3)
  by_cases h2 : (y 1).val / 512 = 2
  · exact right (left (wides_cover 2 _ y h2))
  by_cases h1' : (y 1).val / 512 = 1
  · exact right (right (left (wides_cover 1 _ y h1')))
  · exact right (right (right (wides_cover 0 _ y (by show (y 1).val / 512 = 0; omega))))

theorem stores_apply (y : S1024x2048.Idx) : View.canon (stores x0 g sc sh ws) y = body x0 g sc sh ws y :=
  View.canon_apply_of_pieces (body x0 g sc sh ws) _ (stores_value x0 g sc sh ws) y (stores_cover x0 g sc sh ws y)

theorem canon_apply (w0 w1 w2 w3 : Vec Ideal S1024x512 .bf16) (y : S1024x2048.Idx) :
    View.canon (wides 3 (fun r => plain (fedRows x0 g sc sh r) w3) ++ (wides 2 (fun r => plain (fedRows x0 g sc sh r) w2)
      ++ (wides 1 (fun r => plain (fedRows x0 g sc sh r) w1) ++ wides 0 (fun r => plain (fedRows x0 g sc sh r) w0)))) y
      = body x0 g sc sh ![w0, w1, w2, w3] y :=
  stores_apply x0 g sc sh ![w0, w1, w2, w3] y

/-- A family of four blocks at an index. -/
theorem four_of (k : Fin 1024) (j : Fin 512) (w0 w1 w2 w3 : Vec Ideal S1024x512 .bf16) (f : Fin 4 → EReal)
    (h0 : w0 (ix2 k j) = f 0) (h1 : w1 (ix2 k j) = f 1) (h2 : w2 (ix2 k j) = f 2) (h3 : w3 (ix2 k j) = f 3) : ∀ a : Fin 4,
    (![w0, w1, w2, w3] : Fin 4 → Vec Ideal S1024x512 .bf16) a (ix2 k j) = f a
  | 0 => h0 | 1 => h1 | 2 => h2 | 3 => h3

end Body

/-! ## The index maps -/

theorem idx0 : ∀ t : Fin cfg0.N, win0_0.index t = ![t.val, 0] :=
  (by decide +kernel : ∀ t : Fin grid0.N, win0_0.index t = ![t.val, 0])
theorem idx1 : ∀ t : Fin cfg0.N, win0_1.index t = ![16, 0, 0] :=
  (by decide +kernel : ∀ t : Fin grid0.N, win0_1.index t = ![16, 0, 0])
theorem idx2 : ∀ t : Fin cfg0.N, win0_2.index t = ![16, 0, 1] :=
  (by decide +kernel : ∀ t : Fin grid0.N, win0_2.index t = ![16, 0, 1])
theorem idx3 : ∀ t : Fin cfg0.N, win0_3.index t = ![0, 0] :=
  (by decide +kernel : ∀ t : Fin grid0.N, win0_3.index t = ![0, 0])
theorem idx4 : ∀ t : Fin cfg0.N, win0_4.index t = ![0, 1] :=
  (by decide +kernel : ∀ t : Fin grid0.N, win0_4.index t = ![0, 1])
theorem idx5 : ∀ t : Fin cfg0.N, win0_5.index t = ![0, 2] :=
  (by decide +kernel : ∀ t : Fin grid0.N, win0_5.index t = ![0, 2])
theorem idx6 : ∀ t : Fin cfg0.N, win0_6.index t = ![0, 5] :=
  (by decide +kernel : ∀ t : Fin grid0.N, win0_6.index t = ![0, 5])
theorem idx7 : ∀ t : Fin cfg0.N, win0_7.index t = ![0, 6] :=
  (by decide +kernel : ∀ t : Fin grid0.N, win0_7.index t = ![0, 6])
theorem idx8 : ∀ t : Fin cfg0.N, win0_8.index t = ![t.val, 0] :=
  (by decide +kernel : ∀ t : Fin grid0.N, win0_8.index t = ![t.val, 0])

variable (m : (ℓ : Loc nD τ sig) → Buf (Elt Ideal) ℓ) (c : Dev nD)

section Blocks

variable (t : Fin cfg0.N)

theorem iblk0_apply (b : Fin 16) (s : Fin 256) (r l : Fin 1024) (h : t.val * 1024 + r.val = 256 * b.val + s.val) :
    (iblk m c 0 t : Vec Ideal S1024x1024 .f32) (ix2 r l) = argX m c (ix3 b s l) := by
  refine Eq.trans ?_ ((congrFun (V5 m c) _).trans (cast_rows (argX m c) (⟨t.val * 1024 + r.val, by omega⟩ : Fin 4096) b s h l _))
  blk_ext [iblk, idx0 t]

theorem iblk1_apply (l : Fin 1024) :
    (iblk m c 1 t : Vec Ideal S1x1x1024 .f32) (ix3 (0 : Fin 1) (0 : Fin 1) l) = IcSpec.modRow (argMods m c) 0 l := by
  refine Eq.trans ?_ (V4_apply m c (⟨0 + l.val, by omega⟩ : Fin 6144))
  blk_ext [iblk, idx1 t]
  · rfl

theorem iblk2_apply (l : Fin 1024) :
    (iblk m c 2 t : Vec Ideal S1x1x1024 .f32) (ix3 (0 : Fin 1) (0 : Fin 1) l) = IcSpec.modRow (argMods m c) 1 l := by
  refine Eq.trans ?_ (V4_apply m c (⟨1024 + l.val, by omega⟩ : Fin 6144))
  blk_ext [iblk, idx2 t]
  · rfl

theorem iblk3_apply (l : Fin 1024) : (iblk m c 3 t : Vec Ideal S1x1024 .f32) (ix2 (0 : Fin 1) l) = OmSpec.gainRow (argGm m c) l := by
  refine Eq.trans ?_ ((congrFun (V6 m c) _).trans (cast_gain (argGm m c) l _))
  blk_ext [iblk, idx3 t]

theorem iblk4_apply (k : Fin 1024) (j : Fin 512) : (iblk m c 4 t : Vec Ideal S1024x512 .bf16) (ix2 k j)
    = argW m c (ix2 k (⟨512 * 1 + j.val, by omega⟩ : Fin 3584)) := by
  refine Eq.trans ?_ (congrFun (V7 m c) _)
  blk_ext [iblk, idx4 t]
theorem iblk5_apply (k : Fin 1024) (j : Fin 512) : (iblk m c 5 t : Vec Ideal S1024x512 .bf16) (ix2 k j)
    = argW m c (ix2 k (⟨512 * 2 + j.val, by omega⟩ : Fin 3584)) := by
  refine Eq.trans ?_ (congrFun (V7 m c) _)
  blk_ext [iblk, idx5 t]
theorem iblk6_apply (k : Fin 1024) (j : Fin 512) : (iblk m c 6 t : Vec Ideal S1024x512 .bf16) (ix2 k j)
    = argW m c (ix2 k (⟨512 * 5 + j.val, by omega⟩ : Fin 3584)) := by
  refine Eq.trans ?_ (congrFun (V7 m c) _)
  blk_ext [iblk, idx6 t]
theorem iblk7_apply (k : Fin 1024) (j : Fin 512) : (iblk m c 7 t : Vec Ideal S1024x512 .bf16) (ix2 k j)
    = argW m c (ix2 k (⟨512 * 6 + j.val, by omega⟩ : Fin 3584)) := by
  refine Eq.trans ?_ (congrFun (V7 m c) _)
  blk_ext [iblk, idx7 t]

/-- The four groups of columns. -/
abbrev groups : Fin 4 → Vec Ideal S1024x512 .bf16 := ![iblk m c 4 t, iblk m c 5 t, iblk m c 6 t, iblk m c 7 t]

theorem groups_apply (k : Fin 1024) (j : Fin 512) (a : Fin 4) :
    groups m c t a (ix2 k j) = argW m c (ix2 k (⟨512 * (IcSpec.pick a).val + j.val, by omega⟩ : Fin 3584)) :=
  four_of k j _ _ _ _ (fun a => argW m c (ix2 k (⟨512 * (IcSpec.pick a).val + j.val, by omega⟩ : Fin 3584))) (iblk4_apply m c t k j)
    (iblk5_apply m c t k j) (iblk6_apply m c t k j) (iblk7_apply m c t k j) a

end Blocks

/-- The result array. -/
def G : S4096x2048.Idx → EReal := fun y =>
  IcSpec.result (argX m c) (argMods m c) (argGm m c) (argW m c)
    (⟨(y 0).val / 256, by have h : (y 0).val < 4096 := (y 0).isLt; omega⟩ : Fin 16) (⟨(y 0).val % 256, by omega⟩ : Fin 256)
    (⟨(y 1).val / 512, by have h : (y 1).val < 2048 := (y 1).isLt; omega⟩ : Fin 4) (⟨(y 1).val % 512, by omega⟩ : Fin 512)

theorem G_apply (y : S4096x2048.Idx) (b : Fin 16) (s : Fin 256) (a : Fin 4) (j : Fin 512) (hb : (y 0).val / 256 = b.val)
    (hs : (y 0).val % 256 = s.val) (ha : (y 1).val / 512 = a.val) (hj : (y 1).val % 512 = j.val) :
    G m c y = IcSpec.result (argX m c) (argMods m c) (argGm m c) (argW m c) b s a j := by
  unfold G
  rw [show (⟨(y 0).val / 256, by have h : (y 0).val < 4096 := (y 0).isLt; omega⟩ : Fin 16) = b from Fin.ext hb,
    show (⟨(y 0).val % 256, by omega⟩ : Fin 256) = s from Fin.ext hs,
    show (⟨(y 1).val / 512, by have h : (y 1).val < 2048 := (y 1).isLt; omega⟩ : Fin 4) = a from Fin.ext ha,
    show (⟨(y 1).val % 512, by omega⟩ : Fin 512) = j from Fin.ext hj]

theorem block_apply (t : Fin cfg0.N) (b : Fin 16) (s : Fin 256) (R : Fin 1024) (h : t.val * 1024 + R.val = 256 * b.val + s.val)
    (a : Fin 4) (j : Fin 512) :
    bodyRow (iblk m c 0 t) (iblk m c 3 t) (iblk m c 2 t) (iblk m c 1 t) (groups m c t) R a j
      = IcSpec.result (argX m c) (argMods m c) (argGm m c) (argW m c) b s a j := by
  have m1 : modAt (iblk m c 1 t) = IcSpec.modRow (argMods m c) 0 := funext fun l => iblk1_apply m c t l
  have m2 : modAt (iblk m c 2 t) = IcSpec.modRow (argMods m c) 1 := funext fun l => iblk2_apply m c t l
  have m3 : gainAt (iblk m c 3 t) = OmSpec.gainRow (argGm m c) := funext fun l => iblk3_apply m c t l
  have m0 : (fun k => (iblk m c 0 t : Vec Ideal S1024x1024 .f32) (ix2 R k)) = fun k => argX m c (ix3 b s k) :=
    funext fun k => iblk0_apply m c t b s R k h
  have hp : ∀ (h : Row 1024), (∑ k, h k * groups m c t a (ix2 k j) : EReal) = IpSpec.proj h (OmSpec.matrix (argW m c)) (IcSpec.pick a) j :=
    fun h => Finset.sum_congr rfl fun k _ => congrArg (fun z : EReal => h k * z) (groups_apply m c t k j a)
  unfold bodyRow fedRow IcSpec.result IcSpec.row
  rw [m0, m1, m2, m3, hp]

theorem whole_apply (t : Fin cfg0.N) (b : Fin 16) (s : Fin 256) (R : Fin 1024) (h : t.val * 1024 + R.val = 256 * b.val + s.val)
    (y : S1024x2048.Idx) (a : Fin 4) (j : Fin 512) (h0 : (y 0).val = R.val) (h1 : (y 1).val = 512 * a.val + j.val) :
    ((dats m 0 c).after 8 t : Vec Ideal S1024x2048 .bf16) y
      = IcSpec.result (argX m c) (argMods m c) (argGm m c) (argW m c) b s a j := by
  rw [after_8]
  refine (canon_apply (iblk m c 0 t) (iblk m c 3 t) (iblk m c 2 t) (iblk m c 1 t) _ _ _ _ y).trans ?_
  rw [body_apply _ _ _ _ _ y R a j h0 h1]
  exact block_apply m c t b s R h a j

theorem final : (dats m 0 c).arrAt 8 cfg0.N = G m c := by
  refine (dats m 0 c).arrAt_eq_of_covers 8 _ (by decide +kernel) fun t _ y => ?_
  blk_simp
  have hN : t.val < 4 := lt_of_lt_of_eq t.isLt Gen.N_0
  have h0 : (y 0).val < 1024 := (y 0).isLt
  have h1 : (y 1).val < 2048 := (y 1).isLt
  refine (whole_apply m c t ⟨(t.val * 1024 + (y 0).val) / 256, by omega⟩ ⟨(t.val * 1024 + (y 0).val) % 256, by omega⟩ ⟨(y 0).val, h0⟩
    (by show t.val * 1024 + (y 0).val = 256 * ((t.val * 1024 + (y 0).val) / 256) + (t.val * 1024 + (y 0).val) % 256; omega)
    y ⟨(y 1).val / 512, by omega⟩ ⟨(y 1).val % 512, by omega⟩ rfl
    (by show (y 1).val = 512 * ((y 1).val / 512) + (y 1).val % 512; omega)).trans ?_
  have e0 : (((win0_8.blk t).view.emb y) 0 : Nat) = t.val * 1024 + (y 0).val := by blk_simp [idx8 t]
  have e1 : (((win0_8.blk t).view.emb y) 1 : Nat) = (y 1).val := by blk_simp [idx8 t]
  refine (G_apply m c _ _ _ _ _ ?_ ?_ ?_ ?_).symm
  · show (((win0_8.blk t).view.emb y) 0 : Nat) / 256 = (t.val * 1024 + (y 0).val) / 256
    rw [e0]
  · show (((win0_8.blk t).view.emb y) 0 : Nat) % 256 = (t.val * 1024 + (y 0).val) % 256
    rw [e0]
  · show (((win0_8.blk t).view.emb y) 1 : Nat) / 512 = (y 1).val / 512
    rw [e1]
  · show (((win0_8.blk t).view.emb y) 1 : Nat) % 512 = (y 1).val % 512
    rw [e1]

end Cert.Kernel4Ideal.Ic

end
-- ==== Proof.IcRef.lean ====
/- The reference's projections of the context tokens, index by index. -/
module

public import proofs.«01_k».proof.Proof.Gen.Reference4Ideal.Read
public import proofs.«01_k».proof.Proof.IcSpec
public import proofs.«01_k».proof.Proof.OmRef

@[expose] public section

set_option maxRecDepth 16384

noncomputable section

namespace Cert.IcRef

open Cert.Reference4Ideal Cert.Reference4Ideal.Gen Cert.Reference4Ideal.Read
open Idealize.ShloMosaic
open Idealize.ShloMosaic.ValueIdx
open Cert.OmRef (zero_f32 ix3_ext ix2_ext ix1_ext normed_of)
open scoped BigOperators

variable (x0 : FVec Ideal S16x256x1024 .f32) (x1 : FVec Ideal S6144 .f32) (x2 : FVec Ideal S1024 .f32)
  (x3 : FVec Ideal S1024x3584 .f32) (b : Fin 16) (s : Fin 256)

theorem shift (l : Fin 1024) : val_main_v25 (F := Ideal) x1 (ix3 b s l) = IcSpec.modRow x1 0 l := by
  rw [val_main_v25_apply, val_main_v24_apply, val_main_v0_apply]
  refine congrArg x1 (ix1_ext _ (ix1 (⟨1024 * 0 + l.val, by omega⟩ : Fin 6144)) ?_)
  show l.val = 1024 * 0 + l.val
  omega

theorem scale (l : Fin 1024) : val_main_v22 (F := Ideal) x1 (ix3 b s l) = OmSpec.one + IcSpec.modRow x1 1 l := by
  rw [val_main_v22_apply, val_main_v21_apply, val_main_v20_apply, val_main_v1_apply]
  refine congrArg (fun z : EReal => OmSpec.one + z) (congrArg x1 (ix1_ext _ (ix1 (⟨1024 * 1 + l.val, by omega⟩ : Fin 6144)) ?_))
  rfl

theorem gain (l : Fin 1024) : val_main_v17 (F := Ideal) x2 (ix3 b s l) = OmSpec.gainRow x2 l := by
  rw [val_main_v17_apply, val_main_v16_apply]
  exact congrArg x2 (ix1_ext _ (ix1 l) rfl)

abbrev token : OmSpec.Row 1024 := fun k => x0 (ix3 b s k)

theorem squares : val_main_v7 (F := Ideal) x0 (ix2 b s) = ∑ k, token x0 b s k * token x0 b s k := by
  rw [val_main_v7_apply, val_main_cst_apply]
  refine (congrArg (fun z : EReal => z + _) zero_f32).trans ((zero_add _).trans (Finset.sum_congr rfl fun k _ => ?_))
  rw [show idx_main_v7 (ix2 b s) k = ix3 b s k from ix3_ext _ (ix3 b s k) rfl rfl rfl, val_main_v6_apply]
  rfl

theorem norm (l : Fin 1024) : val_main_v15 (F := Ideal) x0 (ix3 b s l) = OmSpec.normed (token x0 b s) l := by
  rw [val_main_v15_apply, val_main_v14_apply, val_main_v13_apply, val_main_v12_apply, val_main_v10_apply,
    val_main_v9_apply, val_main_v11_apply, val_main_v8_apply]
  rw [show idx_main_v8 (idx_main_v14 (ix3 b s l)) = ix2 b s from ix2_ext _ (ix2 b s) rfl rfl]
  exact normed_of _ _ (squares x0 b s) l

theorem inner_apply (l : Fin 1024) : val_main_v26 (F := Ideal) x0 x1 x2 (ix3 b s l) = IcSpec.row x0 x1 x2 b s l := by
  rw [val_main_v26_apply, val_main_v23_apply, val_main_v18_apply, norm, gain, scale, shift]
  exact congrArg (fun z : EReal => z + IcSpec.modRow x1 0 l) (mul_assoc _ _ _)

theorem proj_apply (g : Fin 7) (j : Fin 512) (i : S16x256x3584.Idx) (h0 : (i 0).val = b.val) (h1 : (i 1).val = s.val)
    (h2 : (i 2).val = 512 * g.val + j.val) :
    val_main_v27 (F := Ideal) x0 x1 x2 x3 i = IpSpec.proj (IcSpec.row x0 x1 x2 b s) (OmSpec.matrix x3) g j := by
  rw [val_main_v27_apply]
  refine Finset.sum_congr rfl fun k _ => ?_
  rw [show lidx_main_v27 i k = ix3 b s k from ix3_ext _ (ix3 b s k) h0 h1 rfl, inner_apply]
  exact congrArg (fun z : EReal => IcSpec.row x0 x1 x2 b s k * z)
    (congrArg x3 (ix2_ext (ridx_main_v27 i k) (ix2 k (⟨512 * g.val + j.val, by omega⟩ : Fin 3584)) rfl h2))

variable (j : Fin 512)

/-- The four groups as the reference joins them. -/
abbrev parts : Fin 4 → FVec Ideal S16x256x512 .f32 :=
  ![val_main_v29 (F := Ideal) x0 x1 x2 x3, val_main_v30 (F := Ideal) x0 x1 x2 x3, val_main_v33 (F := Ideal) x0 x1 x2 x3,
    val_main_v34 (F := Ideal) x0 x1 x2 x3]

theorem parts_apply : ∀ g : Fin 4, parts x0 x1 x2 x3 g (ix3 b s j) = IcSpec.result x0 x1 x2 x3 b s g j
  | 0 => (val_main_v29_apply (F := Ideal) x0 x1 x2 x3 _).trans (proj_apply x0 x1 x2 x3 b s 1 j _ rfl rfl rfl)
  | 1 => (val_main_v30_apply (F := Ideal) x0 x1 x2 x3 _).trans (proj_apply x0 x1 x2 x3 b s 2 j _ rfl rfl rfl)
  | 2 => (val_main_v33_apply (F := Ideal) x0 x1 x2 x3 _).trans (proj_apply x0 x1 x2 x3 b s 5 j _ rfl rfl rfl)
  | 3 => (val_main_v34_apply (F := Ideal) x0 x1 x2 x3 _).trans (proj_apply x0 x1 x2 x3 b s 6 j _ rfl rfl rfl)

/-- Four groups side by side. -/
theorem four_apply (xs : Fin 4 → FVec Ideal S16x256x512 .f32) : ∀ g : Fin 4,
    concatenate S16x256x2048 2 [⟨S16x256x512, xs 0⟩, ⟨S16x256x512, xs 1⟩, ⟨S16x256x512, xs 2⟩, ⟨S16x256x512, xs 3⟩]
        concatenates_S16x256x512_S16x256x512_S16x256x512_S16x256x512_S16x256x2048_d2
        (ix3 b s (⟨512 * g.val + j.val, by omega⟩ : Fin 2048)) = xs g (ix3 b s j) := by
  intro g
  have hg := g.isLt
  refine concatenate_apply_piece (t := S16x256x2048) 2 [(⟨S16x256x512, xs 0⟩ : (s : Shape) × (s.Idx → EReal)), ⟨S16x256x512, xs 1⟩,
    ⟨S16x256x512, xs 2⟩, ⟨S16x256x512, xs 3⟩] _ _ g.val hg S16x256x512 (xs g) ?_ rfl (512 * g.val) ?_ _
    (fun d hd => match d with | ⟨0, _⟩ => rfl | ⟨1, _⟩ => rfl | ⟨2, _⟩ => absurd rfl hd) rfl
  · match g with
    | 0 => rfl
    | 1 => rfl
    | 2 => rfl
    | 3 => rfl
  · match g with
    | 0 => rfl
    | 1 => rfl
    | 2 => rfl
    | 3 => rfl

theorem joined_groups (g : Fin 4) :
    val_main_v35 (F := Ideal) x0 x1 x2 x3 (ix3 b s (⟨512 * g.val + j.val, by omega⟩ : Fin 2048))
      = IcSpec.result x0 x1 x2 x3 b s g j := by
  unfold val_main_v35
  exact (four_apply b s j (parts x0 x1 x2 x3) g).trans (parts_apply x0 x1 x2 x3 b s j g)

theorem result_apply (y : S4096x2048.Idx) :
    val_main_v37 (F := Ideal) x0 x1 x2 x3 y
      = IcSpec.result x0 x1 x2 x3 (⟨(y 0).val / 256, by have h : (y 0).val < 4096 := (y 0).isLt; omega⟩ : Fin 16)
          (⟨(y 0).val % 256, by omega⟩ : Fin 256) (⟨(y 1).val / 512, by have h : (y 1).val < 2048 := (y 1).isLt; omega⟩ : Fin 4)
          (⟨(y 1).val % 512, by omega⟩ : Fin 512) := by
  refine Eq.trans ?_ (joined_groups x0 x1 x2 x3 _ _ _ _)
  rw [val_main_v37_apply, val_main_v36_apply]
  have h0 : (y 0).val < 4096 := (y 0).isLt
  have h1 : (y 1).val < 2048 := (y 1).isLt
  refine congrArg (val_main_v35 (F := Ideal) x0 x1 x2 x3) (ix3_ext (idx_main_v36 y)
    (ix3 (⟨(y 0).val / 256, by omega⟩ : Fin 16) (⟨(y 0).val % 256, by omega⟩ : Fin 256)
      (⟨512 * ((y 1).val / 512) + (y 1).val % 512, by omega⟩ : Fin 2048)) ?_ ?_ ?_)
  · show ((y 0).val * 2048 + (y 1).val) / 524288 = (y 0).val / 256; omega
  · show ((y 0).val * 2048 + (y 1).val) / 2048 % 256 = (y 0).val % 256; omega
  · show ((y 0).val * 2048 + (y 1).val) % 2048 = 512 * ((y 1).val / 512) + (y 1).val % 512; omega

end Cert.IcRef

end
-- ==== Proof.IcClaim.lean ====
/- The claims about the context tokens' projections. -/
module

public import proofs.«01_k».proof.Defs
public import proofs.«01_k».proof.Proof.IcArray
public import proofs.«01_k».proof.Proof.IcRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run

@[expose] public section

set_option maxRecDepth 16384

noncomputable section

namespace Cert.IcClaim

open Idealize.ShloMosaic Idealize.SL.Sem

theorem frame : Cert.quiescent_Kernel4 (hKernel4 := Cert.Kernel4.Gen.facts) := fun m ρ _ => Cert.Kernel4.Gen.frame m ρ

theorem frameIdeal : Cert.quiescent_Kernel4Ideal (hKernel4Ideal := Cert.Kernel4Ideal.Gen.facts) := fun m ρ _ =>
  Cert.Kernel4Ideal.Gen.frame m ρ

theorem frameReference : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

theorem value (m : (ℓ : Loc Cert.Kernel4Ideal.nD Cert.Kernel4Ideal.τ Cert.Kernel4Ideal.sig) → Buf (Elt Ideal) ℓ) (c : Dev Cert.Kernel4Ideal.nD)
    {x0 : FVec Ideal Cert.Reference4Ideal.S16x256x1024 .f32} {x1 : FVec Ideal Cert.Reference4Ideal.S6144 .f32}
    {x2 : FVec Ideal Cert.Reference4Ideal.S1024 .f32} {x3 : FVec Ideal Cert.Reference4Ideal.S1024x3584 .f32}
    (h0 : x0 = Cert.Kernel4Ideal.Ic.argX m c) (h1 : x1 = Cert.Kernel4Ideal.Ic.argMods m c) (h2 : x2 = Cert.Kernel4Ideal.Ic.argGm m c)
    (h3 : x3 = Cert.Kernel4Ideal.Ic.argW m c) :
    Cert.Reference4Ideal.Read.val_main_v37 (F := Ideal) x0 x1 x2 x3 = Cert.Kernel4Ideal.Ic.G m c := by
  rw [h0, h1, h2, h3]
  funext y
  exact IcRef.result_apply _ _ _ _ y

theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Ic.G m c, ?_, ?_⟩
  · exact (θ_run Cert.Kernel4Ideal.defs _ _).mono (fun _ h c => ⟨(h c).1.trans (Cert.Kernel4Ideal.Ic.final m c), (h c).2⟩)
      (Cert.Kernel4Ideal.Value.run_blocks (F := Ideal) m ρ)
  · refine (θ_run Cert.Reference4Ideal.defs _ _).mono (fun _ h c => ⟨(h c).1.trans ?_, (h c).2⟩)
      (Cert.Reference4Ideal.Value.run (F := Ideal) m' ρ')
    rw [Cert.Reference4Ideal.Read.val_main_v37_eq]
    exact value m c (hagree c).1 (hagree c).2.1 (hagree c).2.2.1 (hagree c).2.2.2

end Cert.IcClaim

end
-- ==== Proof.IpAt.lean ====
/- The latent input projection's body over the ideal values, read at one row and column: the row of IpSpec. -/
module

public import proofs.«01_k».proof.Proof.IpTile
public import proofs.«01_k».proof.Proof.IpSpec
public import proofs.«01_k».proof.Proof.OmAt
public import Idealize.ShloMosaic.Lib.KernelVsHost
public import Idealize.ShloMosaic.Lib.MatmulPlain
public import Idealize.ShloMosaic.Lib.ValueIdx

@[expose] public section

set_option maxRecDepth 16384

noncomputable section

namespace Cert.Kernel3Ideal.Ip

open Idealize.ShloMosaic hiding ix1 ix2 ix3 ix4 ix5 ix6 eq_ix2 eq_ix3 eq_ix4
open Cert.Kernel3Ideal Cert.Kernel3Ideal.Gen Idealize.ShloMosaic.ValueIdx
open Cert.Kernel2Ideal.Om (inner modRow gainRow inb2 inner_apply modRow_apply gainRow_apply zero_f32 modAt gainAt)
open Cert.OmSpec (Row)
open scoped BigOperators

/-- Row `i` of row block `r`. -/
abbrev rowAt (r : Fin 4) (i : Fin 256) : Fin 1024 := ⟨256 * r.val + i.val, by omega⟩

theorem fed_apply (g : Vec Ideal S1x1024 .f32) (sc sh : Vec Ideal S1x1x1024 .f32) (x : Vec Ideal S256x1024 .f32) (i : Fin 256)
    (l : Fin 1024) :
    fed g sc sh x (ix2 i l)
      = OmSpec.inner (fun k => x (ix2 i k)) (fun k => gainAt g k * (OmSpec.one + modAt sc k)) (modAt sh) l := by
  unfold fed
  rw [inner_apply, shapeCast_self]
  refine congrArg₂ (fun g s => OmSpec.inner _ g s l) ?_ ?_
  · funext k
    rw [mulf_apply, addf_apply, modRow_apply, gainRow_apply]; rfl
  · funext k
    rw [modRow_apply]

theorem acc_apply (h : FVec Ideal S256x1024 .bf16) (w : Vec Ideal S1024x512 .bf16) (i : Fin 256) (j : Fin 512) :
    acc h w (ix2 i j) = (∑ k : Fin 1024, h (ix2 i k) * w (ix2 k j) : EReal) := by
  unfold acc
  rw [shapeCast_self]
  refine (Ideal.matmul_plain_apply none _ _ _ i j).trans ?_
  rw [constant_apply, zero_f32, zero_add]

theorem query_apply (h : FVec Ideal S256x1024 .bf16) (w : Vec Ideal S1024x512 .bf16) (i : Fin 256) (j : Fin 512) :
    query h w (ix2 i j) = IpSpec.scaled (acc h w (ix2 i j)) := by
  unfold query IpSpec.scaled
  rw [truncf_apply, mulf_apply, broadcast_apply]
  refine congrArg (fun z : EReal => acc h w (ix2 i j) * z) ?_
  exact IdealRules.named_const.ideal_named_scalar _ _ _ _ rfl

theorem gated_apply (gn : Vec Ideal S1x512 .f32) (h : FVec Ideal S256x1024 .bf16) (w : Vec Ideal S1024x512 .bf16) (i : Fin 256)
    (j : Fin 512) :
    gated gn h w (ix2 i j) = IpSpec.gate (gn (ix2 (0 : Fin 1) j)) (acc h w (ix2 i j)) := by
  unfold gated IpSpec.gate
  rw [truncf_apply, mulf_apply, mulf_apply, shapeCast_self]
  rw [broadcastTo_apply gn _ _ (ix2 (0 : Fin 1) j) (fun a => match a with | ⟨0, _⟩ => rfl | ⟨1, _⟩ => rfl)]
  exact mul_comm _ _

theorem pay14_apply : ∀ l : Fin 128, (k0_pay14 : IVec S1x128 1) (ix2 (0 : Fin 1) l) = if l.val % 64 < 32 then 1#1 else 0#1 := by
  decide +kernel

theorem lower_apply (i : Fin 256) (l : Fin 128) : lower (ix2 i l) = if l.val % 64 < 32 then 1#1 else 0#1 := by
  unfold lower
  rw [broadcastTo_apply _ _ _ (ix2 (0 : Fin 1) l) (fun a => match a with | ⟨0, _⟩ => rfl | ⟨1, _⟩ => rfl), shapeCast_self]
  exact pay14_apply l

theorem up_apply (a : FVec Ideal S256x128 .f32) (i : Fin 256) (l : Fin 128) :
    dynamicRotate 1 96#32 none a rotates_S256x128_d1 (ix2 i l) = a (ix2 i (⟨(l.val + 32) % 128, by omega⟩ : Fin 128)) :=
  dynamicRotate_apply 1 _ a _ _ _ fun b => match b with
    | ⟨0, _⟩ => rfl
    | ⟨1, _⟩ => (by show (l.val + 32) % 128 = (l.val + 128 - 96 % 128) % 128; omega)

theorem down_apply (a : FVec Ideal S256x128 .f32) (i : Fin 256) (l : Fin 128) :
    dynamicRotate 1 32#32 none a rotates_S256x128_d1 (ix2 i l) = a (ix2 i (⟨(l.val + 96) % 128, by omega⟩ : Fin 128)) :=
  dynamicRotate_apply 1 _ a _ _ _ fun b => match b with
    | ⟨0, _⟩ => rfl
    | ⟨1, _⟩ => (by show (l.val + 96) % 128 = (l.val + 128 - 32 % 128) % 128; omega)

/-- A row of the table: the cosines of the angles, then their sines, negative where the partner lies above. -/
structure TabRow (tab : Vec Ideal S1024x256 .f32) (R : Fin 1024) (ang : Fin 2 → Row 32) : Prop where
  cos : ∀ l : Fin 128, tab (ix2 R (⟨l.val, by omega⟩ : Fin 256)) = IpSpec.cosE (ang ⟨l.val / 64, by omega⟩ ⟨l.val % 32, by omega⟩)
  below : ∀ l : Fin 128, l.val % 64 < 32 →
    tab (ix2 R (⟨128 + l.val, by omega⟩ : Fin 256)) = -IpSpec.sinE (ang ⟨l.val / 64, by omega⟩ ⟨l.val % 32, by omega⟩)
  above : ∀ l : Fin 128, ¬ l.val % 64 < 32 →
    tab (ix2 R (⟨128 + l.val, by omega⟩ : Fin 256)) = IpSpec.sinE (ang ⟨l.val / 64, by omega⟩ ⟨l.val % 32, by omega⟩)

theorem ld_tab (tab : Vec Ideal S1024x256 .f32) (r : Fin 4) (o : Nat) (ho : o + 128 ≤ 256) (i : Fin 256) (l : Fin 128) :
    View.ld tab (rowsTab r o ho) (ix2 i l) = tab (ix2 (rowAt r i) (⟨o + l.val, by omega⟩ : Fin 256)) :=
  View.ld_unit_apply_of tab _ _ _ _ _ fun a => match a with | ⟨0, _⟩ => rfl | ⟨1, _⟩ => rfl

theorem rotated_apply (tab : Vec Ideal S1024x256 .f32) (r k : Fin 4) (h : FVec Ideal S256x1024 .bf16) (w : Vec Ideal S1024x512 .bf16)
    (i : Fin 256) (ang : Fin 2 → Row 32) (ht : TabRow tab (rowAt r i) ang) (l : Fin 128) :
    rotated tab r k h w (ix2 i l)
      = IpSpec.turned (fun q => acc h w (ix2 i (⟨128 * k.val + q.val, by omega⟩ : Fin 512))) ang l := by
  have ha : ∀ q : Fin 128, extractStridedSlice S256x128 ![0, 128 * k.val] (acc h w) (slices_head k) (ix2 i q)
      = acc h w (ix2 i (⟨128 * k.val + q.val, by omega⟩ : Fin 512)) := fun q =>
    extractStridedSlice_apply _ _ _ _ _ fun a => match a with
      | ⟨0, _⟩ => (by show i.val = 0 + i.val; omega) | ⟨1, _⟩ => rfl
  unfold rotated turn
  rw [truncf_apply, addf_apply, mulf_apply, mulf_apply, shapeCast_self, shapeCast_self, select_apply, lower_apply, up_apply, down_apply,
    ld_tab, ld_tab, ha, ha, ha]
  unfold IpSpec.turned
  have e0 : (⟨0 + l.val, by omega⟩ : Fin 256) = ⟨l.val, by omega⟩ := Fin.ext (Nat.zero_add _)
  rw [e0, ht.cos l]
  by_cases hl : l.val % 64 < 32
  · rw [if_pos hl, dif_pos hl, ht.below l hl]
    have e1 : (⟨128 * k.val + (l.val + 32) % 128, by omega⟩ : Fin 512) = ⟨128 * k.val + (l.val + 32), by omega⟩ :=
      Fin.ext (by show 128 * k.val + (l.val + 32) % 128 = 128 * k.val + (l.val + 32); omega)
    rw [e1]
    show _ + acc h w (ix2 i (⟨128 * k.val + (l.val + 32), by omega⟩ : Fin 512)) * -IpSpec.sinE _ = _
    rw [mul_neg, ← sub_eq_add_neg]
  · rw [if_neg hl, dif_neg hl, ht.above l hl]
    have e1 : (⟨128 * k.val + (l.val + 96) % 128, by omega⟩ : Fin 512) = ⟨128 * k.val + (l.val - 32), by omega⟩ :=
      Fin.ext (by show 128 * k.val + (l.val + 96) % 128 = 128 * k.val + (l.val - 32); omega)
    rw [e1]
    exact add_comm _ _

end Cert.Kernel3Ideal.Ip

end
-- ==== Proof.IpHost.lean ====
/- What the latent input projection's launch finds in its operands: the layout and the tables that the host code prepares,
   read at an index. -/
module

public import proofs.«01_k».proof.Proof.Gen.Kernel3Ideal.Frame
public import proofs.«01_k».proof.Proof.Gen.Reference3Ideal.Read
public import proofs.«01_k».proof.Proof.OmHost
public import proofs.«01_k».proof.Proof.IpSpec
public import Idealize.ShloMosaic.Lib.ValueIdx
public import Idealize.ShloMosaic.Lib.Claim
public import Idealize.ShloMosaic.Lib.StableHlo.RunRead
public import Idealize.ShloMosaic.Lib.Pipeline.Value

@[expose] public section

set_option maxRecDepth 16384

noncomputable section

namespace Cert.Kernel3Ideal.Ip

open Cert.Kernel3Ideal Cert.Kernel3Ideal.Gen Idealize.ShloMosaic Idealize.ShloMosaic.ValueIdx Idealize.ShloMosaic.TcCoe Idealize.SL.Sem
open Cert.Kernel2Ideal.Om (cast_row cast_gain)

variable (m : (ℓ : Loc nD τ sig) → Buf (Elt Ideal) ℓ) (c : Dev nD)

abbrev argX : FVec Ideal S16x2048x1024 .f32 := m ((c : Thread nD τ).loc main_arg0)
abbrev argMods : FVec Ideal S16x6144 .f32 := m ((c : Thread nD τ).loc main_arg1)
abbrev argGm : FVec Ideal S1024 .f32 := m ((c : Thread nD τ).loc main_arg2)
abbrev argW : FVec Ideal S1024x3584 .f32 := m ((c : Thread nD τ).loc main_arg3)
abbrev argGn : FVec Ideal S512 .f32 := m ((c : Thread nD τ).loc main_arg4)

/-- The angles of the rows and of the columns of the grid, as the reference computes them. -/
def rowAng : FVec Ideal S2048x32 .f32 := Cert.Reference3Ideal.Read.val_main_v52 (F := Ideal)
def colAng : FVec Ideal S2048x32 .f32 := Cert.Reference3Ideal.Read.val_main_v77 (F := Ideal)

theorem V2 : V m c main_v2 = shapeCast S32x1x6144 (concatenate S32x6144 0
      [⟨S16x6144, argMods m c⟩, ⟨S16x6144, broadcastInDim S16x6144 ![] bcast_S_S16x6144 (constant (F := Ideal) S_ .f32 0x00000000#32)⟩]
      concatenates_S16x6144_S16x6144_S32x6144_d0) shapeCasts_S32x6144_S32x1x6144 := by
  unfold_abbrev_sides
  simp only [List.flatten_cons, List.flatten_nil, List.append_nil, hostOps0, hostOps0_1, hostOps0_2, hostOps0_3, hostOps0_4,
    List.cons_append, List.nil_append]
  after_results
  rfl

theorem V3 : V m c main_v3 = shapeCast S32768x1024 (argX m c) shapeCasts_S16x2048x1024_S32768x1024 := by
  unfold_abbrev_sides
  simp only [List.flatten_cons, List.flatten_nil, List.append_nil, hostOps0, hostOps0_1, hostOps0_2, hostOps0_3, hostOps0_4,
    List.cons_append, List.nil_append]
  after_results
  rfl

theorem V4 : V m c main_v4 = shapeCast S1x1024 (argGm m c) shapeCasts_S1024_S1x1024 := by
  unfold_abbrev_sides
  simp only [List.flatten_cons, List.flatten_nil, List.append_nil, hostOps0, hostOps0_1, hostOps0_2, hostOps0_3, hostOps0_4,
    List.cons_append, List.nil_append]
  after_results
  rfl

theorem V5 : V m c main_v5 = truncf (F := Ideal) (φ := .f32) .bf16 (argW m c) bitsLt_bf16_f32 := by
  unfold_abbrev_sides
  simp only [List.flatten_cons, List.flatten_nil, List.append_nil, hostOps0, hostOps0_1, hostOps0_2, hostOps0_3, hostOps0_4,
    List.cons_append, List.nil_append]
  after_results

theorem V40 : V m c main_v40 = shapeCast S1x512 (argGn m c) shapeCasts_S512_S1x512 := by
  unfold_abbrev_sides
  simp only [List.flatten_cons, List.flatten_nil, List.append_nil, hostOps0, hostOps0_1, hostOps0_2, hostOps0_3, hostOps0_4,
    List.cons_append, List.nil_append]
  after_results
  rfl

/-- The cosines, four groups of 32 channels. -/
def cosTab : FVec Ideal S2048x128 .f32 :=
  concatenate S2048x128 1 [⟨S2048x32, Host.cos rowAng⟩, ⟨S2048x32, Host.cos rowAng⟩, ⟨S2048x32, Host.cos colAng⟩,
    ⟨S2048x32, Host.cos colAng⟩] concatenates_S2048x32_S2048x32_S2048x32_S2048x32_S2048x128_d1

/-- The sines, with the sign of the rotation. -/
def sinTab : FVec Ideal S2048x128 .f32 :=
  concatenate S2048x128 1 [⟨S2048x32, Host.negf (Host.sin rowAng)⟩, ⟨S2048x32, Host.sin rowAng⟩,
    ⟨S2048x32, Host.negf (Host.sin colAng)⟩, ⟨S2048x32, Host.sin colAng⟩] concatenates_S2048x32_S2048x32_S2048x32_S2048x32_S2048x128_d1

theorem V31 : V m c main_v31 = cosTab := by
  unfold_abbrev_sides
  simp only [List.flatten_cons, List.flatten_nil, List.append_nil, hostOps0, hostOps0_1, hostOps0_2, hostOps0_3, hostOps0_4,
    List.cons_append, List.nil_append]
  after_results
  rfl

theorem V38 : V m c main_v38 = sinTab := by
  unfold_abbrev_sides
  simp only [List.flatten_cons, List.flatten_nil, List.append_nil, hostOps0, hostOps0_1, hostOps0_2, hostOps0_3, hostOps0_4,
    List.cons_append, List.nil_append]
  after_results
  rfl

/-- The last two operations of the prefix. -/
abbrev lastOps : List (HloOp τ sig (Elt Ideal)) :=
  [ StableHlo.binary main_v31 main_v38 main_v39 ((fun a b => concatenate S2048x256 1 [⟨S2048x128, a⟩, ⟨S2048x128, b⟩] concatenates_S2048x128_S2048x128_S2048x256_d1) : (⟨S2048x128, .f32⟩ : BufTy).Contents (Elt Ideal) → (⟨S2048x128, .f32⟩ : BufTy).Contents (Elt Ideal) → (⟨S2048x256, .f32⟩ : BufTy).Contents (Elt Ideal)),
    StableHlo.reshape main_arg4 main_v40 (rfl : (.f32 : EltTy) = .f32) shapeCasts_S512_S1x512  ]

theorem last_two (X : Valuation τ sig (Elt Ideal)) :
    StableHlo.after lastOps X (Proc.tc.devRef main_v39)
      = concatenate S2048x256 1 [⟨S2048x128, StableHlo.after lastOps X (Proc.tc.devRef main_v31)⟩,
          ⟨S2048x128, StableHlo.after lastOps X (Proc.tc.devRef main_v38)⟩]
          concatenates_S2048x128_S2048x128_S2048x256_d1 := by
  after_results

theorem V_split (r : Ref sig .tc) : V m c r
    = StableHlo.after lastOps
        (StableHlo.after ([hostOps0, hostOps0_1, hostOps0_2, hostOps0_3].flatten ++ hostOps0_4.take 18) fun b => m (c, b))
        (Proc.tc.devRef r) := rfl

/-- The table is the cosines beside the sines. -/
theorem V39 : V m c main_v39 = concatenate S2048x256 1 [⟨S2048x128, cosTab⟩, ⟨S2048x128, sinTab⟩]
    concatenates_S2048x128_S2048x128_S2048x256_d1 := by
  rw [← V31 m c, ← V38 m c, V_split m c main_v39, V_split m c main_v31, V_split m c main_v38]
  exact last_two _

/-- A modulation vector in its padded layout. -/
theorem V2_apply (b : Fin 16) (l : Fin 6144) :
    (V m c main_v2 : FVec Ideal S32x1x6144 .f32) (ix3 (⟨b.val, by omega⟩ : Fin 32) (0 : Fin 1) l) = argMods m c (ix2 b l) := by
  rw [V2]
  refine (shapeCast_apply _ shapeCasts_S32x6144_S32x1x6144 _ (ix2 (⟨b.val, by omega⟩ : Fin 32) l) ?_).trans ?_
  · rw [Shape.rowMajor_val_three, Shape.rowMajor_val_two]
    show b.val * 6144 + l.val = (b.val * 1 + 0) * 6144 + l.val
    omega
  · exact concatenate_pair_apply_left (t := S32x6144) 0 (argMods m c) _ _ (ix2 (⟨b.val, by omega⟩ : Fin 32) l) rfl (ix2 b l)
      (fun a => match a with | ⟨0, _⟩ => rfl | ⟨1, _⟩ => rfl)

/-- A table with its shape. -/
abbrev Table := (s : Shape) × (s.Idx → EReal)

/-- Group `g` of four joined tables. -/
theorem four_apply (x y z w : FVec Ideal S2048x32 .f32) (s : Fin 2048) (l : Fin 128) :
    concatenate S2048x128 1 [⟨S2048x32, x⟩, ⟨S2048x32, y⟩, ⟨S2048x32, z⟩, ⟨S2048x32, w⟩]
        concatenates_S2048x32_S2048x32_S2048x32_S2048x32_S2048x128_d1 (ix2 s l)
      = (if l.val / 64 = 0 then (if l.val % 64 < 32 then x else y) else (if l.val % 64 < 32 then z else w))
          (ix2 s (⟨l.val % 32, by omega⟩ : Fin 32)) := by
  have hl := l.isLt
  have key : ∀ (k : Nat) (hk : k < 4) (v : FVec Ideal S2048x32 .f32)
      (hv : [(⟨S2048x32, x⟩ : Table), ⟨S2048x32, y⟩, ⟨S2048x32, z⟩, ⟨S2048x32, w⟩][k]'hk = ⟨S2048x32, v⟩)
      (pre : Nat) (hpre : ((([(⟨S2048x32, x⟩ : Table), ⟨S2048x32, y⟩, ⟨S2048x32, z⟩, ⟨S2048x32, w⟩].take k).map
        (·.1)).map fun s => if h : s.rank = S2048x128.rank then s.size ((1 : Fin 2).cast h.symm) else 0).sum = pre)
      (hl : pre + l.val % 32 = l.val),
      concatenate S2048x128 1 [⟨S2048x32, x⟩, ⟨S2048x32, y⟩, ⟨S2048x32, z⟩, ⟨S2048x32, w⟩]
        concatenates_S2048x32_S2048x32_S2048x32_S2048x32_S2048x128_d1 (ix2 s l) = v (ix2 s (⟨l.val % 32, by omega⟩ : Fin 32)) :=
    fun k hk v hv pre hpre hl =>
      concatenate_apply_piece (t := S2048x128) 1 [(⟨S2048x32, x⟩ : Table), ⟨S2048x32, y⟩, ⟨S2048x32, z⟩, ⟨S2048x32, w⟩] _ _ k hk S2048x32 v hv rfl pre hpre _
        (fun a ha => match a with | ⟨0, _⟩ => rfl | ⟨1, _⟩ => absurd rfl ha) hl
  by_cases h0 : l.val / 64 = 0
  · by_cases h1 : l.val % 64 < 32
    · rw [if_pos h0, if_pos h1]; exact key 0 (by omega) x rfl 0 (by rfl) (by omega)
    · rw [if_pos h0, if_neg h1]; exact key 1 (by omega) y rfl 32 (by rfl) (by omega)
  · by_cases h1 : l.val % 64 < 32
    · rw [if_neg h0, if_pos h1]; exact key 2 (by omega) z rfl 64 (by rfl) (by omega)
    · rw [if_neg h0, if_neg h1]; exact key 3 (by omega) w rfl 96 (by rfl) (by omega)

/-- The two angles of a position. -/
abbrev angles (s : Fin 2048) : Fin 2 → OmSpec.Row 32 := fun a k => if a = 0 then rowAng (ix2 s k) else colAng (ix2 s k)

theorem angle_eq (s : Fin 2048) (l : Fin 128) :
    angles s ⟨l.val / 64, by omega⟩ ⟨l.val % 32, by omega⟩
      = (if l.val / 64 = 0 then rowAng else colAng) (ix2 s (⟨l.val % 32, by omega⟩ : Fin 32)) := by
  by_cases h : l.val / 64 = 0
  · rw [if_pos h]; exact if_pos (Fin.ext h)
  · rw [if_neg h]; exact if_neg fun e => h (congrArg Fin.val e)

theorem cosTab_apply (s : Fin 2048) (l : Fin 128) :
    cosTab (ix2 s l) = IpSpec.cosE (angles s ⟨l.val / 64, by omega⟩ ⟨l.val % 32, by omega⟩) := by
  refine (four_apply _ _ _ _ s l).trans ?_
  rw [angle_eq, ite_self, ite_self]
  by_cases h : l.val / 64 = 0
  · rw [if_pos h, if_pos h]; rfl
  · rw [if_neg h, if_neg h]; rfl

theorem sinTab_below (s : Fin 2048) (l : Fin 128) (hl : l.val % 64 < 32) :
    sinTab (ix2 s l) = -IpSpec.sinE (angles s ⟨l.val / 64, by omega⟩ ⟨l.val % 32, by omega⟩) := by
  refine (four_apply _ _ _ _ s l).trans ?_
  rw [angle_eq, if_pos hl, if_pos hl]
  by_cases h : l.val / 64 = 0
  · rw [if_pos h, if_pos h]; rfl
  · rw [if_neg h, if_neg h]; rfl

theorem sinTab_above (s : Fin 2048) (l : Fin 128) (hl : ¬ l.val % 64 < 32) :
    sinTab (ix2 s l) = IpSpec.sinE (angles s ⟨l.val / 64, by omega⟩ ⟨l.val % 32, by omega⟩) := by
  refine (four_apply _ _ _ _ s l).trans ?_
  rw [angle_eq, if_neg hl, if_neg hl]
  by_cases h : l.val / 64 = 0
  · rw [if_pos h, if_pos h]; rfl
  · rw [if_neg h, if_neg h]; rfl

theorem V39_cos (s : Fin 2048) (l : Fin 128) :
    (V m c main_v39 : FVec Ideal S2048x256 .f32) (ix2 s (⟨l.val, by omega⟩ : Fin 256)) = cosTab (ix2 s l) := by
  rw [V39]
  exact concatenate_pair_apply_left (t := S2048x256) 1 cosTab sinTab _ _ rfl (ix2 s l)
      (fun a => match a with | ⟨0, _⟩ => rfl | ⟨1, _⟩ => rfl)

theorem V39_sin (s : Fin 2048) (l : Fin 128) :
    (V m c main_v39 : FVec Ideal S2048x256 .f32) (ix2 s (⟨128 + l.val, by omega⟩ : Fin 256)) = sinTab (ix2 s l) := by
  rw [V39]
  exact concatenate_pair_apply_right (t := S2048x256) 1 cosTab sinTab _ _ rfl rfl (ix2 s l)
      (fun a ha => match a with | ⟨0, _⟩ => rfl | ⟨1, _⟩ => absurd rfl ha) (Nat.add_comm _ _)

end Cert.Kernel3Ideal.Ip

end
-- ==== Proof.IpArray.lean ====
/- The latent input projection's result arrays, index by index. -/
module

public import proofs.«01_k».proof.Proof.Gen.Kernel3Ideal.Value
public import proofs.«01_k».proof.Proof.IpAt
public import proofs.«01_k».proof.Proof.IpHost
public import Idealize.ShloMosaic.Lib.Pipeline.ValueKit.Tiles
public import Idealize.ShloMosaic.Lib.Pipeline.ValueKit.Point

@[expose] public section

set_option maxRecDepth 16384

noncomputable section

namespace Cert.Kernel3Ideal.Ip

open Idealize.ShloMosaic hiding ix1 ix2 ix3 ix4 ix5 ix6 eq_ix2 eq_ix3 eq_ix4
open Cert.Kernel3Ideal Cert.Kernel3Ideal.Gen Idealize.ShloMosaic.ValueIdx Idealize.ShloMosaic.TcCoe
open Cert.Kernel2Ideal.Om (modAt gainAt cast_row cast_gain)
open Cert.OmSpec (Row)
open Idealize.SL.Sem
open scoped BigOperators

/-! ## One block -/

section Body

variable (x0 : Vec Ideal S1024x1024 .f32) (g : Vec Ideal S1x1024 .f32) (sc sh : Vec Ideal S1x1x1024 .f32)
  (ws : Fin 7 → Vec Ideal S1024x512 .bf16) (tab : Vec Ideal S1024x256 .f32) (gn : Vec Ideal S1x512 .f32)
  (ang : Fin 1024 → Fin 2 → Row 32)

/-- The projected row's input. -/
def fedRow (R : Fin 1024) : Row 1024 :=
  OmSpec.inner (fun k => x0 (ix2 R k)) (fun k => gainAt g k * (OmSpec.one + modAt sc k)) (modAt sh)

def bodyRow (R : Fin 1024) : Fin 7 → Row 512 :=
  IpSpec.column (fun a j => ∑ k, fedRow x0 g sc sh R k * ws a (ix2 k j)) (ang R) (fun j => gn (ix2 (0 : Fin 1) j))

/-- The block. -/
def body : S1024x3584.Idx → EReal := fun y =>
  bodyRow x0 g sc sh ws gn ang (⟨(y 0).val, (y 0).isLt⟩ : Fin 1024)
    (⟨(y 1).val / 512, by have h : (y 1).val < 3584 := (y 1).isLt; omega⟩ : Fin 7) (⟨(y 1).val % 512, by omega⟩ : Fin 512)

theorem body_apply (y : S1024x3584.Idx) (R : Fin 1024) (a : Fin 7) (j : Fin 512) (h0 : (y 0).val = R.val)
    (h1 : (y 1).val = 512 * a.val + j.val) :
    body x0 g sc sh ws gn ang y = bodyRow x0 g sc sh ws gn ang R a j := by
  unfold body
  rw [show (⟨(y 0).val, (y 0).isLt⟩ : Fin 1024) = R from Fin.ext h0,
    show (⟨(y 1).val / 512, by have h : (y 1).val < 3584 := (y 1).isLt; omega⟩ : Fin 7) = a from Fin.ext (by show (y 1).val / 512 = a.val; omega),
    show (⟨(y 1).val % 512, by omega⟩ : Fin 512) = j from Fin.ext (by show (y 1).val % 512 = j.val; omega)]

abbrev fedRows (r : Fin 4) : FVec Ideal S256x1024 .bf16 := fed g sc sh (View.ld x0 (rowsX r))

theorem fedRows_apply (r : Fin 4) (i : Fin 256) (k : Fin 1024) :
    fedRows x0 g sc sh r (ix2 i k) = fedRow x0 g sc sh (rowAt r i) k := by
  have hx : (fun k : Fin 1024 => View.ld x0 (rowsX r) (ix2 i k)) = fun k => x0 (ix2 (rowAt r i) k) := funext fun j =>
    View.ld_unit_apply_of x0 _ _ _ _ _ fun a => match a with
      | ⟨0, _⟩ => rfl | ⟨1, _⟩ => (by show j.val = 0 + j.val; omega)
  unfold fedRows fedRow
  rw [fed_apply, hx]

theorem group_apply (r : Fin 4) (w : Vec Ideal S1024x512 .bf16) (i : Fin 256) (j : Fin 512) :
    acc (fedRows x0 g sc sh r) w (ix2 i j) = (∑ k, fedRow x0 g sc sh (rowAt r i) k * w (ix2 k j) : EReal) := by
  rw [acc_apply]
  exact Finset.sum_congr rfl fun k _ => by rw [fedRows_apply]

theorem wides_value (a : Fin 7) (f : Fin 4 → FVec Ideal S256x512 .bf16)
    (hf : ∀ r i j, f r (ix2 i j) = bodyRow x0 g sc sh ws gn ang (rowAt r i) a j) :
    ∀ p ∈ wides a f, ∀ x, p.2 x = body x0 g sc sh ws gn ang (p.1.emb x) := by
  intro p hp
  obtain ⟨n, rfl⟩ := List.mem_ofFn.mp hp
  intro x
  have b0 : (x 0).val < 256 := (x 0).isLt
  have b1 : (x 1).val < 512 := (x 1).isLt
  have hx : x = ix2 (⟨(x 0).val, b0⟩ : Fin 256) (⟨(x 1).val, b1⟩ : Fin 512) := by
    funext d
    match d with
    | ⟨0, _⟩ => rfl
    | ⟨1, _⟩ => rfl
  refine Eq.trans (congrArg (f ⟨3 - n.val, by omega⟩) hx) ((hf _ _ _).trans (body_apply x0 g sc sh ws gn ang _ _ _ _ ?_ ?_).symm)
  · show 256 * (3 - n.val) + 1 * (x 0).val = 256 * (3 - n.val) + (x 0).val
    omega
  · show 512 * a.val + 1 * (x 1).val = 512 * a.val + (x 1).val
    omega

theorem heads_value (a : Fin 2) (f : Fin 4 → Fin 4 → FVec Ideal S256x128 .bf16)
    (hf : ∀ (r k : Fin 4) (i : Fin 256) (l : Fin 128), f r k (ix2 i l)
      = bodyRow x0 g sc sh ws gn ang (rowAt r i) ⟨a.val, by omega⟩ ⟨128 * k.val + l.val, by omega⟩) :
    ∀ p ∈ heads a f, ∀ x, p.2 x = body x0 g sc sh ws gn ang (p.1.emb x) := by
  intro p hp
  obtain ⟨n, rfl⟩ := List.mem_ofFn.mp hp
  intro x
  have b0 : (x 0).val < 256 := (x 0).isLt
  have b1 : (x 1).val < 128 := (x 1).isLt
  have hx : x = ix2 (⟨(x 0).val, b0⟩ : Fin 256) (⟨(x 1).val, b1⟩ : Fin 128) := by
    funext d
    match d with
    | ⟨0, _⟩ => rfl
    | ⟨1, _⟩ => rfl
  refine Eq.trans (congrArg (f ⟨3 - n.val / 4, by omega⟩ ⟨3 - n.val % 4, by omega⟩) hx)
    ((hf _ _ _ _).trans (body_apply x0 g sc sh ws gn ang _ _ _ _ ?_ ?_).symm)
  · show 256 * (3 - n.val / 4) + 1 * (x 0).val = 256 * (3 - n.val / 4) + (x 0).val
    omega
  · show 512 * a.val + 128 * (3 - n.val % 4) + 1 * (x 1).val = 512 * a.val + (128 * (3 - n.val % 4) + (x 1).val)
    omega

end Body

theorem wide_mem (a : Fin 7) (r : Fin 4) (y : S1024x3584.Idx) (h0 : 256 * r.val ≤ (y 0).val ∧ (y 0).val < 256 * r.val + 256)
    (h1 : 512 * a.val ≤ (y 1).val ∧ (y 1).val < 512 * a.val + 512) : y ∈ (wide a r).set := by
  unfold wide
  rw [Rect.mem_set_unit]
  intro d
  match d with
  | ⟨0, _⟩ => exact h0
  | ⟨1, _⟩ => exact h1

theorem wides_cover (a : Fin 7) (f : Fin 4 → FVec Ideal S256x512 .bf16) (y : S1024x3584.Idx) (h : (y 1).val / 512 = a.val) :
    ∃ p ∈ wides a f, y ∈ p.1.set := by
  have h0 : (y 0).val < 1024 := (y 0).isLt
  refine ⟨_, List.mem_ofFn.mpr ⟨(⟨3 - (y 0).val / 256, by omega⟩ : Fin 4), rfl⟩, wide_mem a _ y ?_ ?_⟩
  · show 256 * (3 - (3 - (y 0).val / 256)) ≤ (y 0).val ∧ (y 0).val < 256 * (3 - (3 - (y 0).val / 256)) + 256
    omega
  · show 512 * a.val ≤ (y 1).val ∧ (y 1).val < 512 * a.val + 512
    omega

theorem head_mem (a : Fin 2) (r k : Fin 4) (y : S1024x3584.Idx) (h0 : 256 * r.val ≤ (y 0).val ∧ (y 0).val < 256 * r.val + 256)
    (h1 : 512 * a.val + 128 * k.val ≤ (y 1).val ∧ (y 1).val < 512 * a.val + 128 * k.val + 128) : y ∈ (head a r k).set := by
  unfold head
  rw [Rect.mem_set_unit]
  intro d
  match d with
  | ⟨0, _⟩ => exact h0
  | ⟨1, _⟩ => exact h1

theorem heads_cover (a : Fin 2) (f : Fin 4 → Fin 4 → FVec Ideal S256x128 .bf16) (y : S1024x3584.Idx)
    (h : (y 1).val / 512 = a.val) : ∃ p ∈ heads a f, y ∈ p.1.set := by
  have h0 : (y 0).val < 1024 := (y 0).isLt
  refine ⟨_, List.mem_ofFn.mpr ⟨(⟨4 * (3 - (y 0).val / 256) + (3 - (y 1).val % 512 / 128), by omega⟩ : Fin 16), rfl⟩,
    head_mem a _ _ y ?_ ?_⟩
  · show 256 * (3 - (4 * (3 - (y 0).val / 256) + (3 - (y 1).val % 512 / 128)) / 4) ≤ (y 0).val
      ∧ (y 0).val < 256 * (3 - (4 * (3 - (y 0).val / 256) + (3 - (y 1).val % 512 / 128)) / 4) + 256
    omega
  · show 512 * a.val + 128 * (3 - (4 * (3 - (y 0).val / 256) + (3 - (y 1).val % 512 / 128)) % 4) ≤ (y 1).val
      ∧ (y 1).val < 512 * a.val + 128 * (3 - (4 * (3 - (y 0).val / 256) + (3 - (y 1).val % 512 / 128)) % 4) + 128
    omega

section Body

variable (x0 : Vec Ideal S1024x1024 .f32) (g : Vec Ideal S1x1024 .f32) (sc sh : Vec Ideal S1x1x1024 .f32)
  (ws : Fin 7 → Vec Ideal S1024x512 .bf16) (tab : Vec Ideal S1024x256 .f32) (gn : Vec Ideal S1x512 .f32)
  (ang : Fin 1024 → Fin 2 → Row 32)

/-- The stores of the body. -/
abbrev stores : List (Piece Ideal) :=
  wides 6 (fun r => plain (fedRows x0 g sc sh r) (ws 6)) ++ (wides 5 (fun r => plain (fedRows x0 g sc sh r) (ws 5))
    ++ (wides 4 (fun r => query (fedRows x0 g sc sh r) (ws 4)) ++ (wides 3 (fun r => gated gn (fedRows x0 g sc sh r) (ws 3))
    ++ (wides 2 (fun r => plain (fedRows x0 g sc sh r) (ws 2)) ++ (heads 1 (fun r k => rotated tab r k (fedRows x0 g sc sh r) (ws 1))
    ++ heads 0 (fun r k => rotated tab r k (fedRows x0 g sc sh r) (ws 0)))))))

theorem plain_value (a : Fin 7) (ha : ∀ p ang gn, IpSpec.column p ang gn a = p a) (r : Fin 4) (i : Fin 256) (j : Fin 512) :
    plain (fedRows x0 g sc sh r) (ws a) (ix2 i j) = bodyRow x0 g sc sh ws gn ang (rowAt r i) a j := by
  unfold bodyRow
  rw [ha]
  exact group_apply x0 g sc sh r (ws a) i j

theorem turned_value (ht : ∀ R, TabRow tab R (ang R)) (a : Fin 7)
    (ha : ∀ p ang gn, IpSpec.column p ang gn a
      = fun j => IpSpec.turned (fun i => p a ⟨128 * (j.val / 128) + i.val, by omega⟩) ang ⟨j.val % 128, by omega⟩)
    (r k : Fin 4) (i : Fin 256) (l : Fin 128) :
    rotated tab r k (fedRows x0 g sc sh r) (ws a) (ix2 i l)
      = bodyRow x0 g sc sh ws gn ang (rowAt r i) a ⟨128 * k.val + l.val, by omega⟩ := by
  rw [rotated_apply tab r k _ _ i (ang (rowAt r i)) (ht _) l]
  unfold bodyRow
  rw [ha]
  refine congrArg₂ (fun f q => IpSpec.turned f (ang (rowAt r i)) q) (funext fun q => ?_)
    (Fin.ext (by show l.val = (128 * k.val + l.val) % 128; omega))
  rw [group_apply]
  refine congrArg (fun z : Fin 512 => (∑ k, fedRow x0 g sc sh (rowAt r i) k * ws a (ix2 k z) : EReal)) (Fin.ext ?_)
  show 128 * k.val + q.val = 128 * ((128 * k.val + l.val) / 128) + q.val
  omega

theorem stores_value (ht : ∀ R, TabRow tab R (ang R)) :
    ∀ p ∈ stores x0 g sc sh ws tab gn, ∀ x, p.2 x = body x0 g sc sh ws gn ang (p.1.emb x) := by
  intro p hp
  rcases List.mem_append.mp hp with hp | hp
  · exact wides_value x0 g sc sh ws gn ang 6 _ (plain_value x0 g sc sh ws gn ang 6 fun _ _ _ => rfl) p hp
  rcases List.mem_append.mp hp with hp | hp
  · exact wides_value x0 g sc sh ws gn ang 5 _ (plain_value x0 g sc sh ws gn ang 5 fun _ _ _ => rfl) p hp
  rcases List.mem_append.mp hp with hp | hp
  · refine wides_value x0 g sc sh ws gn ang 4 _ (fun r i j => ?_) p hp
    rw [query_apply, group_apply]; rfl
  rcases List.mem_append.mp hp with hp | hp
  · refine wides_value x0 g sc sh ws gn ang 3 _ (fun r i j => ?_) p hp
    rw [gated_apply, group_apply]; rfl
  rcases List.mem_append.mp hp with hp | hp
  · exact wides_value x0 g sc sh ws gn ang 2 _ (plain_value x0 g sc sh ws gn ang 2 fun _ _ _ => rfl) p hp
  rcases List.mem_append.mp hp with hp | hp
  · exact heads_value x0 g sc sh ws gn ang 1 _ (turned_value x0 g sc sh ws tab gn ang ht 1 fun _ _ _ => rfl) p hp
  · exact heads_value x0 g sc sh ws gn ang 0 _ (turned_value x0 g sc sh ws tab gn ang ht 0 fun _ _ _ => rfl) p hp

theorem stores_cover (y : S1024x3584.Idx) : ∃ p ∈ stores x0 g sc sh ws tab gn, y ∈ p.1.set := by
  have h1 : (y 1).val < 3584 := (y 1).isLt
  have left : ∀ {l l' : List (Piece Ideal)}, (∃ p ∈ l, y ∈ p.1.set) → ∃ p ∈ l ++ l', y ∈ p.1.set :=
    fun ⟨p, hp, hy⟩ => ⟨p, List.mem_append_left _ hp, hy⟩
  have right : ∀ {l l' : List (Piece Ideal)}, (∃ p ∈ l', y ∈ p.1.set) → ∃ p ∈ l ++ l', y ∈ p.1.set :=
    fun ⟨p, hp, hy⟩ => ⟨p, List.mem_append_right _ hp, hy⟩
  by_cases h6 : (y 1).val / 512 = 6
  · exact left (wides_cover 6 _ y h6)
  by_cases h5 : (y 1).val / 512 = 5
  · exact right (left (wides_cover 5 _ y h5))
  by_cases h4 : (y 1).val / 512 = 4
  · exact right (right (left (wides_cover 4 _ y h4)))
  by_cases h3 : (y 1).val / 512 = 3
  · exact right (right (right (left (wides_cover 3 _ y h3))))
  by_cases h2 : (y 1).val / 512 = 2
  · exact right (right (right (right (left (wides_cover 2 _ y h2)))))
  by_cases h1' : (y 1).val / 512 = 1
  · exact right (right (right (right (right (left (heads_cover 1 _ y h1'))))))
  · exact right (right (right (right (right (right (heads_cover 0 _ y (by show (y 1).val / 512 = 0; omega)))))))

theorem stores_apply (ht : ∀ R, TabRow tab R (ang R)) (y : S1024x3584.Idx) :
    View.canon (stores x0 g sc sh ws tab gn) y = body x0 g sc sh ws gn ang y :=
  View.canon_apply_of_pieces (body x0 g sc sh ws gn ang) _ (stores_value x0 g sc sh ws tab gn ang ht) y
    (stores_cover x0 g sc sh ws tab gn y)

/-- A family of seven blocks at an index. -/
theorem seven_of (k : Fin 1024) (j : Fin 512) (w0 w1 w2 w3 w4 w5 w6 : Vec Ideal S1024x512 .bf16) (f : Fin 7 → EReal)
    (h0 : w0 (ix2 k j) = f 0) (h1 : w1 (ix2 k j) = f 1) (h2 : w2 (ix2 k j) = f 2) (h3 : w3 (ix2 k j) = f 3) (h4 : w4 (ix2 k j) = f 4)
    (h5 : w5 (ix2 k j) = f 5) (h6 : w6 (ix2 k j) = f 6) : ∀ a : Fin 7,
    (![w0, w1, w2, w3, w4, w5, w6] : Fin 7 → Vec Ideal S1024x512 .bf16) a (ix2 k j) = f a
  | 0 => h0 | 1 => h1 | 2 => h2 | 3 => h3 | 4 => h4 | 5 => h5 | 6 => h6

theorem canon_apply (w0 w1 w2 w3 w4 w5 w6 : Vec Ideal S1024x512 .bf16) (ht : ∀ R, TabRow tab R (ang R)) (y : S1024x3584.Idx) :
    View.canon (wides 6 (fun r => plain (fedRows x0 g sc sh r) w6) ++ (wides 5 (fun r => plain (fedRows x0 g sc sh r) w5)
    ++ (wides 4 (fun r => query (fedRows x0 g sc sh r) w4) ++ (wides 3 (fun r => gated gn (fedRows x0 g sc sh r) w3)
    ++ (wides 2 (fun r => plain (fedRows x0 g sc sh r) w2) ++ (heads 1 (fun r k => rotated tab r k (fedRows x0 g sc sh r) w1)
    ++ heads 0 (fun r k => rotated tab r k (fedRows x0 g sc sh r) w0))))))) y
      = body x0 g sc sh ![w0, w1, w2, w3, w4, w5, w6] gn ang y :=
  stores_apply x0 g sc sh ![w0, w1, w2, w3, w4, w5, w6] tab gn ang ht y

end Body

/-! ## The index maps -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val / 2, 0, 0] :=
  (by decide +kernel : ∀ t : Fin grid0.N, win0_1.index t = ![t.val / 2, 0, 0])
theorem idx2 : ∀ t : Fin cfg0.N, win0_2.index t = ![t.val / 2, 0, 1] :=
  (by decide +kernel : ∀ t : Fin grid0.N, win0_2.index t = ![t.val / 2, 0, 1])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 1] :=
  (by decide +kernel : ∀ t : Fin grid0.N, win0_5.index t = ![0, 1])
theorem idx6 : ∀ t : Fin cfg0.N, win0_6.index t = ![0, 2] :=
  (by decide +kernel : ∀ t : Fin grid0.N, win0_6.index t = ![0, 2])
theorem idx7 : ∀ t : Fin cfg0.N, win0_7.index t = ![0, 3] :=
  (by decide +kernel : ∀ t : Fin grid0.N, win0_7.index t = ![0, 3])
theorem idx8 : ∀ t : Fin cfg0.N, win0_8.index t = ![0, 4] :=
  (by decide +kernel : ∀ t : Fin grid0.N, win0_8.index t = ![0, 4])
theorem idx9 : ∀ t : Fin cfg0.N, win0_9.index t = ![0, 5] :=
  (by decide +kernel : ∀ t : Fin grid0.N, win0_9.index t = ![0, 5])
theorem idx10 : ∀ t : Fin cfg0.N, win0_10.index t = ![0, 6] :=
  (by decide +kernel : ∀ t : Fin grid0.N, win0_10.index t = ![0, 6])
theorem idx11 : ∀ t : Fin cfg0.N, win0_11.index t = ![t.val % 2, 0] :=
  (by decide +kernel : ∀ t : Fin grid0.N, win0_11.index t = ![t.val % 2, 0])
theorem idx12 : ∀ t : Fin cfg0.N, win0_12.index t = ![0, 0] :=
  (by decide +kernel : ∀ t : Fin grid0.N, win0_12.index t = ![0, 0])
theorem idx13 : ∀ t : Fin cfg0.N, win0_13.index t = ![t.val, 0] :=
  (by decide +kernel : ∀ t : Fin grid0.N, win0_13.index t = ![t.val, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![t.val, 0] :=
  (by decide +kernel : ∀ t : Fin grid0.N, win0_17.index t = ![t.val, 0])
theorem idx18 : ∀ t : Fin cfg0.N, win0_18.index t = ![t.val, 0] :=
  (by decide +kernel : ∀ t : Fin grid0.N, win0_18.index t = ![t.val, 0])
theorem idx19 : ∀ t : Fin cfg0.N, win0_19.index t = ![t.val, 0] :=
  (by decide +kernel : ∀ t : Fin grid0.N, win0_19.index t = ![t.val, 0])

variable (m : (ℓ : Loc nD τ sig) → Buf (Elt Ideal) ℓ) (c : Dev nD)

/-- Row `r` of half `p` of a sequence. -/
abbrev tok (p : Fin 2) (r : Fin 1024) : Fin 2048 := ⟨1024 * p.val + r.val, by omega⟩

section Blocks

variable (b : Fin 16) (p : Fin 2) (t : Fin cfg0.N) (ht : t.val = 2 * b.val + p.val)

include ht

theorem iblk0_apply (r l : Fin 1024) :
    (iblk m c 0 t : Vec Ideal S1024x1024 .f32) (ix2 r l) = argX m c (ix3 b (tok p r) l) := by
  refine Eq.trans ?_ ((congrFun (V3 m c) _).trans (cast_row (argX m c) b (tok p r) l _))
  blk_ext [iblk, idx0 t]
  · show t.val * 1024 + r.val = 2048 * b.val + (1024 * p.val + r.val); omega

theorem iblk1_apply (l : Fin 1024) : (iblk m c 1 t : Vec Ideal S1x1x1024 .f32) (ix3 (0 : Fin 1) (0 : Fin 1) l) = OmSpec.modRow (argMods m c) 0 b l := by
  refine Eq.trans ?_ (V2_apply m c b (⟨0 + l.val, by omega⟩ : Fin 6144))
  blk_ext [iblk, idx1 t]

theorem iblk2_apply (l : Fin 1024) : (iblk m c 2 t : Vec Ideal S1x1x1024 .f32) (ix3 (0 : Fin 1) (0 : Fin 1) l) = OmSpec.modRow (argMods m c) 1 b l := by
  refine Eq.trans ?_ (V2_apply m c b (⟨1024 + l.val, by omega⟩ : Fin 6144))
  blk_ext [iblk, idx2 t]

theorem iblk11_apply (R : Fin 1024) (l : Fin 256) :
    (iblk m c 11 t : Vec Ideal S1024x256 .f32) (ix2 R l) = (V m c main_v39 : FVec Ideal S2048x256 .f32) (ix2 (tok p R) l) := by
  blk_ext [iblk, idx11 t]
  · show t.val % 2 * 1024 + R.val = 1024 * p.val + R.val; omega

theorem tabRow (R : Fin 1024) : TabRow (iblk m c 11 t) R (angles (tok p R)) where
  cos l := (iblk11_apply m c b p t ht R _).trans ((V39_cos m c _ l).trans (cosTab_apply _ l))
  below l hl := (iblk11_apply m c b p t ht R _).trans ((V39_sin m c _ l).trans (sinTab_below _ l hl))
  above l hl := (iblk11_apply m c b p t ht R _).trans ((V39_sin m c _ l).trans (sinTab_above _ l hl))

end Blocks

section Whole

variable (t : Fin cfg0.N)

theorem iblk3_apply (l : Fin 1024) : (iblk m c 3 t : Vec Ideal S1x1024 .f32) (ix2 (0 : Fin 1) l) = OmSpec.gainRow (argGm m c) l := by
  refine Eq.trans ?_ ((congrFun (V4 m c) _).trans (cast_gain (argGm m c) l _))
  blk_ext [iblk, idx3 t]

theorem iblk12_apply (l : Fin 512) : (iblk m c 12 t : Vec Ideal S1x512 .f32) (ix2 (0 : Fin 1) l) = argGn m c (ix1 l) := by
  refine Eq.trans ?_ ((congrFun (V40 m c) (ix2 (0 : Fin 1) l)).trans (shapeCast_apply (argGn m c) _ _ (ix1 l)
    (by rw [Shape.rowMajor_val_one, Shape.rowMajor_val_two]; show l.val = 0 * 512 + l.val; omega)))
  blk_ext [iblk, idx12 t]

/-- The seven groups of columns. -/
abbrev groups : Fin 7 → Vec Ideal S1024x512 .bf16 :=
  ![iblk m c 4 t, iblk m c 5 t, iblk m c 6 t, iblk m c 7 t, iblk m c 8 t, iblk m c 9 t, iblk m c 10 t]

theorem iblk4_apply (k : Fin 1024) (j : Fin 512) : (iblk m c 4 t : Vec Ideal S1024x512 .bf16) (ix2 k j)
    = argW m c (ix2 k (⟨512 * 0 + j.val, by omega⟩ : Fin 3584)) := by
  refine Eq.trans ?_ (congrFun (V5 m c) _)
  blk_ext [iblk, idx4 t]
  · show j.val = 512 * 0 + j.val; omega
theorem iblk5_apply (k : Fin 1024) (j : Fin 512) : (iblk m c 5 t : Vec Ideal S1024x512 .bf16) (ix2 k j)
    = argW m c (ix2 k (⟨512 * 1 + j.val, by omega⟩ : Fin 3584)) := by
  refine Eq.trans ?_ (congrFun (V5 m c) _)
  blk_ext [iblk, idx5 t]
theorem iblk6_apply (k : Fin 1024) (j : Fin 512) : (iblk m c 6 t : Vec Ideal S1024x512 .bf16) (ix2 k j)
    = argW m c (ix2 k (⟨512 * 2 + j.val, by omega⟩ : Fin 3584)) := by
  refine Eq.trans ?_ (congrFun (V5 m c) _)
  blk_ext [iblk, idx6 t]
theorem iblk7_apply (k : Fin 1024) (j : Fin 512) : (iblk m c 7 t : Vec Ideal S1024x512 .bf16) (ix2 k j)
    = argW m c (ix2 k (⟨512 * 3 + j.val, by omega⟩ : Fin 3584)) := by
  refine Eq.trans ?_ (congrFun (V5 m c) _)
  blk_ext [iblk, idx7 t]
theorem iblk8_apply (k : Fin 1024) (j : Fin 512) : (iblk m c 8 t : Vec Ideal S1024x512 .bf16) (ix2 k j)
    = argW m c (ix2 k (⟨512 * 4 + j.val, by omega⟩ : Fin 3584)) := by
  refine Eq.trans ?_ (congrFun (V5 m c) _)
  blk_ext [iblk, idx8 t]
theorem iblk9_apply (k : Fin 1024) (j : Fin 512) : (iblk m c 9 t : Vec Ideal S1024x512 .bf16) (ix2 k j)
    = argW m c (ix2 k (⟨512 * 5 + j.val, by omega⟩ : Fin 3584)) := by
  refine Eq.trans ?_ (congrFun (V5 m c) _)
  blk_ext [iblk, idx9 t]
theorem iblk10_apply (k : Fin 1024) (j : Fin 512) : (iblk m c 10 t : Vec Ideal S1024x512 .bf16) (ix2 k j)
    = argW m c (ix2 k (⟨512 * 6 + j.val, by omega⟩ : Fin 3584)) := by
  refine Eq.trans ?_ (congrFun (V5 m c) _)
  blk_ext [iblk, idx10 t]

theorem groups_apply (k : Fin 1024) (j : Fin 512) (a : Fin 7) :
    groups m c t a (ix2 k j) = argW m c (ix2 k (⟨512 * a.val + j.val, by omega⟩ : Fin 3584)) :=
  seven_of k j _ _ _ _ _ _ _ (fun a => argW m c (ix2 k (⟨512 * a.val + j.val, by omega⟩ : Fin 3584))) (iblk4_apply m c t k j) (iblk5_apply m c t k j)
    (iblk6_apply m c t k j) (iblk7_apply m c t k j) (iblk8_apply m c t k j) (iblk9_apply m c t k j) (iblk10_apply m c t k j) a

end Whole

/-- The result array. -/
def G : S32768x3584.Idx → EReal := fun y =>
  IpSpec.result (argX m c) (argMods m c) (argGm m c) (argW m c) (argGn m c) rowAng colAng
    (⟨(y 0).val / 2048, by have h : (y 0).val < 32768 := (y 0).isLt; omega⟩ : Fin 16) (⟨(y 0).val % 2048, by omega⟩ : Fin 2048)
    (⟨(y 1).val / 512, by have h : (y 1).val < 3584 := (y 1).isLt; omega⟩ : Fin 7) (⟨(y 1).val % 512, by omega⟩ : Fin 512)

theorem G_apply (y : S32768x3584.Idx) (b : Fin 16) (s : Fin 2048) (a : Fin 7) (j : Fin 512) (hb : (y 0).val / 2048 = b.val)
    (hs : (y 0).val % 2048 = s.val) (ha : (y 1).val / 512 = a.val) (hj : (y 1).val % 512 = j.val) :
    G m c y = IpSpec.result (argX m c) (argMods m c) (argGm m c) (argW m c) (argGn m c) rowAng colAng b s a j := by
  unfold G
  rw [show (⟨(y 0).val / 2048, by have h : (y 0).val < 32768 := (y 0).isLt; omega⟩ : Fin 16) = b from Fin.ext hb,
    show (⟨(y 0).val % 2048, by omega⟩ : Fin 2048) = s from Fin.ext hs,
    show (⟨(y 1).val / 512, by have h : (y 1).val < 3584 := (y 1).isLt; omega⟩ : Fin 7) = a from Fin.ext ha,
    show (⟨(y 1).val % 512, by omega⟩ : Fin 512) = j from Fin.ext hj]

theorem block_apply (b : Fin 16) (p : Fin 2) (t : Fin cfg0.N) (ht : t.val = 2 * b.val + p.val) (R : Fin 1024) (a : Fin 7)
    (j : Fin 512) :
    bodyRow (iblk m c 0 t) (iblk m c 3 t) (iblk m c 2 t) (iblk m c 1 t) (groups m c t) (iblk m c 12 t) (fun R => angles (tok p R)) R a j
      = IpSpec.result (argX m c) (argMods m c) (argGm m c) (argW m c) (argGn m c) rowAng colAng b (tok p R) a j := by
  have m1 : modAt (iblk m c 1 t) = OmSpec.modRow (argMods m c) 0 b := funext fun l => iblk1_apply m c b p t ht l
  have m2 : modAt (iblk m c 2 t) = OmSpec.modRow (argMods m c) 1 b := funext fun l => iblk2_apply m c b p t ht l
  have m3 : gainAt (iblk m c 3 t) = OmSpec.gainRow (argGm m c) := funext fun l => iblk3_apply m c t l
  have m0 : (fun k => (iblk m c 0 t : Vec Ideal S1024x1024 .f32) (ix2 R k)) = OmSpec.tokenRow (argX m c) b (tok p R) :=
    funext fun k => iblk0_apply m c b p t ht R k
  have hn : (fun j => (iblk m c 12 t : Vec Ideal S1x512 .f32) (ix2 (0 : Fin 1) j)) = fun j => argGn m c (ix1 j) :=
    funext fun j => iblk12_apply m c t j
  have hp : ∀ (h : Row 1024), (fun (a : Fin 7) (j : Fin 512) => (∑ k, h k * groups m c t a (ix2 k j) : EReal))
      = IpSpec.proj h (OmSpec.matrix (argW m c)) := fun h => funext fun a => funext fun j =>
    Finset.sum_congr rfl fun k _ => congrArg (fun z : EReal => h k * z) (groups_apply m c t k j a)
  unfold bodyRow fedRow IpSpec.result
  rw [m0, m1, m2, m3, hn, hp]

theorem whole_apply (b : Fin 16) (p : Fin 2) (t : Fin cfg0.N) (ht : t.val = 2 * b.val + p.val) (y : S1024x3584.Idx) (R : Fin 1024)
    (a : Fin 7) (j : Fin 512) (h0 : (y 0).val = R.val) (h1 : (y 1).val = 512 * a.val + j.val) :
    ((dats m 0 c).after 16 t : Vec Ideal S1024x3584 .bf16) y
      = IpSpec.result (argX m c) (argMods m c) (argGm m c) (argW m c) (argGn m c) rowAng colAng b (tok p R) a j := by
  rw [after_16]
  refine (canon_apply (iblk m c 0 t) (iblk m c 3 t) (iblk m c 2 t) (iblk m c 1 t) (iblk m c 11 t) (iblk m c 12 t)
    (fun R => angles (tok p R)) _ _ _ _ _ _ _ (fun R => tabRow m c b p t ht R) y).trans ?_
  rw [body_apply _ _ _ _ _ _ _ y R a j h0 h1]
  exact block_apply m c b p t ht R a j

theorem final16 : (dats m 0 c).arrAt 16 cfg0.N = G m c := by
  refine (dats m 0 c).arrAt_eq_of_covers 16 _ (by decide +kernel) fun t _ y => ?_
  blk_simp
  have hN : t.val < 32 := lt_of_lt_of_eq t.isLt Gen.N_0
  have h0 : (y 0).val < 1024 := (y 0).isLt
  have h1 : (y 1).val < 3584 := (y 1).isLt
  refine (whole_apply m c ⟨t.val / 2, by omega⟩ ⟨t.val % 2, by omega⟩ t (by show t.val = 2 * (t.val / 2) + t.val % 2; omega)
    y ⟨(y 0).val, h0⟩ ⟨(y 1).val / 512, by omega⟩ ⟨(y 1).val % 512, by omega⟩ rfl
    (by show (y 1).val = 512 * ((y 1).val / 512) + (y 1).val % 512; omega)).trans ?_
  have e0 : (((win0_16.blk t).view.emb y) 0 : Nat) = t.val * 1024 + (y 0).val := by blk_simp [idx16 t]
  have e1 : (((win0_16.blk t).view.emb y) 1 : Nat) = (y 1).val := by blk_simp [idx16 t]
  refine (G_apply m c _ _ _ _ _ ?_ ?_ ?_ ?_).symm
  · show (((win0_16.blk t).view.emb y) 0 : Nat) / 2048 = t.val / 2
    rw [e0]; omega
  · show (((win0_16.blk t).view.emb y) 0 : Nat) % 2048 = 1024 * (t.val % 2) + (y 0).val
    rw [e0]; omega
  · show (((win0_16.blk t).view.emb y) 1 : Nat) / 512 = (y 1).val / 512
    rw [e1]
  · show (((win0_16.blk t).view.emb y) 1 : Nat) % 512 = (y 1).val % 512
    rw [e1]

/-! ## The three weight matrices, rounded on the way -/

/-- The matrix of argument 5. -/
def weight5 : S1024x1024.Idx → EReal := fun y => (m ((c : Thread nD τ).loc main_arg5) : FVec Ideal S1024x1024 .f32) y

theorem iblk13_apply (t : Fin cfg0.N) (r : Fin 32) (l : Fin 1024) (h : t.val * 32 + r.val < 1024) :
    (iblk m c 13 t : Vec Ideal S32x1024 .f32) (ix2 r l) = weight5 m c (ix2 (⟨t.val * 32 + r.val, h⟩ : Fin 1024) l) := by
  refine Eq.trans ?_ (congrFun (V_main_arg5 m c) (ix2 (⟨t.val * 32 + r.val, h⟩ : Fin 1024) l))
  blk_ext [iblk, idx13 t]

theorem whole17_apply (t : Fin cfg0.N) (y : S32x1024.Idx) (r : Fin 32) (l : Fin 1024) (h0 : y = ix2 r l) (z : S1024x1024.Idx)
    (h1 : (z 0).val = t.val * 32 + r.val) (h2 : (z 1).val = l.val) :
    ((dats m 0 c).after 17 t : Vec Ideal S32x1024 .bf16) y = weight5 m c z := by
  have b0 : (z 0).val < 1024 := (z 0).isLt
  rw [after_17]
  have e : z = ix2 (⟨t.val * 32 + r.val, by omega⟩ : Fin 1024) l := by
    funext d
    match d with
    | ⟨0, _⟩ => exact Fin.ext h1
    | ⟨1, _⟩ => exact Fin.ext h2
  rw [e, h0]
  exact iblk13_apply m c t r l (by omega)

theorem final17 : (dats m 0 c).arrAt 17 cfg0.N = weight5 m c := by
  refine (dats m 0 c).arrAt_eq_of_covers 17 _ (by decide +kernel) fun t _ y => ?_
  blk_simp
  have h0 : (y 0).val < 32 := (y 0).isLt
  have h1 : (y 1).val < 1024 := (y 1).isLt
  refine whole17_apply m c t y ⟨(y 0).val, h0⟩ ⟨(y 1).val, h1⟩ ?_ _ ?_ ?_
  · funext d
    match d with
    | ⟨0, _⟩ => rfl
    | ⟨1, _⟩ => rfl
  · blk_simp [idx17 t]
  · blk_simp [idx17 t]

/-- The matrix of argument 6. -/
def weight6 : S1024x4096.Idx → EReal := fun y => (m ((c : Thread nD τ).loc main_arg6) : FVec Ideal S1024x4096 .f32) y

theorem iblk14_apply (t : Fin cfg0.N) (r : Fin 32) (l : Fin 4096) (h : t.val * 32 + r.val < 1024) :
    (iblk m c 14 t : Vec Ideal S32x4096 .f32) (ix2 r l) = weight6 m c (ix2 (⟨t.val * 32 + r.val, h⟩ : Fin 1024) l) := by
  refine Eq.trans ?_ (congrFun (V_main_arg6 m c) (ix2 (⟨t.val * 32 + r.val, h⟩ : Fin 1024) l))
  blk_ext [iblk, idx14 t]

theorem whole18_apply (t : Fin cfg0.N) (y : S32x4096.Idx) (r : Fin 32) (l : Fin 4096) (h0 : y = ix2 r l) (z : S1024x4096.Idx)
    (h1 : (z 0).val = t.val * 32 + r.val) (h2 : (z 1).val = l.val) :
    ((dats m 0 c).after 18 t : Vec Ideal S32x4096 .bf16) y = weight6 m c z := by
  have b0 : (z 0).val < 1024 := (z 0).isLt
  rw [after_18]
  have e : z = ix2 (⟨t.val * 32 + r.val, by omega⟩ : Fin 1024) l := by
    funext d
    match d with
    | ⟨0, _⟩ => exact Fin.ext h1
    | ⟨1, _⟩ => exact Fin.ext h2
  rw [e, h0]
  exact iblk14_apply m c t r l (by omega)

theorem final18 : (dats m 0 c).arrAt 18 cfg0.N = weight6 m c := by
  refine (dats m 0 c).arrAt_eq_of_covers 18 _ (by decide +kernel) fun t _ y => ?_
  blk_simp
  have h0 : (y 0).val < 32 := (y 0).isLt
  have h1 : (y 1).val < 4096 := (y 1).isLt
  refine whole18_apply m c t y ⟨(y 0).val, h0⟩ ⟨(y 1).val, h1⟩ ?_ _ ?_ ?_
  · funext d
    match d with
    | ⟨0, _⟩ => rfl
    | ⟨1, _⟩ => rfl
  · blk_simp [idx18 t]
  · blk_simp [idx18 t]

/-- The matrix of argument 7. -/
def weight7 : S4096x1024.Idx → EReal := fun y => (m ((c : Thread nD τ).loc main_arg7) : FVec Ideal S4096x1024 .f32) y

theorem iblk15_apply (t : Fin cfg0.N) (r : Fin 128) (l : Fin 1024) (h : t.val * 128 + r.val < 4096) :
    (iblk m c 15 t : Vec Ideal S128x1024 .f32) (ix2 r l) = weight7 m c (ix2 (⟨t.val * 128 + r.val, h⟩ : Fin 4096) l) := by
  refine Eq.trans ?_ (congrFun (V_main_arg7 m c) (ix2 (⟨t.val * 128 + r.val, h⟩ : Fin 4096) l))
  blk_ext [iblk, idx15 t]

theorem whole19_apply (t : Fin cfg0.N) (y : S128x1024.Idx) (r : Fin 128) (l : Fin 1024) (h0 : y = ix2 r l) (z : S4096x1024.Idx)
    (h1 : (z 0).val = t.val * 128 + r.val) (h2 : (z 1).val = l.val) :
    ((dats m 0 c).after 19 t : Vec Ideal S128x1024 .bf16) y = weight7 m c z := by
  have b0 : (z 0).val < 4096 := (z 0).isLt
  rw [after_19]
  have e : z = ix2 (⟨t.val * 128 + r.val, by omega⟩ : Fin 4096) l := by
    funext d
    match d with
    | ⟨0, _⟩ => exact Fin.ext h1
    | ⟨1, _⟩ => exact Fin.ext h2
  rw [e, h0]
  exact iblk15_apply m c t r l (by omega)

theorem final19 : (dats m 0 c).arrAt 19 cfg0.N = weight7 m c := by
  refine (dats m 0 c).arrAt_eq_of_covers 19 _ (by decide +kernel) fun t _ y => ?_
  blk_simp
  have h0 : (y 0).val < 128 := (y 0).isLt
  have h1 : (y 1).val < 1024 := (y 1).isLt
  refine whole19_apply m c t y ⟨(y 0).val, h0⟩ ⟨(y 1).val, h1⟩ ?_ _ ?_ ?_
  · funext d
    match d with
    | ⟨0, _⟩ => rfl
    | ⟨1, _⟩ => rfl
  · blk_simp [idx19 t]
  · blk_simp [idx19 t]

end Cert.Kernel3Ideal.Ip

end
-- ==== Proof.IpRope.lean ====
/- The reference's rotation of a group of heads: split into heads, turned in two halves, and set side by side again. -/
module

public import proofs.«01_k».proof.Proof.Gen.Reference3Ideal.Read
public import proofs.«01_k».proof.Proof.IpSpec

@[expose] public section

set_option maxRecDepth 16384

noncomputable section

namespace Cert.IpRef

open Cert.Reference3Ideal Cert.Reference3Ideal.Gen
open Idealize.ShloMosaic Idealize.ShloMosaic.ValueIdx

/-- The heads of a group of columns. -/
def split (a : FVec Ideal S16x2048x512 .f32) : FVec Ideal S16x4x2048x128 .f32 :=
  transpose S16x4x2048x128 [0, 2, 1, 3] (shapeCast S16x2048x4x128 a shapeCasts_S16x2048x512_S16x2048x4x128)
    transposes_S16x2048x4x128_S16x4x2048x128_0_2_1_3

theorem split_apply (a : FVec Ideal S16x2048x512 .f32) (b : Fin 16) (k : Fin 4) (s : Fin 2048) (l : Fin 128) :
    split a (ix4 b k s l) = a (ix3 b s (⟨128 * k.val + l.val, by omega⟩ : Fin 512)) := by
  unfold split
  refine (transpose_apply [0, 2, 1, 3] _ _ (ix4 b k s l) (ix4 b s k l) (fun d => match d with
    | ⟨0, _⟩ => rfl | ⟨1, _⟩ => rfl | ⟨2, _⟩ => rfl | ⟨3, _⟩ => rfl)).trans (shapeCast_apply a _ _ _ ?_)
  rw [Shape.rowMajor_val_three, Shape.rowMajor_val_four]
  show (b.val * 2048 + s.val) * 512 + (128 * k.val + l.val) = ((b.val * 2048 + s.val) * 4 + k.val) * 128 + l.val
  omega

/-- The heads side by side. -/
def joined (h : FVec Ideal S16x4x2048x128 .f32) : FVec Ideal S16x2048x512 .f32 :=
  shapeCast S16x2048x512 (transpose S16x2048x4x128 [0, 2, 1, 3] h transposes_S16x4x2048x128_S16x2048x4x128_0_2_1_3)
    shapeCasts_S16x2048x4x128_S16x2048x512

theorem joined_apply (h : FVec Ideal S16x4x2048x128 .f32) (b : Fin 16) (s : Fin 2048) (j : Fin 512) :
    joined h (ix3 b s j) = h (ix4 b (⟨j.val / 128, by omega⟩ : Fin 4) s (⟨j.val % 128, by omega⟩ : Fin 128)) := by
  unfold joined
  refine (shapeCast_apply _ _ _ (ix4 b s (⟨j.val / 128, by omega⟩ : Fin 4) (⟨j.val % 128, by omega⟩ : Fin 128)) ?_).trans
    (transpose_apply [0, 2, 1, 3] h _ _ _ (fun d => match d with
      | ⟨0, _⟩ => rfl | ⟨1, _⟩ => rfl | ⟨2, _⟩ => rfl | ⟨3, _⟩ => rfl))
  rw [Shape.rowMajor_val_three, Shape.rowMajor_val_four]
  show ((b.val * 2048 + s.val) * 4 + j.val / 128) * 128 + j.val % 128 = (b.val * 2048 + s.val) * 512 + j.val
  omega

/-- A table of the positions, the same for every head. -/
def spread (t : FVec Ideal S2048x32 .f32) : FVec Ideal S16x4x2048x32 .f32 :=
  broadcastInDim S16x4x2048x32 ![0, 1, 2, 3] bcast_S1x1x2048x32_S16x4x2048x32_0_1_2_3
    (broadcastInDim S1x1x2048x32 ![2, 3] bcast_S2048x32_S1x1x2048x32_2_3 t)

theorem spread_apply (t : FVec Ideal S2048x32 .f32) (b : Fin 16) (k : Fin 4) (s : Fin 2048) (q : Fin 32) :
    spread t (ix4 b k s q) = t (ix2 s q) := by
  unfold spread
  refine (broadcastInDim_apply _ bcast_S1x1x2048x32_S16x4x2048x32_0_1_2_3 _ (ix4 b k s q) (ix4 (0 : Fin 1) (0 : Fin 1) s q)
    (fun a => match a with
      | ⟨0, _⟩ => rfl | ⟨1, _⟩ => rfl | ⟨2, _⟩ => rfl | ⟨3, _⟩ => rfl)).trans
    (broadcastInDim_apply _ bcast_S2048x32_S1x1x2048x32_2_3 t _ (ix2 s q) (fun a => match a with
      | ⟨0, _⟩ => rfl | ⟨1, _⟩ => rfl))

/-- One half of every head, turned by its angles. -/
def half (a : FVec Ideal S16x4x2048x64 .f32) (ang : FVec Ideal S2048x32 .f32) : FVec Ideal S16x4x2048x64 .f32 :=
  concatenate S16x4x2048x64 3
    [⟨S16x4x2048x32, subf
      (mulf (extractStridedSlice S16x4x2048x32 ![0, 0, 0, 0] a slices_S16x4x2048x64_S16x4x2048x32_0_0_0_0) (spread (Host.cos ang)))
      (mulf (extractStridedSlice S16x4x2048x32 ![0, 0, 0, 32] a slices_S16x4x2048x64_S16x4x2048x32_0_0_0_32) (spread (Host.sin ang)))⟩,
     ⟨S16x4x2048x32, addf
      (mulf (extractStridedSlice S16x4x2048x32 ![0, 0, 0, 0] a slices_S16x4x2048x64_S16x4x2048x32_0_0_0_0) (spread (Host.sin ang)))
      (mulf (extractStridedSlice S16x4x2048x32 ![0, 0, 0, 32] a slices_S16x4x2048x64_S16x4x2048x32_0_0_0_32) (spread (Host.cos ang)))⟩]
    concatenates_S16x4x2048x32_S16x4x2048x32_S16x4x2048x64_d3

section

variable (a : FVec Ideal S16x4x2048x64 .f32) (ang : FVec Ideal S2048x32 .f32) (b : Fin 16) (k : Fin 4) (s : Fin 2048) (q : Fin 32)

theorem low_apply : extractStridedSlice S16x4x2048x32 ![0, 0, 0, 0] a slices_S16x4x2048x64_S16x4x2048x32_0_0_0_0 (ix4 b k s q)
    = a (ix4 b k s (⟨q.val, by omega⟩ : Fin 64)) :=
  extractStridedSlice_apply _ _ _ _ _ fun d => match d with
    | ⟨0, _⟩ => (by show b.val = 0 + b.val; omega)
    | ⟨1, _⟩ => (by show k.val = 0 + k.val; omega)
    | ⟨2, _⟩ => (by show s.val = 0 + s.val; omega)
    | ⟨3, _⟩ => (by show q.val = 0 + q.val; omega)

theorem high_apply : extractStridedSlice S16x4x2048x32 ![0, 0, 0, 32] a slices_S16x4x2048x64_S16x4x2048x32_0_0_0_32 (ix4 b k s q)
    = a (ix4 b k s (⟨32 + q.val, by omega⟩ : Fin 64)) :=
  extractStridedSlice_apply _ _ _ _ _ fun d => match d with
    | ⟨0, _⟩ => (by show b.val = 0 + b.val; omega)
    | ⟨1, _⟩ => (by show k.val = 0 + k.val; omega)
    | ⟨2, _⟩ => (by show s.val = 0 + s.val; omega)
    | ⟨3, _⟩ => rfl

theorem half_low : half a ang (ix4 b k s (⟨q.val, by omega⟩ : Fin 64))
    = a (ix4 b k s (⟨q.val, by omega⟩ : Fin 64)) * IpSpec.cosE (ang (ix2 s q))
      - a (ix4 b k s (⟨32 + q.val, by omega⟩ : Fin 64)) * IpSpec.sinE (ang (ix2 s q)) := by
  unfold half
  refine (concatenate_pair_apply_left (t := S16x4x2048x64) (s₁ := S16x4x2048x32) (s₂ := S16x4x2048x32) 3 _ _ _ (ix4 b k s (⟨q.val, by omega⟩ : Fin 64)) rfl (ix4 b k s q)
    (fun d => match d with | ⟨0, _⟩ => rfl | ⟨1, _⟩ => rfl | ⟨2, _⟩ => rfl | ⟨3, _⟩ => rfl)).trans ?_
  rw [subf_apply, mulf_apply, mulf_apply, low_apply, high_apply, spread_apply, spread_apply]
  rfl

theorem half_high : half a ang (ix4 b k s (⟨32 + q.val, by omega⟩ : Fin 64))
    = a (ix4 b k s (⟨q.val, by omega⟩ : Fin 64)) * IpSpec.sinE (ang (ix2 s q))
      + a (ix4 b k s (⟨32 + q.val, by omega⟩ : Fin 64)) * IpSpec.cosE (ang (ix2 s q)) := by
  unfold half
  refine (concatenate_pair_apply_right (t := S16x4x2048x64) (s₁ := S16x4x2048x32) (s₂ := S16x4x2048x32) 3 _ _ _ (ix4 b k s (⟨32 + q.val, by omega⟩ : Fin 64)) rfl rfl (ix4 b k s q)
    (fun d hd => match d with | ⟨0, _⟩ => rfl | ⟨1, _⟩ => rfl | ⟨2, _⟩ => rfl | ⟨3, _⟩ => absurd rfl hd)
    (by exact Nat.add_comm q.val 32)).trans ?_
  rw [addf_apply, mulf_apply, mulf_apply, low_apply, high_apply, spread_apply, spread_apply]
  rfl

end

/-- Every head turned. -/
def rope (h : FVec Ideal S16x4x2048x128 .f32) (rows cols : FVec Ideal S2048x32 .f32) : FVec Ideal S16x4x2048x128 .f32 :=
  concatenate S16x4x2048x128 3
    [⟨S16x4x2048x64, half (extractStridedSlice S16x4x2048x64 ![0, 0, 0, 0] h slices_S16x4x2048x128_S16x4x2048x64_0_0_0_0) rows⟩,
     ⟨S16x4x2048x64, half (extractStridedSlice S16x4x2048x64 ![0, 0, 0, 64] h slices_S16x4x2048x128_S16x4x2048x64_0_0_0_64) cols⟩]
    concatenates_S16x4x2048x64_S16x4x2048x64_S16x4x2048x128_d3

section

variable (h : FVec Ideal S16x4x2048x128 .f32) (rows cols : FVec Ideal S2048x32 .f32) (b : Fin 16) (k : Fin 4) (s : Fin 2048)

theorem first_apply (q : Fin 64) :
    extractStridedSlice S16x4x2048x64 ![0, 0, 0, 0] h slices_S16x4x2048x128_S16x4x2048x64_0_0_0_0 (ix4 b k s q)
      = h (ix4 b k s (⟨q.val, by omega⟩ : Fin 128)) :=
  extractStridedSlice_apply _ _ _ _ _ fun d => match d with
    | ⟨0, _⟩ => (by show b.val = 0 + b.val; omega)
    | ⟨1, _⟩ => (by show k.val = 0 + k.val; omega)
    | ⟨2, _⟩ => (by show s.val = 0 + s.val; omega)
    | ⟨3, _⟩ => (by show q.val = 0 + q.val; omega)

theorem second_apply (q : Fin 64) :
    extractStridedSlice S16x4x2048x64 ![0, 0, 0, 64] h slices_S16x4x2048x128_S16x4x2048x64_0_0_0_64 (ix4 b k s q)
      = h (ix4 b k s (⟨64 + q.val, by omega⟩ : Fin 128)) :=
  extractStridedSlice_apply _ _ _ _ _ fun d => match d with
    | ⟨0, _⟩ => (by show b.val = 0 + b.val; omega)
    | ⟨1, _⟩ => (by show k.val = 0 + k.val; omega)
    | ⟨2, _⟩ => (by show s.val = 0 + s.val; omega)
    | ⟨3, _⟩ => rfl

theorem rope_left (q : Fin 64) : rope h rows cols (ix4 b k s (⟨q.val, by omega⟩ : Fin 128))
    = half (extractStridedSlice S16x4x2048x64 ![0, 0, 0, 0] h slices_S16x4x2048x128_S16x4x2048x64_0_0_0_0) rows (ix4 b k s q) := by
  unfold rope
  exact concatenate_pair_apply_left (t := S16x4x2048x128) (s₁ := S16x4x2048x64) (s₂ := S16x4x2048x64) 3 _ _ _ (ix4 b k s (⟨q.val, by omega⟩ : Fin 128)) rfl (ix4 b k s q)
    (fun d => match d with | ⟨0, _⟩ => rfl | ⟨1, _⟩ => rfl | ⟨2, _⟩ => rfl | ⟨3, _⟩ => rfl)

theorem rope_right (q : Fin 64) : rope h rows cols (ix4 b k s (⟨64 + q.val, by omega⟩ : Fin 128))
    = half (extractStridedSlice S16x4x2048x64 ![0, 0, 0, 64] h slices_S16x4x2048x128_S16x4x2048x64_0_0_0_64) cols (ix4 b k s q) := by
  unfold rope
  exact concatenate_pair_apply_right (t := S16x4x2048x128) (s₁ := S16x4x2048x64) (s₂ := S16x4x2048x64) 3 _ _ _ (ix4 b k s (⟨64 + q.val, by omega⟩ : Fin 128)) rfl rfl (ix4 b k s q)
    (fun d hd => match d with | ⟨0, _⟩ => rfl | ⟨1, _⟩ => rfl | ⟨2, _⟩ => rfl | ⟨3, _⟩ => absurd rfl hd)
    (by exact Nat.add_comm q.val 64)

/-- The angles at a position. -/
abbrev anglesAt : Fin 2 → OmSpec.Row 32 := fun a q => if a = 0 then rows (ix2 s q) else cols (ix2 s q)

theorem rope_apply (l : Fin 128) :
    rope h rows cols (ix4 b k s l) = IpSpec.turned (fun q => h (ix4 b k s q)) (anglesAt rows cols s) l := by
  have hl := l.isLt
  unfold IpSpec.turned
  by_cases h0 : l.val < 64
  · have ha : ∀ q, anglesAt rows cols s (⟨l.val / 64, by omega⟩ : Fin 2) q = rows (ix2 s q) := fun q =>
      if_pos (Fin.ext (by show l.val / 64 = 0; omega))
    by_cases h1 : l.val % 64 < 32
    · rw [dif_pos h1, ha]
      refine (rope_left h rows cols b k s ⟨l.val, h0⟩).trans ((half_low _ rows b k s ⟨l.val, by omega⟩).trans ?_)
      rw [first_apply, first_apply]
      rw [show (⟨32 + l.val, by omega⟩ : Fin 128) = ⟨l.val + 32, by omega⟩ from Fin.ext (Nat.add_comm _ _),
        show (⟨l.val % 32, by omega⟩ : Fin 32) = ⟨l.val, by omega⟩ from Fin.ext (by show l.val % 32 = l.val; omega)]
    · rw [dif_neg h1, ha]
      have e : (⟨l.val, h0⟩ : Fin 64) = ⟨32 + (l.val - 32), by omega⟩ := Fin.ext (by show l.val = 32 + (l.val - 32); omega)
      refine (rope_left h rows cols b k s ⟨l.val, h0⟩).trans ?_
      rw [e]
      refine (half_high _ rows b k s ⟨l.val - 32, by omega⟩).trans ?_
      rw [first_apply, first_apply]
      rw [show (⟨32 + (l.val - 32), by omega⟩ : Fin 128) = l from Fin.ext (by show 32 + (l.val - 32) = l.val; omega),
        show (⟨l.val % 32, by omega⟩ : Fin 32) = ⟨l.val - 32, by omega⟩ from Fin.ext (by show l.val % 32 = l.val - 32; omega)]
  · have ha : ∀ q, anglesAt rows cols s (⟨l.val / 64, by omega⟩ : Fin 2) q = cols (ix2 s q) := fun q =>
      if_neg fun e => absurd (congrArg Fin.val e) (by show ¬ l.val / 64 = 0; omega)
    have e0 : l = (⟨64 + (l.val - 64), by omega⟩ : Fin 128) := Fin.ext (by show l.val = 64 + (l.val - 64); omega)
    have step : rope h rows cols (ix4 b k s l) = _ :=
      (congrArg (fun z => rope h rows cols (ix4 b k s z)) e0).trans (rope_right h rows cols b k s ⟨l.val - 64, by omega⟩)
    by_cases h1 : l.val % 64 < 32
    · rw [dif_pos h1, ha]
      refine step.trans ((half_low _ cols b k s ⟨l.val - 64, by omega⟩).trans ?_)
      rw [second_apply, second_apply]
      rw [show (⟨64 + (l.val - 64), by omega⟩ : Fin 128) = l from e0.symm,
        show (⟨64 + (32 + (l.val - 64)), by omega⟩ : Fin 128) = ⟨l.val + 32, by omega⟩
          from Fin.ext (by show 64 + (32 + (l.val - 64)) = l.val + 32; omega),
        show (⟨l.val % 32, by omega⟩ : Fin 32) = ⟨l.val - 64, by omega⟩ from Fin.ext (by show l.val % 32 = l.val - 64; omega)]
    · rw [dif_neg h1, ha]
      have e : (⟨l.val - 64, by omega⟩ : Fin 64) = ⟨32 + (l.val - 96), by omega⟩ :=
        Fin.ext (by show l.val - 64 = 32 + (l.val - 96); omega)
      refine step.trans ?_
      rw [e]
      refine (half_high _ cols b k s ⟨l.val - 96, by omega⟩).trans ?_
      rw [second_apply, second_apply]
      rw [show (⟨64 + (32 + (l.val - 96)), by omega⟩ : Fin 128) = l from Fin.ext (by show 64 + (32 + (l.val - 96)) = l.val; omega),
        show (⟨64 + (l.val - 96), by omega⟩ : Fin 128) = ⟨l.val - 32, by omega⟩ from Fin.ext (by show 64 + (l.val - 96) = l.val - 32; omega),
        show (⟨l.val % 32, by omega⟩ : Fin 32) = ⟨l.val - 96, by omega⟩ from Fin.ext (by show l.val % 32 = l.val - 96; omega)]

end

/-- A group of columns with its heads turned. -/
theorem turned_apply (a : FVec Ideal S16x2048x512 .f32) (rows cols : FVec Ideal S2048x32 .f32) (b : Fin 16) (s : Fin 2048) (j : Fin 512) :
    joined (rope (split a) rows cols) (ix3 b s j)
      = IpSpec.turned (fun i => a (ix3 b s (⟨128 * (j.val / 128) + i.val, by omega⟩ : Fin 512))) (anglesAt rows cols s)
          ⟨j.val % 128, by omega⟩ := by
  rw [joined_apply, rope_apply]
  exact congrArg (fun f => IpSpec.turned f (anglesAt rows cols s) ⟨j.val % 128, by omega⟩) (funext fun q => split_apply a b _ s q)

/-- Seven groups side by side. -/
theorem seven_apply (xs : Fin 7 → FVec Ideal S16x2048x512 .f32) (b : Fin 16) (s : Fin 2048) (j : Fin 512) : ∀ g : Fin 7,
    concatenate S16x2048x3584 2 [⟨S16x2048x512, xs 0⟩, ⟨S16x2048x512, xs 1⟩, ⟨S16x2048x512, xs 2⟩, ⟨S16x2048x512, xs 3⟩,
        ⟨S16x2048x512, xs 4⟩, ⟨S16x2048x512, xs 5⟩, ⟨S16x2048x512, xs 6⟩]
        concatenates_S16x2048x512_S16x2048x512_S16x2048x512_S16x2048x512_S16x2048x512_S16x2048x512_S16x2048x512_S16x2048x3584_d2
        (ix3 b s (⟨512 * g.val + j.val, by omega⟩ : Fin 3584)) = xs g (ix3 b s j) := by
  intro g
  have hg := g.isLt
  refine concatenate_apply_piece (t := S16x2048x3584) 2 [(⟨S16x2048x512, xs 0⟩ : (s : Shape) × (s.Idx → EReal)), ⟨S16x2048x512, xs 1⟩,
    ⟨S16x2048x512, xs 2⟩, ⟨S16x2048x512, xs 3⟩, ⟨S16x2048x512, xs 4⟩, ⟨S16x2048x512, xs 5⟩, ⟨S16x2048x512, xs 6⟩] _ _ g.val hg
    S16x2048x512 (xs g) ?_ rfl (512 * g.val) ?_ _
    (fun d hd => match d with | ⟨0, _⟩ => rfl | ⟨1, _⟩ => rfl | ⟨2, _⟩ => absurd rfl hd) rfl
  · match g with
    | 0 => rfl
    | 1 => rfl
    | 2 => rfl
    | 3 => rfl
    | 4 => rfl
    | 5 => rfl
    | 6 => rfl
  · match g with
    | 0 => rfl
    | 1 => rfl
    | 2 => rfl
    | 3 => rfl
    | 4 => rfl
    | 5 => rfl
    | 6 => rfl

end Cert.IpRef

end
-- ==== Proof.IpRef.lean ====
/- The reference's projections of the latent tokens, index by index. -/
module

public import proofs.«01_k».proof.Proof.IpRope
public import proofs.«01_k».proof.Proof.OmRef

@[expose] public section

set_option maxRecDepth 16384

noncomputable section

namespace Cert.IpRef

open Cert.Reference3Ideal Cert.Reference3Ideal.Gen Cert.Reference3Ideal.Read
open Idealize.ShloMosaic
open Idealize.ShloMosaic.ValueIdx
open Cert.OmRef (zero_f32 ix3_ext ix2_ext ix1_ext normed_of)
open scoped BigOperators

variable (x0 : FVec Ideal S16x2048x1024 .f32) (x1 : FVec Ideal S16x6144 .f32) (x2 : FVec Ideal S1024 .f32)
  (x3 : FVec Ideal S1024x3584 .f32) (x4 : FVec Ideal S512 .f32)

/-! ### The projection's input -/

theorem mod_apply (b : Fin 16) (k : Nat) (hk : k < 6144) (i : S16x1x6144.Idx) (h0 : (i 0).val = b.val) (h2 : (i 2).val = k) :
    val_main_v0 (F := Ideal) x1 i = x1 (ix2 b (⟨k, hk⟩ : Fin 6144)) :=
  (val_main_v0_apply (F := Ideal) x1 i).trans
    (congrArg (x1 : S16x6144.Idx → EReal) (ix2_ext (idx_main_v0 i) (ix2 b (⟨k, hk⟩ : Fin 6144)) h0 h2))

theorem shift (b : Fin 16) (s : Fin 2048) (l : Fin 1024) :
    val_main_v24 (F := Ideal) x1 (ix3 b s l) = OmSpec.modRow x1 0 b l := by
  rw [val_main_v24_apply, val_main_v1_apply]
  refine mod_apply x1 b _ (by omega) _ rfl ?_
  show l.val = 1024 * 0 + l.val
  omega

theorem scale (b : Fin 16) (s : Fin 2048) (l : Fin 1024) :
    val_main_v22 (F := Ideal) x1 (ix3 b s l) = OmSpec.one + OmSpec.modRow x1 1 b l := by
  rw [val_main_v22_apply, val_main_v21_apply, val_main_v2_apply, val_main_v20_apply]
  refine congrArg (fun z : EReal => OmSpec.one + z) ?_
  exact mod_apply x1 b _ (by omega) _ rfl rfl

theorem gain (b : Fin 16) (s : Fin 2048) (l : Fin 1024) : val_main_v18 (F := Ideal) x2 (ix3 b s l) = OmSpec.gainRow x2 l := by
  rw [val_main_v18_apply, val_main_v17_apply]
  exact congrArg x2 (ix1_ext _ (ix1 l) rfl)

theorem squares (b : Fin 16) (s : Fin 2048) :
    val_main_v8 (F := Ideal) x0 (ix2 b s) = ∑ k, OmSpec.tokenRow x0 b s k * OmSpec.tokenRow x0 b s k := by
  rw [val_main_v8_apply, val_main_cst_apply]
  refine (congrArg (fun z : EReal => z + _) zero_f32).trans ((zero_add _).trans (Finset.sum_congr rfl fun k _ => ?_))
  rw [show idx_main_v8 (ix2 b s) k = ix3 b s k from ix3_ext _ (ix3 b s k) rfl rfl rfl, val_main_v7_apply]
  rfl

theorem norm (b : Fin 16) (s : Fin 2048) (l : Fin 1024) :
    val_main_v16 (F := Ideal) x0 (ix3 b s l) = OmSpec.normed (OmSpec.tokenRow x0 b s) l := by
  rw [val_main_v16_apply, val_main_v15_apply, val_main_v14_apply, val_main_v13_apply, val_main_v11_apply,
    val_main_v10_apply, val_main_v12_apply, val_main_v9_apply]
  rw [show idx_main_v9 (idx_main_v15 (ix3 b s l)) = ix2 b s from ix2_ext _ (ix2 b s) rfl rfl]
  exact normed_of _ _ (squares x0 b s) l

abbrev innerRow (b : Fin 16) (s : Fin 2048) : OmSpec.Row 1024 :=
  OmSpec.inner (OmSpec.tokenRow x0 b s) (fun k => OmSpec.gainRow x2 k * (OmSpec.one + OmSpec.modRow x1 1 b k)) (OmSpec.modRow x1 0 b)

theorem inner_apply (b : Fin 16) (s : Fin 2048) (l : Fin 1024) :
    val_main_v25 (F := Ideal) x0 x1 x2 (ix3 b s l) = innerRow x0 x1 x2 b s l := by
  rw [val_main_v25_apply, val_main_v23_apply, val_main_v19_apply, norm, gain, scale, shift]
  exact congrArg (fun z : EReal => z + OmSpec.modRow x1 0 b l) (mul_assoc _ _ _)

/-! ### The projection and its groups -/

theorem proj_apply (b : Fin 16) (s : Fin 2048) (g : Fin 7) (j : Fin 512) (i : S16x2048x3584.Idx) (h0 : (i 0).val = b.val)
    (h1 : (i 1).val = s.val) (h2 : (i 2).val = 512 * g.val + j.val) :
    val_main_v26 (F := Ideal) x0 x1 x2 x3 i = IpSpec.proj (innerRow x0 x1 x2 b s) (OmSpec.matrix x3) g j := by
  rw [val_main_v26_apply]
  refine Finset.sum_congr rfl fun k _ => ?_
  rw [show lidx_main_v26 i k = ix3 b s k from ix3_ext _ (ix3 b s k) h0 h1 rfl, inner_apply]
  exact congrArg (fun z : EReal => innerRow x0 x1 x2 b s k * z)
    (congrArg x3 (ix2_ext (ridx_main_v26 i k) (ix2 k (⟨512 * g.val + j.val, by omega⟩ : Fin 3584)) rfl h2))

variable (b : Fin 16) (s : Fin 2048) (j : Fin 512)

abbrev groupRow : Fin 7 → OmSpec.Row 512 := IpSpec.proj (innerRow x0 x1 x2 b s) (OmSpec.matrix x3)

theorem group0 : val_main_v27 (F := Ideal) x0 x1 x2 x3 (ix3 b s j) = groupRow x0 x1 x2 x3 b s 0 j := by
  rw [val_main_v27_apply]
  exact proj_apply x0 x1 x2 x3 b s 0 j _ rfl rfl (by show j.val = 512 * 0 + j.val; omega)
theorem group1 : val_main_v28 (F := Ideal) x0 x1 x2 x3 (ix3 b s j) = groupRow x0 x1 x2 x3 b s 1 j := by
  rw [val_main_v28_apply]
  exact proj_apply x0 x1 x2 x3 b s 1 j _ rfl rfl rfl
theorem group2 : val_main_v29 (F := Ideal) x0 x1 x2 x3 (ix3 b s j) = groupRow x0 x1 x2 x3 b s 2 j := by
  rw [val_main_v29_apply]
  exact proj_apply x0 x1 x2 x3 b s 2 j _ rfl rfl rfl
theorem group3 : val_main_v30 (F := Ideal) x0 x1 x2 x3 (ix3 b s j) = groupRow x0 x1 x2 x3 b s 3 j := by
  rw [val_main_v30_apply]
  exact proj_apply x0 x1 x2 x3 b s 3 j _ rfl rfl rfl
theorem group4 : val_main_v31 (F := Ideal) x0 x1 x2 x3 (ix3 b s j) = groupRow x0 x1 x2 x3 b s 4 j := by
  rw [val_main_v31_apply]
  exact proj_apply x0 x1 x2 x3 b s 4 j _ rfl rfl rfl
theorem group5 : val_main_v32 (F := Ideal) x0 x1 x2 x3 (ix3 b s j) = groupRow x0 x1 x2 x3 b s 5 j := by
  rw [val_main_v32_apply]
  exact proj_apply x0 x1 x2 x3 b s 5 j _ rfl rfl rfl
theorem group6 : val_main_v33 (F := Ideal) x0 x1 x2 x3 (ix3 b s j) = groupRow x0 x1 x2 x3 b s 6 j := by
  rw [val_main_v33_apply]
  exact proj_apply x0 x1 x2 x3 b s 6 j _ rfl rfl rfl

/-! ### The gate and the scaled queries -/

theorem one_f32 : Ideal.ofBits .f32 0x3F800000#32 = (1 : EReal) := by
  have h : Ideal.ofBits .f32 0x3F800000#32 = ((1 : ℝ) : EReal) := by
    simp [Ideal.ofBits, Ideal.ieee, -EReal.coe_mul]; norm_num
  rw [h, EReal.coe_one]

theorem gated : val_main_v164 (F := Ideal) x0 x1 x2 x3 x4 (ix3 b s j) = IpSpec.gate (x4 (ix1 j)) (groupRow x0 x1 x2 x3 b s 3 j) := by
  rw [val_main_v164_apply, val_main_v163_apply, val_main_v162_apply, val_main_v161_apply, val_main_call2_v5_apply, val_main_call2_v4_apply,
    val_main_call2_v3_apply, val_main_call2_v2_apply, val_main_call2_v1_apply, val_main_call2_v0_apply, group3]
  rw [show idx_main_v162 (idx_main_v163 (ix3 b s j)) = ix1 j from ix1_ext _ (ix1 j) rfl]
  unfold IpSpec.gate Ideal.logistic
  show x4 (ix1 j) * (groupRow x0 x1 x2 x3 b s 3 j * Ideal.div (Ideal.ofBits .f32 0x3F800000#32)
    (Ideal.ofBits .f32 0x3F800000#32 + Ideal.exp (-groupRow x0 x1 x2 x3 b s 3 j))) = _
  rw [one_f32]

theorem log_two : Ideal.log (Ideal.ofBits .f32 0x40000000#32) = ((Real.log 2 : ℝ) : EReal) := by
  have h2 : Ideal.ofBits .f32 0x40000000#32 = ((2 : ℝ) : EReal) := by
    simp [Ideal.ofBits, Ideal.ieee, -EReal.coe_mul]; norm_num
  rw [h2]
  show (if (2:ℝ) ≤ 0 then (⊥ : EReal) else (Real.log 2 : ℝ)) = _
  rw [if_neg (by norm_num)]

theorem eighth : Ideal.ofBits .f32 0x3E000000#32 = ((1/8 : ℝ) : EReal) := by
  simp [Ideal.ofBits, Ideal.ieee, -EReal.coe_mul]; norm_num

theorem scaled : val_main_v169 (F := Ideal) x0 x1 x2 x3 (ix3 b s j) = IpSpec.scaled (groupRow x0 x1 x2 x3 b s 4 j) := by
  rw [val_main_v169_apply, val_main_v168_apply, val_main_v167_apply, val_main_v166_apply, val_main_v165_apply, group4]
  unfold IpSpec.scaled
  show Ideal.div (groupRow x0 x1 x2 x3 b s 4 j * Ideal.ofBits .f32 0x3E000000#32) (Ideal.log (Ideal.ofBits .f32 0x40000000#32)) = _
  have hl : (0:ℝ) < Real.log 2 := Real.log_pos one_lt_two
  rw [log_two, eighth]
  unfold Ideal.div
  rw [if_neg (by exact_mod_cast hl.ne'), ← EReal.coe_inv, mul_assoc, ← EReal.coe_mul]

/-! ### The rotated groups -/

abbrev rows : FVec Ideal S2048x32 .f32 := val_main_v52 (F := Ideal)
abbrev cols : FVec Ideal S2048x32 .f32 := val_main_v77 (F := Ideal)

theorem first_eq : val_main_v99 (F := Ideal) x0 x1 x2 x3 = joined (rope (split (val_main_v27 (F := Ideal) x0 x1 x2 x3)) rows cols) := rfl

theorem rows_eq : val_main_v113 (F := Ideal) = rows := rfl
theorem cols_eq : val_main_v138 (F := Ideal) = cols := rfl

theorem second_eq : val_main_v160 (F := Ideal) x0 x1 x2 x3 = joined (rope (split (val_main_v28 (F := Ideal) x0 x1 x2 x3))
    (val_main_v113 (F := Ideal)) (val_main_v138 (F := Ideal))) := rfl

theorem turned0 : val_main_v99 (F := Ideal) x0 x1 x2 x3 (ix3 b s j)
    = IpSpec.turned (fun i => groupRow x0 x1 x2 x3 b s 0 ⟨128 * (j.val / 128) + i.val, by omega⟩) (anglesAt rows cols s) ⟨j.val % 128, by omega⟩ := by
  rw [first_eq, turned_apply]
  exact congrArg (fun f => IpSpec.turned f (anglesAt rows cols s) ⟨j.val % 128, by omega⟩) (funext fun i => group0 x0 x1 x2 x3 b s _)

theorem turned1 : val_main_v160 (F := Ideal) x0 x1 x2 x3 (ix3 b s j)
    = IpSpec.turned (fun i => groupRow x0 x1 x2 x3 b s 1 ⟨128 * (j.val / 128) + i.val, by omega⟩) (anglesAt rows cols s) ⟨j.val % 128, by omega⟩ := by
  rw [second_eq, rows_eq, cols_eq, turned_apply]
  exact congrArg (fun f => IpSpec.turned f (anglesAt rows cols s) ⟨j.val % 128, by omega⟩) (funext fun i => group1 x0 x1 x2 x3 b s _)

/-! ### The result -/

/-- The seven groups as the reference joins them. -/
abbrev parts : Fin 7 → FVec Ideal S16x2048x512 .f32 :=
  ![val_main_v99 (F := Ideal) x0 x1 x2 x3, val_main_v160 (F := Ideal) x0 x1 x2 x3, val_main_v29 (F := Ideal) x0 x1 x2 x3,
    val_main_v164 (F := Ideal) x0 x1 x2 x3 x4, val_main_v169 (F := Ideal) x0 x1 x2 x3, val_main_v32 (F := Ideal) x0 x1 x2 x3,
    val_main_v33 (F := Ideal) x0 x1 x2 x3]

theorem parts_apply : ∀ g : Fin 7, parts x0 x1 x2 x3 x4 g (ix3 b s j) = IpSpec.result x0 x1 x2 x3 x4 rows cols b s g j
  | 0 => turned0 x0 x1 x2 x3 b s j
  | 1 => turned1 x0 x1 x2 x3 b s j
  | 2 => group2 x0 x1 x2 x3 b s j
  | 3 => gated x0 x1 x2 x3 x4 b s j
  | 4 => scaled x0 x1 x2 x3 b s j
  | 5 => group5 x0 x1 x2 x3 b s j
  | 6 => group6 x0 x1 x2 x3 b s j

theorem joined_groups (g : Fin 7) :
    val_main_v170 (F := Ideal) x0 x1 x2 x3 x4 (ix3 b s (⟨512 * g.val + j.val, by omega⟩ : Fin 3584))
      = IpSpec.result x0 x1 x2 x3 x4 rows cols b s g j := by
  unfold val_main_v170
  exact (seven_apply (parts x0 x1 x2 x3 x4) b s j g).trans (parts_apply x0 x1 x2 x3 x4 b s j g)

theorem result_apply (y : S32768x3584.Idx) :
    val_main_v172 (F := Ideal) x0 x1 x2 x3 x4 y
      = IpSpec.result x0 x1 x2 x3 x4 rows cols (⟨(y 0).val / 2048, by have h : (y 0).val < 32768 := (y 0).isLt; omega⟩ : Fin 16)
          (⟨(y 0).val % 2048, by omega⟩ : Fin 2048) (⟨(y 1).val / 512, by have h : (y 1).val < 3584 := (y 1).isLt; omega⟩ : Fin 7)
          (⟨(y 1).val % 512, by omega⟩ : Fin 512) := by
  refine Eq.trans ?_ (joined_groups x0 x1 x2 x3 x4 _ _ _ _)
  rw [val_main_v172_apply, val_main_v171_apply]
  have h0 : (y 0).val < 32768 := (y 0).isLt
  have h1 : (y 1).val < 3584 := (y 1).isLt
  refine congrArg (val_main_v170 (F := Ideal) x0 x1 x2 x3 x4) (ix3_ext (idx_main_v171 y)
    (ix3 (⟨(y 0).val / 2048, by omega⟩ : Fin 16) (⟨(y 0).val % 2048, by omega⟩ : Fin 2048)
      (⟨512 * ((y 1).val / 512) + (y 1).val % 512, by omega⟩ : Fin 3584)) ?_ ?_ ?_)
  · show ((y 0).val * 3584 + (y 1).val) / 7340032 = (y 0).val / 2048; omega
  · show ((y 0).val * 3584 + (y 1).val) / 3584 % 2048 = (y 0).val % 2048; omega
  · show ((y 0).val * 3584 + (y 1).val) % 3584 = 512 * ((y 1).val / 512) + (y 1).val % 512; omega

end Cert.IpRef

end
-- ==== Proof.IpClaim.lean ====
/- The claims about the latent tokens' projections. -/
module

public import proofs.«01_k».proof.Defs
public import proofs.«01_k».proof.Proof.IpArray
public import proofs.«01_k».proof.Proof.IpRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run

@[expose] public section

set_option maxRecDepth 16384

noncomputable section

namespace Cert.IpClaim

open Idealize.ShloMosaic Idealize.SL.Sem

theorem frame : Cert.quiescent_Kernel3 (hKernel3 := Cert.Kernel3.Gen.facts) := fun m ρ _ => Cert.Kernel3.Gen.frame m ρ

theorem frameIdeal : Cert.quiescent_Kernel3Ideal (hKernel3Ideal := Cert.Kernel3Ideal.Gen.facts) := fun m ρ _ =>
  Cert.Kernel3Ideal.Gen.frame m ρ

theorem frameReference : Cert.quiescent_Reference3Ideal (hReference3Ideal := Cert.Reference3Ideal.Gen.facts) := fun m ρ _ =>
  (θ_run Cert.Reference3Ideal.defs _ _).mono
    (fun r h => ⟨fun c => (h c).2.2.2.2, Idealize.ShloMosaic.sem_eq_zero_of_no_sems (by decide) r.2⟩)
    (Cert.Reference3Ideal.Value.run (F := Ideal) m ρ)

theorem preserves : Cert.preserves_Kernel3_Kernel3Ideal :=
  IdealRules.named_const.statement Cert.Kernel3Ideal.κ "q_scale" .f32 0x3E38AA3B#32 _ rfl

theorem value (m : (ℓ : Loc Cert.Kernel3Ideal.nD Cert.Kernel3Ideal.τ Cert.Kernel3Ideal.sig) → Buf (Elt Ideal) ℓ) (c : Dev Cert.Kernel3Ideal.nD)
    {x0 : FVec Ideal Cert.Reference3Ideal.S16x2048x1024 .f32} {x1 : FVec Ideal Cert.Reference3Ideal.S16x6144 .f32}
    {x2 : FVec Ideal Cert.Reference3Ideal.S1024 .f32} {x3 : FVec Ideal Cert.Reference3Ideal.S1024x3584 .f32}
    {x4 : FVec Ideal Cert.Reference3Ideal.S512 .f32}
    (h0 : x0 = Cert.Kernel3Ideal.Ip.argX m c) (h1 : x1 = Cert.Kernel3Ideal.Ip.argMods m c) (h2 : x2 = Cert.Kernel3Ideal.Ip.argGm m c)
    (h3 : x3 = Cert.Kernel3Ideal.Ip.argW m c) (h4 : x4 = Cert.Kernel3Ideal.Ip.argGn m c) :
    Cert.Reference3Ideal.Read.val_main_v172 (F := Ideal) x0 x1 x2 x3 x4 = Cert.Kernel3Ideal.Ip.G m c := by
  rw [h0, h1, h2, h3, h4]
  funext y
  exact IpRef.result_apply _ _ _ _ _ y

theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Ip.G m c, fun c => Cert.Kernel3Ideal.Ip.weight5 m c, fun c => Cert.Kernel3Ideal.Ip.weight6 m c,
    fun c => Cert.Kernel3Ideal.Ip.weight7 m c, ?_, ?_⟩
  · exact (θ_run Cert.Kernel3Ideal.defs _ _).mono (fun _ h c => ⟨(h c).1.trans (Cert.Kernel3Ideal.Ip.final16 m c),
        (h c).2.1.trans (Cert.Kernel3Ideal.Ip.final17 m c), (h c).2.2.1.trans (Cert.Kernel3Ideal.Ip.final18 m c),
        (h c).2.2.2.1.trans (Cert.Kernel3Ideal.Ip.final19 m c), (h c).2.2.2.2⟩)
      (Cert.Kernel3Ideal.Value.run_blocks (F := Ideal) m ρ)
  · refine (θ_run Cert.Reference3Ideal.defs _ _).mono (fun _ h c => ⟨(h c).1.trans ?_, (h c).2.1.trans ?_, (h c).2.2.1.trans ?_,
        (h c).2.2.2.1.trans ?_, (h c).2.2.2.2⟩)
      (Cert.Reference3Ideal.Value.run (F := Ideal) m' ρ')
    · rw [Cert.Reference3Ideal.Read.val_main_v172_eq]
      exact value m c (hagree c).1 (hagree c).2.1 (hagree c).2.2.1 (hagree c).2.2.2.1 (hagree c).2.2.2.2.1
    · funext y
      exact congrFun (hagree c).2.2.2.2.2.1 y
    · funext y
      exact congrFun (hagree c).2.2.2.2.2.2.1 y
    · funext y
      exact congrFun (hagree c).2.2.2.2.2.2.2 y

end Cert.IpClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.NaClaim
public import proofs.«01_k».proof.Proof.OmClaim
public import proofs.«01_k».proof.Proof.IcClaim
public import proofs.«01_k».proof.Proof.IpClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.NaClaim.preFacts,
    Cert.NaClaim.frame, Cert.NaClaim.frameIdeal, fun m ρ _ => Cert.NaClaim.frameIdeal m ρ trivial,
    Cert.NaClaim.frameReference, fun m ρ _ => Cert.NaClaim.frameReference m ρ trivial,
    Cert.OmClaim.frame, Cert.OmClaim.frameIdeal, Cert.OmClaim.frameReference,
    Cert.IpClaim.frame, Cert.IpClaim.frameIdeal, Cert.IpClaim.frameReference,
    Cert.IcClaim.frame, Cert.IcClaim.frameIdeal, Cert.IcClaim.frameReference,
    trivial, Cert.NaClaim.algebraic, trivial, Cert.OmClaim.algebraic, Cert.IpClaim.preserves, Cert.IpClaim.algebraic,
    trivial, Cert.IcClaim.algebraic⟩

end Cert.Proof

end
